-- ==== Defs.lean ====
def Pre_Kernel [hPre_well_formed : Cert.Pre_well_formed.Facts] (m : (ℓ : Loc Cert.Kernel.nD Cert.Kernel.τ Cert.Kernel.sig) → Buf (Elt Bits) ℓ) : Prop :=
  ∀ c : Dev Cert.Kernel.nD,
    (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_well_formed : Cert.Pre_well_formed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_well_formed : Cert.Pre_well_formed.Facts),
    quiescent_Kernel (hKernel := hKernel) (hPre_well_formed := hPre_well_formed)
    ∧ quiescent_KernelIdeal (hKernelIdeal := hKernelIdeal) (hPre_well_formed := hPre_well_formed)
    ∧ quiescent_ReferenceIdeal (hReferenceIdeal := hReferenceIdeal) (hPre_well_formed := hPre_well_formed)
    ∧ preserves_Kernel_KernelIdeal
    ∧ algebraic_KernelIdeal_ReferenceIdeal (hKernelIdeal := hKernelIdeal) (hReferenceIdeal := hReferenceIdeal) (hPre_well_formed := hPre_well_formed)
-- ==== Pre_well_formed.lean ====
abbrev S1x128x4096 : Shape := ⟨3, ![1, 128, 4096]⟩
abbrev S512x14336 : Shape := ⟨2, ![512, 14336]⟩
abbrev S32x14336 : Shape := ⟨2, ![32, 14336]⟩
abbrev S900x4096 : Shape := ⟨2, ![900, 4096]⟩
abbrev S900x14336 : Shape := ⟨2, ![900, 14336]⟩
abbrev S11 : Shape := ⟨1, ![11]⟩
abbrev S7 : Shape := ⟨1, ![7]⟩
abbrev S6 : Shape := ⟨1, ![6]⟩
abbrev S6x1 : Shape := ⟨2, ![6, 1]⟩
abbrev S_ : Shape := ⟨0, ![]⟩

class Facts : Prop where
  bcast_S6_S6x1_0 : S6.BroadcastsInDim S6x1 (![0] : Fin 1 → Fin S6x1.rank)
  bcast_S_S6 : S_.BroadcastsInDim S6 (![] : Fin 0 → Fin S6.rank)
  reducesTo_S6_S_d0 : S6.ReducesTo [0] S_
  h_S_ : 0 < S_.numel
  slices_S7_S6_0 : S7.Slices ![0] S6
  slices_S7_S6_1 : S7.Slices ![1] S6
  gather_S11_S6x1_S6_n_0_n_n_0_1_1_wf : GatherDims.WF S11 S6x1 S6 [] [0] [] [0] [] 1 ![1]

variable [Facts]

def gather_S11_S6x1_S6_n_0_n_n_0_1_1 : GatherDims S11 S6x1 S6 where
  offsetDims := []
  collapsedSliceDims := [0]
  operandBatchingDims := []
  startIndicesBatchingDims := []
  startIndexMap := [0]
  indexVectorDim := 1
  sliceSizes := ![1]
  wf := gather_S11_S6x1_S6_n_0_n_n_0_1_1_wf
def fn_take {F : FTy → Type} [FloatOps F] (arg0 : IVec S11 32) (arg1 : IVec S6 32) : IVec S6 32 :=
  let v0 : IVec S6x1 32 := broadcastInDim S6x1 ![0] bcast_S6_S6x1_0 arg1
  let v1 : IVec S6 32 := (fun x i => Host.gather gather_S11_S6x1_S6_n_0_n_n_0_1_1 x i) arg0 v0
  v1

def fn_part1 {F : FTy → Type} [FloatOps F] (main_arg9 : IVec S7 32) (main_v1 : IVec S6 32) (main_v12 : IVec S_ 1) (main_v15 : IVec S_ 1) : IVec S_ 1 :=
  let main_v16 : IVec S_ 1 := andi main_v12 main_v15
  let main_c_7 : IVec S_ 32 := constantI S_ 32 64#32
  let main_v17 : IVec S6 32 := broadcastInDim S6 ![] bcast_S_S6 main_c_7
  let main_v18 : IVec S6 1 := cmpi .sle main_v1 main_v17
  let main_c_8 : IVec S_ 1 := constantI S_ 1 1#1
  let main_v19 : IVec S_ 1 := (fun x v => Host.reduce IntOp.andi x v reducesTo_S6_S_d0 h_S_) main_v18 main_c_8
  let main_v20 : IVec S_ 1 := andi main_v16 main_v19
  let main_v21 : IVec S6 32 := (extractStridedSlice S6 ![0] · slices_S7_S6_0) main_arg9
  let main_v22 : IVec S6 32 := (extractStridedSlice S6 ![1] · slices_S7_S6_1) main_arg9
  let main_v23 : IVec S6 1 := cmpi .sle main_v21 main_v22
  let main_c_9 : IVec S_ 1 := constantI S_ 1 1#1
  let main_v24 : IVec S_ 1 := (fun x v => Host.reduce IntOp.andi x v reducesTo_S6_S_d0 h_S_) main_v23 main_c_9
  let main_v25 : IVec S_ 1 := andi main_v20 main_v24
  main_v25

def fn {F : FTy → Type} [FloatOps F] (main_arg0 : FVec F S1x128x4096 .bf16) (main_arg1 : IVec S512x14336 32) (main_arg2 : FVec F S32x14336 .bf16) (main_arg3 : FVec F S32x14336 .bf16) (main_arg4 : FVec F S900x4096 .bf16) (main_arg5 : FVec F S900x14336 .bf16) (main_arg6 : IVec S11 32) (main_arg7 : IVec S11 32) (main_arg8 : FVec F S11 .f32) (main_arg9 : IVec S7 32) (main_arg10 : IVec S6 32) : IVec S_ 1 :=
  let main_v0 : IVec S6 32 := fn_take (F := F) main_arg6 main_arg10
  let main_v1 : IVec S6 32 := fn_take (F := F) main_arg7 main_arg10
  let main_c : IVec S_ 32 := constantI S_ 32 0#32
  let main_v2 : IVec S6 32 := broadcastInDim S6 ![] bcast_S_S6 main_c
  let main_v3 : IVec S6 1 := cmpi .sge main_arg10 main_v2
  let main_c_0 : IVec S_ 1 := constantI S_ 1 1#1
  let main_v4 : IVec S_ 1 := (fun x v => Host.reduce IntOp.andi x v reducesTo_S6_S_d0 h_S_) main_v3 main_c_0
  let main_c_1 : IVec S_ 32 := constantI S_ 32 11#32
  let main_v5 : IVec S6 32 := broadcastInDim S6 ![] bcast_S_S6 main_c_1
  let main_v6 : IVec S6 1 := cmpi .slt main_arg10 main_v5
  let main_c_2 : IVec S_ 1 := constantI S_ 1 1#1
  let main_v7 : IVec S_ 1 := (fun x v => Host.reduce IntOp.andi x v reducesTo_S6_S_d0 h_S_) main_v6 main_c_2
  let main_v8 : IVec S_ 1 := andi main_v4 main_v7
  let main_c_3 : IVec S_ 32 := constantI S_ 32 0#32
  let main_v9 : IVec S6 32 := broadcastInDim S6 ![] bcast_S_S6 main_c_3
  let main_v10 : IVec S6 1 := cmpi .sge main_v0 main_v9
  let main_c_4 : IVec S_ 1 := constantI S_ 1 1#1
  let main_v11 : IVec S_ 1 := (fun x v => Host.reduce IntOp.andi x v reducesTo_S6_S_d0 h_S_) main_v10 main_c_4
  let main_v12 : IVec S_ 1 := andi main_v8 main_v11
  let main_c_5 : IVec S_ 32 := constantI S_ 32 832#32
  let main_v13 : IVec S6 32 := broadcastInDim S6 ![] bcast_S_S6 main_c_5
  let main_v14 : IVec S6 1 := cmpi .slt main_v0 main_v13
  let main_c_6 : IVec S_ 1 := constantI S_ 1 1#1
  let main_v15 : IVec S_ 1 := (fun x v => Host.reduce IntOp.andi x v reducesTo_S6_S_d0 h_S_) main_v14 main_c_6
  fn_part1 (F := F) main_arg9 main_v1 main_v12 main_v15
-- ==== Kernel.lean ====
abbrev S1x128x4096 : Shape := ⟨3, ![1, 128, 4096]⟩
abbrev S512x14336 : Shape := ⟨2, ![512, 14336]⟩
abbrev S32x14336 : Shape := ⟨2, ![32, 14336]⟩
abbrev S900x4096 : Shape := ⟨2, ![900, 4096]⟩
abbrev S900x14336 : Shape := ⟨2, ![900, 14336]⟩
abbrev S11 : Shape := ⟨1, ![11]⟩
abbrev S7 : Shape := ⟨1, ![7]⟩
abbrev S6 : Shape := ⟨1, ![6]⟩
abbrev S128x4096 : Shape := ⟨2, ![128, 4096]⟩
abbrev S128x14336 : Shape := ⟨2, ![128, 14336]⟩
abbrev S128x64 : Shape := ⟨2, ![128, 64]⟩
abbrev S512x512 : Shape := ⟨2, ![512, 512]⟩
abbrev S32x512 : Shape := ⟨2, ![32, 512]⟩
abbrev S128x512 : Shape := ⟨2, ![128, 512]⟩
abbrev S512x4096 : Shape := ⟨2, ![512, 4096]⟩
abbrev S_ : Shape := ⟨0, ![]⟩
abbrev S1 : Shape := ⟨1, ![1]⟩
abbrev S72x4096 : Shape := ⟨2, ![72, 4096]⟩
abbrev S72x14336 : Shape := ⟨2, ![72, 14336]⟩
abbrev S80x4096 : Shape := ⟨2, ![80, 4096]⟩
abbrev S80x14336 : Shape := ⟨2, ![80, 14336]⟩
abbrev S512x64 : Shape := ⟨2, ![512, 64]⟩
abbrev S16x512 : Shape := ⟨2, ![16, 512]⟩
abbrev S16x1x512 : Shape := ⟨3, ![16, 1, 512]⟩
abbrev S16x8x512 : Shape := ⟨3, ![16, 8, 512]⟩
abbrev S1x512 : Shape := ⟨2, ![1, 512]⟩
abbrev S256x512 : Shape := ⟨2, ![256, 512]⟩
abbrev S128x256 : Shape := ⟨2, ![128, 256]⟩
abbrev S1x128x14336 : Shape := ⟨3, ![1, 128, 14336]⟩

abbrev nBuf : Space → Nat
  | .hbm => 11
  | .vmem => 13
  | .smem => 5
  | _ => 0

abbrev bufTy : (tb : Table) → Fin (tcTables nBuf tb) → BufTy
  | .hbm, ⟨0, _⟩ => ⟨S1x128x4096, .bf16⟩
  | .hbm, ⟨1, _⟩ => ⟨S512x14336, .i32⟩
  | .hbm, ⟨2, _⟩ => ⟨S32x14336, .bf16⟩
  | .hbm, ⟨3, _⟩ => ⟨S32x14336, .bf16⟩
  | .hbm, ⟨4, _⟩ => ⟨S900x4096, .bf16⟩
  | .hbm, ⟨5, _⟩ => ⟨S900x14336, .bf16⟩
  | .hbm, ⟨6, _⟩ => ⟨S11, .f32⟩
  | .hbm, ⟨7, _⟩ => ⟨S128x4096, .bf16⟩
  | .hbm, ⟨8, _⟩ => ⟨S128x14336, .bf16⟩
  | .hbm, ⟨9, _⟩ => ⟨S128x64, .bf16⟩
  | .hbm, ⟨10, _⟩ => ⟨S1x128x14336, .bf16⟩
  | .local _ .vmem, ⟨0, _⟩ => ⟨S128x4096, .bf16⟩
  | .local _ .vmem, ⟨1, _⟩ => ⟨S512x512, .i32⟩
  | .local _ .vmem, ⟨2, _⟩ => ⟨S512x512, .i32⟩
  | .local _ .vmem, ⟨3, _⟩ => ⟨S32x512, .bf16⟩
  | .local _ .vmem, ⟨4, _⟩ => ⟨S32x512, .bf16⟩
  | .local _ .vmem, ⟨5, _⟩ => ⟨S32x512, .bf16⟩
  | .local _ .vmem, ⟨6, _⟩ => ⟨S32x512, .bf16⟩
  | .local _ .vmem, ⟨7, _⟩ => ⟨S128x512, .bf16⟩
  | .local _ .vmem, ⟨8, _⟩ => ⟨S128x512, .bf16⟩
  | .local _ .vmem, ⟨9, _⟩ => ⟨S128x64, .bf16⟩
  | .local _ .vmem, ⟨10, _⟩ => ⟨S512x4096, .bf16⟩
  | .local _ .vmem, ⟨11, _⟩ => ⟨S512x14336, .bf16⟩
  | .local _ .vmem, ⟨12, _⟩ => ⟨S128x512, .bf16⟩
  | .local _ .smem, ⟨0, _⟩ => ⟨S11, .i32⟩
  | .local _ .smem, ⟨1, _⟩ => ⟨S11, .i32⟩
  | .local _ .smem, ⟨2, _⟩ => ⟨S7, .i32⟩
  | .local _ .smem, ⟨3, _⟩ => ⟨S6, .i32⟩
  | .local _ .smem, ⟨4, _⟩ => ⟨S11, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨4, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg8 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_arg6 : Ref sig .tc := ⟨.smem, 0, rfl⟩
abbrev main_arg7 : Ref sig .tc := ⟨.smem, 1, rfl⟩
abbrev main_arg9 : Ref sig .tc := ⟨.smem, 2, rfl⟩
abbrev main_arg10 : Ref sig .tc := ⟨.smem, 3, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 4, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![28], ![false]⟩

abbrev pre0 : Pipeline.Prefetch sig := ⟨4, ![main_arg6.idx, main_arg7.idx, main_arg9.idx, main_arg10.idx], fun | 0 => main_arg6.names | 1 => main_arg7.names | 2 => main_arg9.names | 3 => main_arg10.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v1149 : BitVec 32) : Fin 1 → Nat :=
  let v1150 : Index := Scalar.indexCast v1149
  ![v1150.toNat]

def k0_chk1 (i : grid0.Coords) (v1149 : BitVec 32) : Prop :=
  (∀ (k0_h1 : k0_cond1 i = 1#1), ∀ a, (k0_off1 v1149) a + S1.size a ≤ S11.size a)
theorem k0_off1_inb : ∀ (i : grid0.Coords) (v1149 : BitVec 32) (k0_hw1 : k0_chk1 i v1149), ∀ (k0_h1 : k0_cond1 i = 1#1), ∀ a, (k0_off1 v1149) a + S1.size a ≤ S11.size a := fun i v1149 k0_hw1 k0_h1 => k0_hw1 k0_h1

def k0_mult1 (v1151 : BitVec 32) : BitVec 32 :=
  let c0_i32_425 : BitVec 32 := 0#32
  let v1153 : BitVec 1 := Scalar.cmpi .sgt v1151 c0_i32_425
  let v1154 : BitVec 32 := Scalar.extui v1153
  let c0_i32_426 : BitVec 32 := 0#32
  let v1155 : BitVec 1 := Scalar.cmpi .slt v1151 c0_i32_426
  let v1156 : BitVec 32 := Scalar.extui v1155
  let v1157 : BitVec 32 := Scalar.subi v1154 v1156
  let c8_i32_424 : BitVec 32 := 8#32
  let c0_i32_427 : BitVec 32 := 0#32
  let v1158 : BitVec 1 := Scalar.cmpi .sgt c8_i32_424 c0_i32_427
  let v1159 : BitVec 32 := Scalar.extui v1158
  let c0_i32_428 : BitVec 32 := 0#32
  let v1160 : BitVec 1 := Scalar.cmpi .slt c8_i32_424 c0_i32_428
  let v1161 : BitVec 32 := Scalar.extui v1160
  let v1162 : BitVec 32 := Scalar.subi v1159 v1161
  let v1163 : BitVec 1 := Scalar.cmpi .ne v1157 v1162
  let v1164 : BitVec 32 := Scalar.remsi v1151 c8_i32_424
  let c0_i32_429 : BitVec 32 := 0#32
  let v1165 : BitVec 1 := Scalar.cmpi .ne v1164 c0_i32_429
  let v1166 : BitVec 1 := Scalar.andi v1163 v1165
  let v1152 : BitVec 32 := Scalar.divsi v1151 c8_i32_424
  let c1_i32_430 : BitVec 32 := 1#32
  let v1167 : BitVec 32 := Scalar.subi v1152 c1_i32_430
  let v1168 : BitVec 32 := Scalar.select v1166 v1167 v1152
  let c8_i32_431 : BitVec 32 := 8#32
  let v1169 : BitVec 32 := Scalar.muli v1168 c8_i32_431
  v1169

def k0_off2 (v1151 : BitVec 32) : Fin 2 → Nat :=
  let c0_i32_425 : BitVec 32 := 0#32
  let v1153 : BitVec 1 := Scalar.cmpi .sgt v1151 c0_i32_425
  let v1154 : BitVec 32 := Scalar.extui v1153
  let c0_i32_426 : BitVec 32 := 0#32
  let v1155 : BitVec 1 := Scalar.cmpi .slt v1151 c0_i32_426
  let v1156 : BitVec 32 := Scalar.extui v1155
  let v1157 : BitVec 32 := Scalar.subi v1154 v1156
  let c8_i32_424 : BitVec 32 := 8#32
  let c0_i32_427 : BitVec 32 := 0#32
  let v1158 : BitVec 1 := Scalar.cmpi .sgt c8_i32_424 c0_i32_427
  let v1159 : BitVec 32 := Scalar.extui v1158
  let c0_i32_428 : BitVec 32 := 0#32
  let v1160 : BitVec 1 := Scalar.cmpi .slt c8_i32_424 c0_i32_428
  let v1161 : BitVec 32 := Scalar.extui v1160
  let v1162 : BitVec 32 := Scalar.subi v1159 v1161
  let v1163 : BitVec 1 := Scalar.cmpi .ne v1157 v1162
  let v1164 : BitVec 32 := Scalar.remsi v1151 c8_i32_424
  let c0_i32_429 : BitVec 32 := 0#32
  let v1165 : BitVec 1 := Scalar.cmpi .ne v1164 c0_i32_429
  let v1166 : BitVec 1 := Scalar.andi v1163 v1165
  let v1152 : BitVec 32 := Scalar.divsi v1151 c8_i32_424
  let c1_i32_430 : BitVec 32 := 1#32
  let v1167 : BitVec 32 := Scalar.subi v1152 c1_i32_430
  let v1168 : BitVec 32 := Scalar.select v1166 v1167 v1152
  let c8_i32_431 : BitVec 32 := 8#32
  let v1169 : BitVec 32 := Scalar.muli v1168 c8_i32_431
  let v1170 : BitVec 32 := v1169
  let c0_i32_434 : BitVec 32 := 0#32
  ![v1170.toNat, 0]
def k0_off3 (v1151 : BitVec 32) : Fin 2 → Nat :=
  let c0_i32_425 : BitVec 32 := 0#32
  let v1153 : BitVec 1 := Scalar.cmpi .sgt v1151 c0_i32_425
  let v1154 : BitVec 32 := Scalar.extui v1153
  let c0_i32_426 : BitVec 32 := 0#32
  let v1155 : BitVec 1 := Scalar.cmpi .slt v1151 c0_i32_426
  let v1156 : BitVec 32 := Scalar.extui v1155
  let v1157 : BitVec 32 := Scalar.subi v1154 v1156
  let c8_i32_424 : BitVec 32 := 8#32
  let c0_i32_427 : BitVec 32 := 0#32
  let v1158 : BitVec 1 := Scalar.cmpi .sgt c8_i32_424 c0_i32_427
  let v1159 : BitVec 32 := Scalar.extui v1158
  let c0_i32_428 : BitVec 32 := 0#32
  let v1160 : BitVec 1 := Scalar.cmpi .slt c8_i32_424 c0_i32_428
  let v1161 : BitVec 32 := Scalar.extui v1160
  let v1162 : BitVec 32 := Scalar.subi v1159 v1161
  let v1163 : BitVec 1 := Scalar.cmpi .ne v1157 v1162
  let v1164 : BitVec 32 := Scalar.remsi v1151 c8_i32_424
  let c0_i32_429 : BitVec 32 := 0#32
  let v1165 : BitVec 1 := Scalar.cmpi .ne v1164 c0_i32_429
  let v1166 : BitVec 1 := Scalar.andi v1163 v1165
  let v1152 : BitVec 32 := Scalar.divsi v1151 c8_i32_424
  let c1_i32_430 : BitVec 32 := 1#32
  let v1167 : BitVec 32 := Scalar.subi v1152 c1_i32_430
  let v1168 : BitVec 32 := Scalar.select v1166 v1167 v1152
  let c8_i32_431 : BitVec 32 := 8#32
  let v1169 : BitVec 32 := Scalar.muli v1168 c8_i32_431
  let v1170 : BitVec 32 := v1169
  let c0_i32_437 : BitVec 32 := 0#32
  ![v1170.toNat, 0]
def k0_off4 (v1175 : BitVec 32) : Fin 1 → Nat :=
  let v1176 : Index := Scalar.indexCast v1175
  ![v1176.toNat]

def k0_chk3 (i : grid0.Coords) (v1175 : BitVec 32) : Prop :=
  (∀ (k0_h1 : k0_cond1 i = 1#1), ∀ a, (k0_off4 v1175) a + S1.size a ≤ S11.size a)
theorem k0_off4_inb : ∀ (i : grid0.Coords) (v1175 : BitVec 32) (k0_hw3 : k0_chk3 i v1175), ∀ (k0_h1 : k0_cond1 i = 1#1), ∀ a, (k0_off4 v1175) a + S1.size a ≤ S11.size a := fun i v1175 k0_hw3 k0_h1 => k0_hw3 k0_h1

def k0_mult2 (v1177 : BitVec 32) : BitVec 32 :=
  let c0_i32_440 : BitVec 32 := 0#32
  let v1179 : BitVec 1 := Scalar.cmpi .sgt v1177 c0_i32_440
  let v1180 : BitVec 32 := Scalar.extui v1179
  let c0_i32_441 : BitVec 32 := 0#32
  let v1181 : BitVec 1 := Scalar.cmpi .slt v1177 c0_i32_441
  let v1182 : BitVec 32 := Scalar.extui v1181
  let v1183 : BitVec 32 := Scalar.subi v1180 v1182
  let c8_i32_439 : BitVec 32 := 8#32
  let c0_i32_442 : BitVec 32 := 0#32
  let v1184 : BitVec 1 := Scalar.cmpi .sgt c8_i32_439 c0_i32_442
  let v1185 : BitVec 32 := Scalar.extui v1184
  let c0_i32_443 : BitVec 32 := 0#32
  let v1186 : BitVec 1 := Scalar.cmpi .slt c8_i32_439 c0_i32_443
  let v1187 : BitVec 32 := Scalar.extui v1186
  let v1188 : BitVec 32 := Scalar.subi v1185 v1187
  let v1189 : BitVec 1 := Scalar.cmpi .ne v1183 v1188
  let v1190 : BitVec 32 := Scalar.remsi v1177 c8_i32_439
  let c0_i32_444 : BitVec 32 := 0#32
  let v1191 : BitVec 1 := Scalar.cmpi .ne v1190 c0_i32_444
  let v1192 : BitVec 1 := Scalar.andi v1189 v1191
  let v1178 : BitVec 32 := Scalar.divsi v1177 c8_i32_439
  let c1_i32_445 : BitVec 32 := 1#32
  let v1193 : BitVec 32 := Scalar.subi v1178 c1_i32_445
  let v1194 : BitVec 32 := Scalar.select v1192 v1193 v1178
  let c8_i32_446 : BitVec 32 := 8#32
  let v1195 : BitVec 32 := Scalar.muli v1194 c8_i32_446
  v1195

def k0_off5 (v1177 : BitVec 32) : Fin 2 → Nat :=
  let c0_i32_440 : BitVec 32 := 0#32
  let v1179 : BitVec 1 := Scalar.cmpi .sgt v1177 c0_i32_440
  let v1180 : BitVec 32 := Scalar.extui v1179
  let c0_i32_441 : BitVec 32 := 0#32
  let v1181 : BitVec 1 := Scalar.cmpi .slt v1177 c0_i32_441
  let v1182 : BitVec 32 := Scalar.extui v1181
  let v1183 : BitVec 32 := Scalar.subi v1180 v1182
  let c8_i32_439 : BitVec 32 := 8#32
  let c0_i32_442 : BitVec 32 := 0#32
  let v1184 : BitVec 1 := Scalar.cmpi .sgt c8_i32_439 c0_i32_442
  let v1185 : BitVec 32 := Scalar.extui v1184
  let c0_i32_443 : BitVec 32 := 0#32
  let v1186 : BitVec 1 := Scalar.cmpi .slt c8_i32_439 c0_i32_443
  let v1187 : BitVec 32 := Scalar.extui v1186
  let v1188 : BitVec 32 := Scalar.subi v1185 v1187
  let v1189 : BitVec 1 := Scalar.cmpi .ne v1183 v1188
  let v1190 : BitVec 32 := Scalar.remsi v1177 c8_i32_439
  let c0_i32_444 : BitVec 32 := 0#32
  let v1191 : BitVec 1 := Scalar.cmpi .ne v1190 c0_i32_444
  let v1192 : BitVec 1 := Scalar.andi v1189 v1191
  let v1178 : BitVec 32 := Scalar.divsi v1177 c8_i32_439
  let c1_i32_445 : BitVec 32 := 1#32
  let v1193 : BitVec 32 := Scalar.subi v1178 c1_i32_445
  let v1194 : BitVec 32 := Scalar.select v1192 v1193 v1178
  let c8_i32_446 : BitVec 32 := 8#32
  let v1195 : BitVec 32 := Scalar.muli v1194 c8_i32_446
  let v1196 : BitVec 32 := v1195
  let c0_i32_448 : BitVec 32 := 0#32
  ![v1196.toNat, 0]
def k0_off6 (v1177 : BitVec 32) : Fin 2 → Nat :=
  let c0_i32_440 : BitVec 32 := 0#32
  let v1179 : BitVec 1 := Scalar.cmpi .sgt v1177 c0_i32_440
  let v1180 : BitVec 32 := Scalar.extui v1179
  let c0_i32_441 : BitVec 32 := 0#32
  let v1181 : BitVec 1 := Scalar.cmpi .slt v1177 c0_i32_441
  let v1182 : BitVec 32 := Scalar.extui v1181
  let v1183 : BitVec 32 := Scalar.subi v1180 v1182
  let c8_i32_439 : BitVec 32 := 8#32
  let c0_i32_442 : BitVec 32 := 0#32
  let v1184 : BitVec 1 := Scalar.cmpi .sgt c8_i32_439 c0_i32_442
  let v1185 : BitVec 32 := Scalar.extui v1184
  let c0_i32_443 : BitVec 32 := 0#32
  let v1186 : BitVec 1 := Scalar.cmpi .slt c8_i32_439 c0_i32_443
  let v1187 : BitVec 32 := Scalar.extui v1186
  let v1188 : BitVec 32 := Scalar.subi v1185 v1187
  let v1189 : BitVec 1 := Scalar.cmpi .ne v1183 v1188
  let v1190 : BitVec 32 := Scalar.remsi v1177 c8_i32_439
  let c0_i32_444 : BitVec 32 := 0#32
  let v1191 : BitVec 1 := Scalar.cmpi .ne v1190 c0_i32_444
  let v1192 : BitVec 1 := Scalar.andi v1189 v1191
  let v1178 : BitVec 32 := Scalar.divsi v1177 c8_i32_439
  let c1_i32_445 : BitVec 32 := 1#32
  let v1193 : BitVec 32 := Scalar.subi v1178 c1_i32_445
  let v1194 : BitVec 32 := Scalar.select v1192 v1193 v1178
  let c8_i32_446 : BitVec 32 := 8#32
  let v1195 : BitVec 32 := Scalar.muli v1194 c8_i32_446
  let v1196 : BitVec 32 := v1195
  let c0_i32_451 : BitVec 32 := 0#32
  ![v1196.toNat, 0]
def k0_off7 (v1201 : BitVec 32) : Fin 1 → Nat :=
  let v1202 : Index := Scalar.indexCast v1201
  ![v1202.toNat]

def k0_chk5 (i : grid0.Coords) (v1201 : BitVec 32) : Prop :=
  (∀ (k0_h1 : k0_cond1 i = 1#1), ∀ a, (k0_off7 v1201) a + S1.size a ≤ S11.size a)
theorem k0_off7_inb : ∀ (i : grid0.Coords) (v1201 : BitVec 32) (k0_hw5 : k0_chk5 i v1201), ∀ (k0_h1 : k0_cond1 i = 1#1), ∀ a, (k0_off7 v1201) a + S1.size a ≤ S11.size a := fun i v1201 k0_hw5 k0_h1 => k0_hw5 k0_h1

def k0_mult3 (v1203 : BitVec 32) : BitVec 32 :=
  let c0_i32_454 : BitVec 32 := 0#32
  let v1205 : BitVec 1 := Scalar.cmpi .sgt v1203 c0_i32_454
  let v1206 : BitVec 32 := Scalar.extui v1205
  let c0_i32_455 : BitVec 32 := 0#32
  let v1207 : BitVec 1 := Scalar.cmpi .slt v1203 c0_i32_455
  let v1208 : BitVec 32 := Scalar.extui v1207
  let v1209 : BitVec 32 := Scalar.subi v1206 v1208
  let c8_i32_453 : BitVec 32 := 8#32
  let c0_i32_456 : BitVec 32 := 0#32
  let v1210 : BitVec 1 := Scalar.cmpi .sgt c8_i32_453 c0_i32_456
  let v1211 : BitVec 32 := Scalar.extui v1210
  let c0_i32_457 : BitVec 32 := 0#32
  let v1212 : BitVec 1 := Scalar.cmpi .slt c8_i32_453 c0_i32_457
  let v1213 : BitVec 32 := Scalar.extui v1212
  let v1214 : BitVec 32 := Scalar.subi v1211 v1213
  let v1215 : BitVec 1 := Scalar.cmpi .ne v1209 v1214
  let v1216 : BitVec 32 := Scalar.remsi v1203 c8_i32_453
  let c0_i32_458 : BitVec 32 := 0#32
  let v1217 : BitVec 1 := Scalar.cmpi .ne v1216 c0_i32_458
  let v1218 : BitVec 1 := Scalar.andi v1215 v1217
  let v1204 : BitVec 32 := Scalar.divsi v1203 c8_i32_453
  let c1_i32_459 : BitVec 32 := 1#32
  let v1219 : BitVec 32 := Scalar.subi v1204 c1_i32_459
  let v1220 : BitVec 32 := Scalar.select v1218 v1219 v1204
  let c8_i32_460 : BitVec 32 := 8#32
  let v1221 : BitVec 32 := Scalar.muli v1220 c8_i32_460
  v1221

def k0_off8 (v1203 : BitVec 32) : Fin 2 → Nat :=
  let c0_i32_454 : BitVec 32 := 0#32
  let v1205 : BitVec 1 := Scalar.cmpi .sgt v1203 c0_i32_454
  let v1206 : BitVec 32 := Scalar.extui v1205
  let c0_i32_455 : BitVec 32 := 0#32
  let v1207 : BitVec 1 := Scalar.cmpi .slt v1203 c0_i32_455
  let v1208 : BitVec 32 := Scalar.extui v1207
  let v1209 : BitVec 32 := Scalar.subi v1206 v1208
  let c8_i32_453 : BitVec 32 := 8#32
  let c0_i32_456 : BitVec 32 := 0#32
  let v1210 : BitVec 1 := Scalar.cmpi .sgt c8_i32_453 c0_i32_456
  let v1211 : BitVec 32 := Scalar.extui v1210
  let c0_i32_457 : BitVec 32 := 0#32
  let v1212 : BitVec 1 := Scalar.cmpi .slt c8_i32_453 c0_i32_457
  let v1213 : BitVec 32 := Scalar.extui v1212
  let v1214 : BitVec 32 := Scalar.subi v1211 v1213
  let v1215 : BitVec 1 := Scalar.cmpi .ne v1209 v1214
  let v1216 : BitVec 32 := Scalar.remsi v1203 c8_i32_453
  let c0_i32_458 : BitVec 32 := 0#32
  let v1217 : BitVec 1 := Scalar.cmpi .ne v1216 c0_i32_458
  let v1218 : BitVec 1 := Scalar.andi v1215 v1217
  let v1204 : BitVec 32 := Scalar.divsi v1203 c8_i32_453
  let c1_i32_459 : BitVec 32 := 1#32
  let v1219 : BitVec 32 := Scalar.subi v1204 c1_i32_459
  let v1220 : BitVec 32 := Scalar.select v1218 v1219 v1204
  let c8_i32_460 : BitVec 32 := 8#32
  let v1221 : BitVec 32 := Scalar.muli v1220 c8_i32_460
  let v1222 : BitVec 32 := v1221
  let c0_i32_462 : BitVec 32 := 0#32
  ![v1222.toNat, 0]
def k0_off9 (v1203 : BitVec 32) : Fin 2 → Nat :=
  let c0_i32_454 : BitVec 32 := 0#32
  let v1205 : BitVec 1 := Scalar.cmpi .sgt v1203 c0_i32_454
  let v1206 : BitVec 32 := Scalar.extui v1205
  let c0_i32_455 : BitVec 32 := 0#32
  let v1207 : BitVec 1 := Scalar.cmpi .slt v1203 c0_i32_455
  let v1208 : BitVec 32 := Scalar.extui v1207
  let v1209 : BitVec 32 := Scalar.subi v1206 v1208
  let c8_i32_453 : BitVec 32 := 8#32
  let c0_i32_456 : BitVec 32 := 0#32
  let v1210 : BitVec 1 := Scalar.cmpi .sgt c8_i32_453 c0_i32_456
  let v1211 : BitVec 32 := Scalar.extui v1210
  let c0_i32_457 : BitVec 32 := 0#32
  let v1212 : BitVec 1 := Scalar.cmpi .slt c8_i32_453 c0_i32_457
  let v1213 : BitVec 32 := Scalar.extui v1212
  let v1214 : BitVec 32 := Scalar.subi v1211 v1213
  let v1215 : BitVec 1 := Scalar.cmpi .ne v1209 v1214
  let v1216 : BitVec 32 := Scalar.remsi v1203 c8_i32_453
  let c0_i32_458 : BitVec 32 := 0#32
  let v1217 : BitVec 1 := Scalar.cmpi .ne v1216 c0_i32_458
  let v1218 : BitVec 1 := Scalar.andi v1215 v1217
  let v1204 : BitVec 32 := Scalar.divsi v1203 c8_i32_453
  let c1_i32_459 : BitVec 32 := 1#32
  let v1219 : BitVec 32 := Scalar.subi v1204 c1_i32_459
  let v1220 : BitVec 32 := Scalar.select v1218 v1219 v1204
  let c8_i32_460 : BitVec 32 := 8#32
  let v1221 : BitVec 32 := Scalar.muli v1220 c8_i32_460
  let v1222 : BitVec 32 := v1221
  let c0_i32_465 : BitVec 32 := 0#32
  ![v1222.toNat, 0]
def k0_off10 (v1227 : BitVec 32) : Fin 1 → Nat :=
  let v1228 : Index := Scalar.indexCast v1227
  ![v1228.toNat]

def k0_chk7 (i : grid0.Coords) (v1227 : BitVec 32) : Prop :=
  (∀ (k0_h1 : k0_cond1 i = 1#1), ∀ a, (k0_off10 v1227) a + S1.size a ≤ S11.size a)
theorem k0_off10_inb : ∀ (i : grid0.Coords) (v1227 : BitVec 32) (k0_hw7 : k0_chk7 i v1227), ∀ (k0_h1 : k0_cond1 i = 1#1), ∀ a, (k0_off10 v1227) a + S1.size a ≤ S11.size a := fun i v1227 k0_hw7 k0_h1 => k0_hw7 k0_h1

def k0_mult4 (v1229 : BitVec 32) : BitVec 32 :=
  let c0_i32_468 : BitVec 32 := 0#32
  let v1231 : BitVec 1 := Scalar.cmpi .sgt v1229 c0_i32_468
  let v1232 : BitVec 32 := Scalar.extui v1231
  let c0_i32_469 : BitVec 32 := 0#32
  let v1233 : BitVec 1 := Scalar.cmpi .slt v1229 c0_i32_469
  let v1234 : BitVec 32 := Scalar.extui v1233
  let v1235 : BitVec 32 := Scalar.subi v1232 v1234
  let c8_i32_467 : BitVec 32 := 8#32
  let c0_i32_470 : BitVec 32 := 0#32
  let v1236 : BitVec 1 := Scalar.cmpi .sgt c8_i32_467 c0_i32_470
  let v1237 : BitVec 32 := Scalar.extui v1236
  let c0_i32_471 : BitVec 32 := 0#32
  let v1238 : BitVec 1 := Scalar.cmpi .slt c8_i32_467 c0_i32_471
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_467
  let c0_i32_472 : BitVec 32 := 0#32
  let v1243 : BitVec 1 := Scalar.cmpi .ne v1242 c0_i32_472
  let v1244 : BitVec 1 := Scalar.andi v1241 v1243
  let v1230 : BitVec 32 := Scalar.divsi v1229 c8_i32_467
  let c1_i32_473 : BitVec 32 := 1#32
  let v1245 : BitVec 32 := Scalar.subi v1230 c1_i32_473
  let v1246 : BitVec 32 := Scalar.select v1244 v1245 v1230
  let c8_i32_474 : BitVec 32 := 8#32
  let v1247 : BitVec 32 := Scalar.muli v1246 c8_i32_474
  v1247

def k0_off11 (v1229 : BitVec 32) : Fin 2 → Nat :=
  let c0_i32_468 : BitVec 32 := 0#32
  let v1231 : BitVec 1 := Scalar.cmpi .sgt v1229 c0_i32_468
  let v1232 : BitVec 32 := Scalar.extui v1231
  let c0_i32_469 : BitVec 32 := 0#32
  let v1233 : BitVec 1 := Scalar.cmpi .slt v1229 c0_i32_469
  let v1234 : BitVec 32 := Scalar.extui v1233
  let v1235 : BitVec 32 := Scalar.subi v1232 v1234
  let c8_i32_467 : BitVec 32 := 8#32
  let c0_i32_470 : BitVec 32 := 0#32
  let v1236 : BitVec 1 := Scalar.cmpi .sgt c8_i32_467 c0_i32_470
  let v1237 : BitVec 32 := Scalar.extui v1236
  let c0_i32_471 : BitVec 32 := 0#32
  let v1238 : BitVec 1 := Scalar.cmpi .slt c8_i32_467 c0_i32_471
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_467
  let c0_i32_472 : BitVec 32 := 0#32
  let v1243 : BitVec 1 := Scalar.cmpi .ne v1242 c0_i32_472
  let v1244 : BitVec 1 := Scalar.andi v1241 v1243
  let v1230 : BitVec 32 := Scalar.divsi v1229 c8_i32_467
  let c1_i32_473 : BitVec 32 := 1#32
  let v1245 : BitVec 32 := Scalar.subi v1230 c1_i32_473
  let v1246 : BitVec 32 := Scalar.select v1244 v1245 v1230
  let c8_i32_474 : BitVec 32 := 8#32
  let v1247 : BitVec 32 := Scalar.muli v1246 c8_i32_474
  let v1248 : BitVec 32 := v1247
  let c0_i32_476 : BitVec 32 := 0#32
  ![v1248.toNat, 0]
def k0_off12 (v1229 : BitVec 32) : Fin 2 → Nat :=
  let c0_i32_468 : BitVec 32 := 0#32
  let v1231 : BitVec 1 := Scalar.cmpi .sgt v1229 c0_i32_468
  let v1232 : BitVec 32 := Scalar.extui v1231
  let c0_i32_469 : BitVec 32 := 0#32
  let v1233 : BitVec 1 := Scalar.cmpi .slt v1229 c0_i32_469
  let v1234 : BitVec 32 := Scalar.extui v1233
  let v1235 : BitVec 32 := Scalar.subi v1232 v1234
  let c8_i32_467 : BitVec 32 := 8#32
  let c0_i32_470 : BitVec 32 := 0#32
  let v1236 : BitVec 1 := Scalar.cmpi .sgt c8_i32_467 c0_i32_470
  let v1237 : BitVec 32 := Scalar.extui v1236
  let c0_i32_471 : BitVec 32 := 0#32
  let v1238 : BitVec 1 := Scalar.cmpi .slt c8_i32_467 c0_i32_471
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_467
  let c0_i32_472 : BitVec 32 := 0#32
  let v1243 : BitVec 1 := Scalar.cmpi .ne v1242 c0_i32_472
  let v1244 : BitVec 1 := Scalar.andi v1241 v1243
  let v1230 : BitVec 32 := Scalar.divsi v1229 c8_i32_467
  let c1_i32_473 : BitVec 32 := 1#32
  let v1245 : BitVec 32 := Scalar.subi v1230 c1_i32_473
  let v1246 : BitVec 32 := Scalar.select v1244 v1245 v1230
  let c8_i32_474 : BitVec 32 := 8#32
  let v1247 : BitVec 32 := Scalar.muli v1246 c8_i32_474
  let v1248 : BitVec 32 := v1247
  let c0_i32_479 : BitVec 32 := 0#32
  ![v1248.toNat, 0]
def k0_off13 (v1253 : BitVec 32) : Fin 1 → Nat :=
  let v1254 : Index := Scalar.indexCast v1253
  ![v1254.toNat]

def k0_chk9 (i : grid0.Coords) (v1253 : BitVec 32) : Prop :=
  (∀ (k0_h1 : k0_cond1 i = 1#1), ∀ a, (k0_off13 v1253) a + S1.size a ≤ S11.size a)
theorem k0_off13_inb : ∀ (i : grid0.Coords) (v1253 : BitVec 32) (k0_hw9 : k0_chk9 i v1253), ∀ (k0_h1 : k0_cond1 i = 1#1), ∀ a, (k0_off13 v1253) a + S1.size a ≤ S11.size a := fun i v1253 k0_hw9 k0_h1 => k0_hw9 k0_h1

def k0_mult5 (v1255 : BitVec 32) : BitVec 32 :=
  let c0_i32_482 : BitVec 32 := 0#32
  let v1257 : BitVec 1 := Scalar.cmpi .sgt v1255 c0_i32_482
  let v1258 : BitVec 32 := Scalar.extui v1257
  let c0_i32_483 : BitVec 32 := 0#32
  let v1259 : BitVec 1 := Scalar.cmpi .slt v1255 c0_i32_483
  let v1260 : BitVec 32 := Scalar.extui v1259
  let v1261 : BitVec 32 := Scalar.subi v1258 v1260
  let c8_i32_481 : BitVec 32 := 8#32
  let c0_i32_484 : BitVec 32 := 0#32
  let v1262 : BitVec 1 := Scalar.cmpi .sgt c8_i32_481 c0_i32_484
  let v1263 : BitVec 32 := Scalar.extui v1262
  let c0_i32_485 : BitVec 32 := 0#32
  let v1264 : BitVec 1 := Scalar.cmpi .slt c8_i32_481 c0_i32_485
  let v1265 : BitVec 32 := Scalar.extui v1264
  let v1266 : BitVec 32 := Scalar.subi v1263 v1265
  let v1267 : BitVec 1 := Scalar.cmpi .ne v1261 v1266
  let v1268 : BitVec 32 := Scalar.remsi v1255 c8_i32_481
  let c0_i32_486 : BitVec 32 := 0#32
  let v1269 : BitVec 1 := Scalar.cmpi .ne v1268 c0_i32_486
  let v1270 : BitVec 1 := Scalar.andi v1267 v1269
  let v1256 : BitVec 32 := Scalar.divsi v1255 c8_i32_481
  let c1_i32_487 : BitVec 32 := 1#32
  let v1271 : BitVec 32 := Scalar.subi v1256 c1_i32_487
  let v1272 : BitVec 32 := Scalar.select v1270 v1271 v1256
  let c8_i32_488 : BitVec 32 := 8#32
  let v1273 : BitVec 32 := Scalar.muli v1272 c8_i32_488
  v1273

def k0_off14 (v1255 : BitVec 32) : Fin 2 → Nat :=
  let c0_i32_482 : BitVec 32 := 0#32
  let v1257 : BitVec 1 := Scalar.cmpi .sgt v1255 c0_i32_482
  let v1258 : BitVec 32 := Scalar.extui v1257
  let c0_i32_483 : BitVec 32 := 0#32
  let v1259 : BitVec 1 := Scalar.cmpi .slt v1255 c0_i32_483
  let v1260 : BitVec 32 := Scalar.extui v1259
  let v1261 : BitVec 32 := Scalar.subi v1258 v1260
  let c8_i32_481 : BitVec 32 := 8#32
  let c0_i32_484 : BitVec 32 := 0#32
  let v1262 : BitVec 1 := Scalar.cmpi .sgt c8_i32_481 c0_i32_484
  let v1263 : BitVec 32 := Scalar.extui v1262
  let c0_i32_485 : BitVec 32 := 0#32
  let v1264 : BitVec 1 := Scalar.cmpi .slt c8_i32_481 c0_i32_485
  let v1265 : BitVec 32 := Scalar.extui v1264
  let v1266 : BitVec 32 := Scalar.subi v1263 v1265
  let v1267 : BitVec 1 := Scalar.cmpi .ne v1261 v1266
  let v1268 : BitVec 32 := Scalar.remsi v1255 c8_i32_481
  let c0_i32_486 : BitVec 32 := 0#32
  let v1269 : BitVec 1 := Scalar.cmpi .ne v1268 c0_i32_486
  let v1270 : BitVec 1 := Scalar.andi v1267 v1269
  let v1256 : BitVec 32 := Scalar.divsi v1255 c8_i32_481
  let c1_i32_487 : BitVec 32 := 1#32
  let v1271 : BitVec 32 := Scalar.subi v1256 c1_i32_487
  let v1272 : BitVec 32 := Scalar.select v1270 v1271 v1256
  let c8_i32_488 : BitVec 32 := 8#32
  let v1273 : BitVec 32 := Scalar.muli v1272 c8_i32_488
  let v1274 : BitVec 32 := v1273
  let c0_i32_490 : BitVec 32 := 0#32
  ![v1274.toNat, 0]
def k0_off15 (v1255 : BitVec 32) : Fin 2 → Nat :=
  let c0_i32_482 : BitVec 32 := 0#32
  let v1257 : BitVec 1 := Scalar.cmpi .sgt v1255 c0_i32_482
  let v1258 : BitVec 32 := Scalar.extui v1257
  let c0_i32_483 : BitVec 32 := 0#32
  let v1259 : BitVec 1 := Scalar.cmpi .slt v1255 c0_i32_483
  let v1260 : BitVec 32 := Scalar.extui v1259
  let v1261 : BitVec 32 := Scalar.subi v1258 v1260
  let c8_i32_481 : BitVec 32 := 8#32
  let c0_i32_484 : BitVec 32 := 0#32
  let v1262 : BitVec 1 := Scalar.cmpi .sgt c8_i32_481 c0_i32_484
  let v1263 : BitVec 32 := Scalar.extui v1262
  let c0_i32_485 : BitVec 32 := 0#32
  let v1264 : BitVec 1 := Scalar.cmpi .slt c8_i32_481 c0_i32_485
  let v1265 : BitVec 32 := Scalar.extui v1264
  let v1266 : BitVec 32 := Scalar.subi v1263 v1265
  let v1267 : BitVec 1 := Scalar.cmpi .ne v1261 v1266
  let v1268 : BitVec 32 := Scalar.remsi v1255 c8_i32_481
  let c0_i32_486 : BitVec 32 := 0#32
  let v1269 : BitVec 1 := Scalar.cmpi .ne v1268 c0_i32_486
  let v1270 : BitVec 1 := Scalar.andi v1267 v1269
  let v1256 : BitVec 32 := Scalar.divsi v1255 c8_i32_481
  let c1_i32_487 : BitVec 32 := 1#32
  let v1271 : BitVec 32 := Scalar.subi v1256 c1_i32_487
  let v1272 : BitVec 32 := Scalar.select v1270 v1271 v1256
  let c8_i32_488 : BitVec 32 := 8#32
  let v1273 : BitVec 32 := Scalar.muli v1272 c8_i32_488
  let v1274 : BitVec 32 := v1273
  let c0_i32_493 : BitVec 32 := 0#32
  ![v1274.toNat, 0]
def k0_off16 (v1279 : BitVec 32) : Fin 1 → Nat :=
  let v1280 : Index := Scalar.indexCast v1279
  ![v1280.toNat]

def k0_chk11 (i : grid0.Coords) (v1279 : BitVec 32) : Prop :=
  (∀ (k0_h1 : k0_cond1 i = 1#1), ∀ a, (k0_off16 v1279) a + S1.size a ≤ S11.size a)
theorem k0_off16_inb : ∀ (i : grid0.Coords) (v1279 : BitVec 32) (k0_hw11 : k0_chk11 i v1279), ∀ (k0_h1 : k0_cond1 i = 1#1), ∀ a, (k0_off16 v1279) a + S1.size a ≤ S11.size a := fun i v1279 k0_hw11 k0_h1 => k0_hw11 k0_h1

def k0_mult6 (v1281 : BitVec 32) : BitVec 32 :=
  let c0_i32_496 : BitVec 32 := 0#32
  let v1283 : BitVec 1 := Scalar.cmpi .sgt v1281 c0_i32_496
  let v1284 : BitVec 32 := Scalar.extui v1283
  let c0_i32_497 : BitVec 32 := 0#32
  let v1285 : BitVec 1 := Scalar.cmpi .slt v1281 c0_i32_497
  let v1286 : BitVec 32 := Scalar.extui v1285
  let v1287 : BitVec 32 := Scalar.subi v1284 v1286
  let c8_i32_495 : BitVec 32 := 8#32
  let c0_i32_498 : BitVec 32 := 0#32
  let v1288 : BitVec 1 := Scalar.cmpi .sgt c8_i32_495 c0_i32_498
  let v1289 : BitVec 32 := Scalar.extui v1288
  let c0_i32_499 : BitVec 32 := 0#32
  let v1290 : BitVec 1 := Scalar.cmpi .slt c8_i32_495 c0_i32_499
  let v1291 : BitVec 32 := Scalar.extui v1290
  let v1292 : BitVec 32 := Scalar.subi v1289 v1291
  let v1293 : BitVec 1 := Scalar.cmpi .ne v1287 v1292
  let v1294 : BitVec 32 := Scalar.remsi v1281 c8_i32_495
  let c0_i32_500 : BitVec 32 := 0#32
  let v1295 : BitVec 1 := Scalar.cmpi .ne v1294 c0_i32_500
  let v1296 : BitVec 1 := Scalar.andi v1293 v1295
  let v1282 : BitVec 32 := Scalar.divsi v1281 c8_i32_495
  let c1_i32_501 : BitVec 32 := 1#32
  let v1297 : BitVec 32 := Scalar.subi v1282 c1_i32_501
  let v1298 : BitVec 32 := Scalar.select v1296 v1297 v1282
  let c8_i32_502 : BitVec 32 := 8#32
  let v1299 : BitVec 32 := Scalar.muli v1298 c8_i32_502
  v1299

def k0_off17 (v1281 : BitVec 32) : Fin 2 → Nat :=
  let c0_i32_496 : BitVec 32 := 0#32
  let v1283 : BitVec 1 := Scalar.cmpi .sgt v1281 c0_i32_496
  let v1284 : BitVec 32 := Scalar.extui v1283
  let c0_i32_497 : BitVec 32 := 0#32
  let v1285 : BitVec 1 := Scalar.cmpi .slt v1281 c0_i32_497
  let v1286 : BitVec 32 := Scalar.extui v1285
  let v1287 : BitVec 32 := Scalar.subi v1284 v1286
  let c8_i32_495 : BitVec 32 := 8#32
  let c0_i32_498 : BitVec 32 := 0#32
  let v1288 : BitVec 1 := Scalar.cmpi .sgt c8_i32_495 c0_i32_498
  let v1289 : BitVec 32 := Scalar.extui v1288
  let c0_i32_499 : BitVec 32 := 0#32
  let v1290 : BitVec 1 := Scalar.cmpi .slt c8_i32_495 c0_i32_499
  let v1291 : BitVec 32 := Scalar.extui v1290
  let v1292 : BitVec 32 := Scalar.subi v1289 v1291
  let v1293 : BitVec 1 := Scalar.cmpi .ne v1287 v1292
  let v1294 : BitVec 32 := Scalar.remsi v1281 c8_i32_495
  let c0_i32_500 : BitVec 32 := 0#32
  let v1295 : BitVec 1 := Scalar.cmpi .ne v1294 c0_i32_500
  let v1296 : BitVec 1 := Scalar.andi v1293 v1295
  let v1282 : BitVec 32 := Scalar.divsi v1281 c8_i32_495
  let c1_i32_501 : BitVec 32 := 1#32
  let v1297 : BitVec 32 := Scalar.subi v1282 c1_i32_501
  let v1298 : BitVec 32 := Scalar.select v1296 v1297 v1282
  let c8_i32_502 : BitVec 32 := 8#32
  let v1299 : BitVec 32 := Scalar.muli v1298 c8_i32_502
  let v1300 : BitVec 32 := v1299
  let c0_i32_504 : BitVec 32 := 0#32
  ![v1300.toNat, 0]
def k0_off18 (v1281 : BitVec 32) : Fin 2 → Nat :=
  let c0_i32_496 : BitVec 32 := 0#32
  let v1283 : BitVec 1 := Scalar.cmpi .sgt v1281 c0_i32_496
  let v1284 : BitVec 32 := Scalar.extui v1283
  let c0_i32_497 : BitVec 32 := 0#32
  let v1285 : BitVec 1 := Scalar.cmpi .slt v1281 c0_i32_497
  let v1286 : BitVec 32 := Scalar.extui v1285
  let v1287 : BitVec 32 := Scalar.subi v1284 v1286
  let c8_i32_495 : BitVec 32 := 8#32
  let c0_i32_498 : BitVec 32 := 0#32
  let v1288 : BitVec 1 := Scalar.cmpi .sgt c8_i32_495 c0_i32_498
  let v1289 : BitVec 32 := Scalar.extui v1288
  let c0_i32_499 : BitVec 32 := 0#32
  let v1290 : BitVec 1 := Scalar.cmpi .slt c8_i32_495 c0_i32_499
  let v1291 : BitVec 32 := Scalar.extui v1290
  let v1292 : BitVec 32 := Scalar.subi v1289 v1291
  let v1293 : BitVec 1 := Scalar.cmpi .ne v1287 v1292
  let v1294 : BitVec 32 := Scalar.remsi v1281 c8_i32_495
  let c0_i32_500 : BitVec 32 := 0#32
  let v1295 : BitVec 1 := Scalar.cmpi .ne v1294 c0_i32_500
  let v1296 : BitVec 1 := Scalar.andi v1293 v1295
  let v1282 : BitVec 32 := Scalar.divsi v1281 c8_i32_495
  let c1_i32_501 : BitVec 32 := 1#32
  let v1297 : BitVec 32 := Scalar.subi v1282 c1_i32_501
  let v1298 : BitVec 32 := Scalar.select v1296 v1297 v1282
  let c8_i32_502 : BitVec 32 := 8#32
  let v1299 : BitVec 32 := Scalar.muli v1298 c8_i32_502
  let v1300 : BitVec 32 := v1299
  let c0_i32_507 : BitVec 32 := 0#32
  ![v1300.toNat, 0]

def k0_chk12 (i : grid0.Coords) (v1281 : BitVec 32) : Prop :=
  (∀ (k0_h1 : k0_cond1 i = 1#1), 8 ∣ (k0_mult6 v1281).toNat) ∧
  (∀ (k0_h1 : k0_cond1 i = 1#1), ∀ a, (k0_off17 v1281) a + S72x4096.size a ≤ S900x4096.size a) ∧
  (∀ (k0_h1 : k0_cond1 i = 1#1), ∀ (hinb : ∀ a, (k0_off17 v1281) a + S72x4096.size a ≤ S900x4096.size a), (Rect.unit (s := S900x4096) (k0_off17 v1281) S72x4096.size hinb).WholeWords (EltTy.packing .bf16)) ∧
  (∀ (k0_h1 : k0_cond1 i = 1#1), ∀ a, (k0_off18 v1281) a + S72x14336.size a ≤ S900x14336.size a) ∧
  (∀ (k0_h1 : k0_cond1 i = 1#1), ∀ (hinb : ∀ a, (k0_off18 v1281) a + S72x14336.size a ≤ S900x14336.size a), (Rect.unit (s := S900x14336) (k0_off18 v1281) S72x14336.size hinb).WholeWords (EltTy.packing .bf16))
theorem k0_mult6_dvd : ∀ (i : grid0.Coords) (v1281 : BitVec 32) (k0_hw12 : k0_chk12 i v1281), ∀ (k0_h1 : k0_cond1 i = 1#1), 8 ∣ (k0_mult6 v1281).toNat := fun i v1281 k0_hw12 k0_h1 => k0_hw12.1 k0_h1
theorem k0_off17_inb : ∀ (i : grid0.Coords) (v1281 : BitVec 32) (k0_hw12 : k0_chk12 i v1281), ∀ (k0_h1 : k0_cond1 i = 1#1), ∀ a, (k0_off17 v1281) a + S72x4096.size a ≤ S900x4096.size a := fun i v1281 k0_hw12 k0_h1 => k0_hw12.2.1 k0_h1
theorem k0_off17_wordsbf16 : ∀ (i : grid0.Coords) (v1281 : BitVec 32) (k0_hw12 : k0_chk12 i v1281), ∀ (k0_h1 : k0_cond1 i = 1#1), (Rect.unit (s := S900x4096) (k0_off17 v1281) S72x4096.size (k0_off17_inb i v1281 k0_hw12 k0_h1)).WholeWords (EltTy.packing .bf16) := fun i v1281 k0_hw12 k0_h1 => k0_hw12.2.2.1 k0_h1 (k0_off17_inb i v1281 k0_hw12 k0_h1)
theorem k0_off18_inb : ∀ (i : grid0.Coords) (v1281 : BitVec 32) (k0_hw12 : k0_chk12 i v1281), ∀ (k0_h1 : k0_cond1 i = 1#1), ∀ a, (k0_off18 v1281) a + S72x14336.size a ≤ S900x14336.size a := fun i v1281 k0_hw12 k0_h1 => k0_hw12.2.2.2.1 k0_h1
theorem k0_off18_wordsbf16 : ∀ (i : grid0.Coords) (v1281 : BitVec 32) (k0_hw12 : k0_chk12 i v1281), ∀ (k0_h1 : k0_cond1 i = 1#1), (Rect.unit (s := S900x14336) (k0_off18 v1281) S72x14336.size (k0_off18_inb i v1281 k0_hw12 k0_h1)).WholeWords (EltTy.packing .bf16) := fun i v1281 k0_hw12 k0_h1 => k0_hw12.2.2.2.2 k0_h1 (k0_off18_inb i v1281 k0_hw12 k0_h1)

def k0_off19 (v1151 : BitVec 32) : Fin 2 → Nat :=
  let c0_i32_425 : BitVec 32 := 0#32
  let v1153 : BitVec 1 := Scalar.cmpi .sgt v1151 c0_i32_425
  let v1154 : BitVec 32 := Scalar.extui v1153
  let c0_i32_426 : BitVec 32 := 0#32
  let v1155 : BitVec 1 := Scalar.cmpi .slt v1151 c0_i32_426
  let v1156 : BitVec 32 := Scalar.extui v1155
  let v1157 : BitVec 32 := Scalar.subi v1154 v1156
  let c8_i32_424 : BitVec 32 := 8#32
  let c0_i32_427 : BitVec 32 := 0#32
  let v1158 : BitVec 1 := Scalar.cmpi .sgt c8_i32_424 c0_i32_427
  let v1159 : BitVec 32 := Scalar.extui v1158
  let c0_i32_428 : BitVec 32 := 0#32
  let v1160 : BitVec 1 := Scalar.cmpi .slt c8_i32_424 c0_i32_428
  let v1161 : BitVec 32 := Scalar.extui v1160
  let v1162 : BitVec 32 := Scalar.subi v1159 v1161
  let v1163 : BitVec 1 := Scalar.cmpi .ne v1157 v1162
  let v1164 : BitVec 32 := Scalar.remsi v1151 c8_i32_424
  let c0_i32_429 : BitVec 32 := 0#32
  let v1165 : BitVec 1 := Scalar.cmpi .ne v1164 c0_i32_429
  let v1166 : BitVec 1 := Scalar.andi v1163 v1165
  let v1152 : BitVec 32 := Scalar.divsi v1151 c8_i32_424
  let c1_i32_430 : BitVec 32 := 1#32
  let v1167 : BitVec 32 := Scalar.subi v1152 c1_i32_430
  let v1168 : BitVec 32 := Scalar.select v1166 v1167 v1152
  let c8_i32_431 : BitVec 32 := 8#32
  let v1169 : BitVec 32 := Scalar.muli v1168 c8_i32_431
  let v1170 : BitVec 32 := v1169
  let c0_i32_516 : BitVec 32 := 0#32
  ![v1170.toNat, 0]
def k0_off20 (v1151 : BitVec 32) : Fin 2 → Nat :=
  let c0_i32_425 : BitVec 32 := 0#32
  let v1153 : BitVec 1 := Scalar.cmpi .sgt v1151 c0_i32_425
  let v1154 : BitVec 32 := Scalar.extui v1153
  let c0_i32_426 : BitVec 32 := 0#32
  let v1155 : BitVec 1 := Scalar.cmpi .slt v1151 c0_i32_426
  let v1156 : BitVec 32 := Scalar.extui v1155
  let v1157 : BitVec 32 := Scalar.subi v1154 v1156
  let c8_i32_424 : BitVec 32 := 8#32
  let c0_i32_427 : BitVec 32 := 0#32
  let v1158 : BitVec 1 := Scalar.cmpi .sgt c8_i32_424 c0_i32_427
  let v1159 : BitVec 32 := Scalar.extui v1158
  let c0_i32_428 : BitVec 32 := 0#32
  let v1160 : BitVec 1 := Scalar.cmpi .slt c8_i32_424 c0_i32_428
  let v1161 : BitVec 32 := Scalar.extui v1160
  let v1162 : BitVec 32 := Scalar.subi v1159 v1161
  let v1163 : BitVec 1 := Scalar.cmpi .ne v1157 v1162
  let v1164 : BitVec 32 := Scalar.remsi v1151 c8_i32_424
  let c0_i32_429 : BitVec 32 := 0#32
  let v1165 : BitVec 1 := Scalar.cmpi .ne v1164 c0_i32_429
  let v1166 : BitVec 1 := Scalar.andi v1163 v1165
  let v1152 : BitVec 32 := Scalar.divsi v1151 c8_i32_424
  let c1_i32_430 : BitVec 32 := 1#32
  let v1167 : BitVec 32 := Scalar.subi v1152 c1_i32_430
  let v1168 : BitVec 32 := Scalar.select v1166 v1167 v1152
  let c8_i32_431 : BitVec 32 := 8#32
  let v1169 : BitVec 32 := Scalar.muli v1168 c8_i32_431
  let v1170 : BitVec 32 := v1169
  let c0_i32_519 : BitVec 32 := 0#32
  ![v1170.toNat, 0]

def k0_chk2 (i : grid0.Coords) (v1151 : BitVec 32) : Prop :=
  (∀ (k0_h1 : k0_cond1 i = 1#1), 8 ∣ (k0_mult1 v1151).toNat) ∧
  (∀ (k0_h1 : k0_cond1 i = 1#1), ∀ a, (k0_off2 v1151) a + S72x4096.size a ≤ S900x4096.size a) ∧
  (∀ (k0_h1 : k0_cond1 i = 1#1), ∀ (hinb : ∀ a, (k0_off2 v1151) a + S72x4096.size a ≤ S900x4096.size a), (Rect.unit (s := S900x4096) (k0_off2 v1151) S72x4096.size hinb).WholeWords (EltTy.packing .bf16)) ∧
  (∀ (k0_h1 : k0_cond1 i = 1#1), ∀ a, (k0_off3 v1151) a + S72x14336.size a ≤ S900x14336.size a) ∧
  (∀ (k0_h1 : k0_cond1 i = 1#1), ∀ (hinb : ∀ a, (k0_off3 v1151) a + S72x14336.size a ≤ S900x14336.size a), (Rect.unit (s := S900x14336) (k0_off3 v1151) S72x14336.size hinb).WholeWords (EltTy.packing .bf16)) ∧
  (∀ (k0_h1 : k0_cond1 i = 1#1), ∀ a, (k0_off19 v1151) a + S72x4096.size a ≤ S900x4096.size a) ∧
  (∀ (k0_h1 : k0_cond1 i = 1#1), ∀ (hinb : ∀ a, (k0_off19 v1151) a + S72x4096.size a ≤ S900x4096.size a), (Rect.unit (s := S900x4096) (k0_off19 v1151) S72x4096.size hinb).WholeWords (EltTy.packing .bf16)) ∧
  (∀ (k0_h1 : k0_cond1 i = 1#1), ∀ a, (k0_off20 v1151) a + S72x14336.size a ≤ S900x14336.size a) ∧
  (∀ (k0_h1 : k0_cond1 i = 1#1), ∀ (hinb : ∀ a, (k0_off20 v1151) a + S72x14336.size a ≤ S900x14336.size a), (Rect.unit (s := S900x14336) (k0_off20 v1151) S72x14336.size hinb).WholeWords (EltTy.packing .bf16))
theorem k0_mult1_dvd : ∀ (i : grid0.Coords) (v1151 : BitVec 32) (k0_hw2 : k0_chk2 i v1151), ∀ (k0_h1 : k0_cond1 i = 1#1), 8 ∣ (k0_mult1 v1151).toNat := fun i v1151 k0_hw2 k0_h1 => k0_hw2.1 k0_h1
theorem k0_off2_inb : ∀ (i : grid0.Coords) (v1151 : BitVec 32) (k0_hw2 : k0_chk2 i v1151), ∀ (k0_h1 : k0_cond1 i = 1#1), ∀ a, (k0_off2 v1151) a + S72x4096.size a ≤ S900x4096.size a := fun i v1151 k0_hw2 k0_h1 => k0_hw2.2.1 k0_h1
theorem k0_off2_wordsbf16 : ∀ (i : grid0.Coords) (v1151 : BitVec 32) (k0_hw2 : k0_chk2 i v1151), ∀ (k0_h1 : k0_cond1 i = 1#1), (Rect.unit (s := S900x4096) (k0_off2 v1151) S72x4096.size (k0_off2_inb i v1151 k0_hw2 k0_h1)).WholeWords (EltTy.packing .bf16) := fun i v1151 k0_hw2 k0_h1 => k0_hw2.2.2.1 k0_h1 (k0_off2_inb i v1151 k0_hw2 k0_h1)
theorem k0_off3_inb : ∀ (i : grid0.Coords) (v1151 : BitVec 32) (k0_hw2 : k0_chk2 i v1151), ∀ (k0_h1 : k0_cond1 i = 1#1), ∀ a, (k0_off3 v1151) a + S72x14336.size a ≤ S900x14336.size a := fun i v1151 k0_hw2 k0_h1 => k0_hw2.2.2.2.1 k0_h1
theorem k0_off3_wordsbf16 : ∀ (i : grid0.Coords) (v1151 : BitVec 32) (k0_hw2 : k0_chk2 i v1151), ∀ (k0_h1 : k0_cond1 i = 1#1), (Rect.unit (s := S900x14336) (k0_off3 v1151) S72x14336.size (k0_off3_inb i v1151 k0_hw2 k0_h1)).WholeWords (EltTy.packing .bf16) := fun i v1151 k0_hw2 k0_h1 => k0_hw2.2.2.2.2.1 k0_h1 (k0_off3_inb i v1151 k0_hw2 k0_h1)
theorem k0_off19_inb : ∀ (i : grid0.Coords) (v1151 : BitVec 32) (k0_hw2 : k0_chk2 i v1151), ∀ (k0_h1 : k0_cond1 i = 1#1), ∀ a, (k0_off19 v1151) a + S72x4096.size a ≤ S900x4096.size a := fun i v1151 k0_hw2 k0_h1 => k0_hw2.2.2.2.2.2.1 k0_h1
theorem k0_off19_wordsbf16 : ∀ (i : grid0.Coords) (v1151 : BitVec 32) (k0_hw2 : k0_chk2 i v1151), ∀ (k0_h1 : k0_cond1 i = 1#1), (Rect.unit (s := S900x4096) (k0_off19 v1151) S72x4096.size (k0_off19_inb i v1151 k0_hw2 k0_h1)).WholeWords (EltTy.packing .bf16) := fun i v1151 k0_hw2 k0_h1 => k0_hw2.2.2.2.2.2.2.1 k0_h1 (k0_off19_inb i v1151 k0_hw2 k0_h1)
theorem k0_off20_inb : ∀ (i : grid0.Coords) (v1151 : BitVec 32) (k0_hw2 : k0_chk2 i v1151), ∀ (k0_h1 : k0_cond1 i = 1#1), ∀ a, (k0_off20 v1151) a + S72x14336.size a ≤ S900x14336.size a := fun i v1151 k0_hw2 k0_h1 => k0_hw2.2.2.2.2.2.2.2.1 k0_h1
theorem k0_off20_wordsbf16 : ∀ (i : grid0.Coords) (v1151 : BitVec 32) (k0_hw2 : k0_chk2 i v1151), ∀ (k0_h1 : k0_cond1 i = 1#1), (Rect.unit (s := S900x14336) (k0_off20 v1151) S72x14336.size (k0_off20_inb i v1151 k0_hw2 k0_h1)).WholeWords (EltTy.packing .bf16) := fun i v1151 k0_hw2 k0_h1 => k0_hw2.2.2.2.2.2.2.2.2 k0_h1 (k0_off20_inb i v1151 k0_hw2 k0_h1)

def k0_off21 (v1177 : BitVec 32) : Fin 2 → Nat :=
  let c0_i32_440 : BitVec 32 := 0#32
  let v1179 : BitVec 1 := Scalar.cmpi .sgt v1177 c0_i32_440
  let v1180 : BitVec 32 := Scalar.extui v1179
  let c0_i32_441 : BitVec 32 := 0#32
  let v1181 : BitVec 1 := Scalar.cmpi .slt v1177 c0_i32_441
  let v1182 : BitVec 32 := Scalar.extui v1181
  let v1183 : BitVec 32 := Scalar.subi v1180 v1182
  let c8_i32_439 : BitVec 32 := 8#32
  let c0_i32_442 : BitVec 32 := 0#32
  let v1184 : BitVec 1 := Scalar.cmpi .sgt c8_i32_439 c0_i32_442
  let v1185 : BitVec 32 := Scalar.extui v1184
  let c0_i32_443 : BitVec 32 := 0#32
  let v1186 : BitVec 1 := Scalar.cmpi .slt c8_i32_439 c0_i32_443
  let v1187 : BitVec 32 := Scalar.extui v1186
  let v1188 : BitVec 32 := Scalar.subi v1185 v1187
  let v1189 : BitVec 1 := Scalar.cmpi .ne v1183 v1188
  let v1190 : BitVec 32 := Scalar.remsi v1177 c8_i32_439
  let c0_i32_444 : BitVec 32 := 0#32
  let v1191 : BitVec 1 := Scalar.cmpi .ne v1190 c0_i32_444
  let v1192 : BitVec 1 := Scalar.andi v1189 v1191
  let v1178 : BitVec 32 := Scalar.divsi v1177 c8_i32_439
  let c1_i32_445 : BitVec 32 := 1#32
  let v1193 : BitVec 32 := Scalar.subi v1178 c1_i32_445
  let v1194 : BitVec 32 := Scalar.select v1192 v1193 v1178
  let c8_i32_446 : BitVec 32 := 8#32
  let v1195 : BitVec 32 := Scalar.muli v1194 c8_i32_446
  let v1196 : BitVec 32 := v1195
  let c0_i32_522 : BitVec 32 := 0#32
  ![v1196.toNat, 0]
def k0_off22 (v1177 : BitVec 32) : Fin 2 → Nat :=
  let c0_i32_440 : BitVec 32 := 0#32
  let v1179 : BitVec 1 := Scalar.cmpi .sgt v1177 c0_i32_440
  let v1180 : BitVec 32 := Scalar.extui v1179
  let c0_i32_441 : BitVec 32 := 0#32
  let v1181 : BitVec 1 := Scalar.cmpi .slt v1177 c0_i32_441
  let v1182 : BitVec 32 := Scalar.extui v1181
  let v1183 : BitVec 32 := Scalar.subi v1180 v1182
  let c8_i32_439 : BitVec 32 := 8#32
  let c0_i32_442 : BitVec 32 := 0#32
  let v1184 : BitVec 1 := Scalar.cmpi .sgt c8_i32_439 c0_i32_442
  let v1185 : BitVec 32 := Scalar.extui v1184
  let c0_i32_443 : BitVec 32 := 0#32
  let v1186 : BitVec 1 := Scalar.cmpi .slt c8_i32_439 c0_i32_443
  let v1187 : BitVec 32 := Scalar.extui v1186
  let v1188 : BitVec 32 := Scalar.subi v1185 v1187
  let v1189 : BitVec 1 := Scalar.cmpi .ne v1183 v1188
  let v1190 : BitVec 32 := Scalar.remsi v1177 c8_i32_439
  let c0_i32_444 : BitVec 32 := 0#32
  let v1191 : BitVec 1 := Scalar.cmpi .ne v1190 c0_i32_444
  let v1192 : BitVec 1 := Scalar.andi v1189 v1191
  let v1178 : BitVec 32 := Scalar.divsi v1177 c8_i32_439
  let c1_i32_445 : BitVec 32 := 1#32
  let v1193 : BitVec 32 := Scalar.subi v1178 c1_i32_445
  let v1194 : BitVec 32 := Scalar.select v1192 v1193 v1178
  let c8_i32_446 : BitVec 32 := 8#32
  let v1195 : BitVec 32 := Scalar.muli v1194 c8_i32_446
  let v1196 : BitVec 32 := v1195
  let c0_i32_525 : BitVec 32 := 0#32
  ![v1196.toNat, 0]

def k0_chk4 (i : grid0.Coords) (v1177 : BitVec 32) : Prop :=
  (∀ (k0_h1 : k0_cond1 i = 1#1), 8 ∣ (k0_mult2 v1177).toNat) ∧
  (∀ (k0_h1 : k0_cond1 i = 1#1), ∀ a, (k0_off5 v1177) a + S72x4096.size a ≤ S900x4096.size a) ∧
  (∀ (k0_h1 : k0_cond1 i = 1#1), ∀ (hinb : ∀ a, (k0_off5 v1177) a + S72x4096.size a ≤ S900x4096.size a), (Rect.unit (s := S900x4096) (k0_off5 v1177) S72x4096.size hinb).WholeWords (EltTy.packing .bf16)) ∧
  (∀ (k0_h1 : k0_cond1 i = 1#1), ∀ a, (k0_off6 v1177) a + S72x14336.size a ≤ S900x14336.size a) ∧
  (∀ (k0_h1 : k0_cond1 i = 1#1), ∀ (hinb : ∀ a, (k0_off6 v1177) a + S72x14336.size a ≤ S900x14336.size a), (Rect.unit (s := S900x14336) (k0_off6 v1177) S72x14336.size hinb).WholeWords (EltTy.packing .bf16)) ∧
  (∀ (k0_h1 : k0_cond1 i = 1#1), ∀ a, (k0_off21 v1177) a + S72x4096.size a ≤ S900x4096.size a) ∧
  (∀ (k0_h1 : k0_cond1 i = 1#1), ∀ (hinb : ∀ a, (k0_off21 v1177) a + S72x4096.size a ≤ S900x4096.size a), (Rect.unit (s := S900x4096) (k0_off21 v1177) S72x4096.size hinb).WholeWords (EltTy.packing .bf16)) ∧
  (∀ (k0_h1 : k0_cond1 i = 1#1), ∀ a, (k0_off22 v1177) a + S72x14336.size a ≤ S900x14336.size a) ∧
  (∀ (k0_h1 : k0_cond1 i = 1#1), ∀ (hinb : ∀ a, (k0_off22 v1177) a + S72x14336.size a ≤ S900x14336.size a), (Rect.unit (s := S900x14336) (k0_off22 v1177) S72x14336.size hinb).WholeWords (EltTy.packing .bf16))
theorem k0_mult2_dvd : ∀ (i : grid0.Coords) (v1177 : BitVec 32) (k0_hw4 : k0_chk4 i v1177), ∀ (k0_h1 : k0_cond1 i = 1#1), 8 ∣ (k0_mult2 v1177).toNat := fun i v1177 k0_hw4 k0_h1 => k0_hw4.1 k0_h1
theorem k0_off5_inb : ∀ (i : grid0.Coords) (v1177 : BitVec 32) (k0_hw4 : k0_chk4 i v1177), ∀ (k0_h1 : k0_cond1 i = 1#1), ∀ a, (k0_off5 v1177) a + S72x4096.size a ≤ S900x4096.size a := fun i v1177 k0_hw4 k0_h1 => k0_hw4.2.1 k0_h1
theorem k0_off5_wordsbf16 : ∀ (i : grid0.Coords) (v1177 : BitVec 32) (k0_hw4 : k0_chk4 i v1177), ∀ (k0_h1 : k0_cond1 i = 1#1), (Rect.unit (s := S900x4096) (k0_off5 v1177) S72x4096.size (k0_off5_inb i v1177 k0_hw4 k0_h1)).WholeWords (EltTy.packing .bf16) := fun i v1177 k0_hw4 k0_h1 => k0_hw4.2.2.1 k0_h1 (k0_off5_inb i v1177 k0_hw4 k0_h1)
theorem k0_off6_inb : ∀ (i : grid0.Coords) (v1177 : BitVec 32) (k0_hw4 : k0_chk4 i v1177), ∀ (k0_h1 : k0_cond1 i = 1#1), ∀ a, (k0_off6 v1177) a + S72x14336.size a ≤ S900x14336.size a := fun i v1177 k0_hw4 k0_h1 => k0_hw4.2.2.2.1 k0_h1
theorem k0_off6_wordsbf16 : ∀ (i : grid0.Coords) (v1177 : BitVec 32) (k0_hw4 : k0_chk4 i v1177), ∀ (k0_h1 : k0_cond1 i = 1#1), (Rect.unit (s := S900x14336) (k0_off6 v1177) S72x14336.size (k0_off6_inb i v1177 k0_hw4 k0_h1)).WholeWords (EltTy.packing .bf16) := fun i v1177 k0_hw4 k0_h1 => k0_hw4.2.2.2.2.1 k0_h1 (k0_off6_inb i v1177 k0_hw4 k0_h1)
theorem k0_off21_inb : ∀ (i : grid0.Coords) (v1177 : BitVec 32) (k0_hw4 : k0_chk4 i v1177), ∀ (k0_h1 : k0_cond1 i = 1#1), ∀ a, (k0_off21 v1177) a + S72x4096.size a ≤ S900x4096.size a := fun i v1177 k0_hw4 k0_h1 => k0_hw4.2.2.2.2.2.1 k0_h1
theorem k0_off21_wordsbf16 : ∀ (i : grid0.Coords) (v1177 : BitVec 32) (k0_hw4 : k0_chk4 i v1177), ∀ (k0_h1 : k0_cond1 i = 1#1), (Rect.unit (s := S900x4096) (k0_off21 v1177) S72x4096.size (k0_off21_inb i v1177 k0_hw4 k0_h1)).WholeWords (EltTy.packing .bf16) := fun i v1177 k0_hw4 k0_h1 => k0_hw4.2.2.2.2.2.2.1 k0_h1 (k0_off21_inb i v1177 k0_hw4 k0_h1)
theorem k0_off22_inb : ∀ (i : grid0.Coords) (v1177 : BitVec 32) (k0_hw4 : k0_chk4 i v1177), ∀ (k0_h1 : k0_cond1 i = 1#1), ∀ a, (k0_off22 v1177) a + S72x14336.size a ≤ S900x14336.size a := fun i v1177 k0_hw4 k0_h1 => k0_hw4.2.2.2.2.2.2.2.1 k0_h1
theorem k0_off22_wordsbf16 : ∀ (i : grid0.Coords) (v1177 : BitVec 32) (k0_hw4 : k0_chk4 i v1177), ∀ (k0_h1 : k0_cond1 i = 1#1), (Rect.unit (s := S900x14336) (k0_off22 v1177) S72x14336.size (k0_off22_inb i v1177 k0_hw4 k0_h1)).WholeWords (EltTy.packing .bf16) := fun i v1177 k0_hw4 k0_h1 => k0_hw4.2.2.2.2.2.2.2.2 k0_h1 (k0_off22_inb i v1177 k0_hw4 k0_h1)

def k0_off23 (v1203 : BitVec 32) : Fin 2 → Nat :=
  let c0_i32_454 : BitVec 32 := 0#32
  let v1205 : BitVec 1 := Scalar.cmpi .sgt v1203 c0_i32_454
  let v1206 : BitVec 32 := Scalar.extui v1205
  let c0_i32_455 : BitVec 32 := 0#32
  let v1207 : BitVec 1 := Scalar.cmpi .slt v1203 c0_i32_455
  let v1208 : BitVec 32 := Scalar.extui v1207
  let v1209 : BitVec 32 := Scalar.subi v1206 v1208
  let c8_i32_453 : BitVec 32 := 8#32
  let c0_i32_456 : BitVec 32 := 0#32
  let v1210 : BitVec 1 := Scalar.cmpi .sgt c8_i32_453 c0_i32_456
  let v1211 : BitVec 32 := Scalar.extui v1210
  let c0_i32_457 : BitVec 32 := 0#32
  let v1212 : BitVec 1 := Scalar.cmpi .slt c8_i32_453 c0_i32_457
  let v1213 : BitVec 32 := Scalar.extui v1212
  let v1214 : BitVec 32 := Scalar.subi v1211 v1213
  let v1215 : BitVec 1 := Scalar.cmpi .ne v1209 v1214
  let v1216 : BitVec 32 := Scalar.remsi v1203 c8_i32_453
  let c0_i32_458 : BitVec 32 := 0#32
  let v1217 : BitVec 1 := Scalar.cmpi .ne v1216 c0_i32_458
  let v1218 : BitVec 1 := Scalar.andi v1215 v1217
  let v1204 : BitVec 32 := Scalar.divsi v1203 c8_i32_453
  let c1_i32_459 : BitVec 32 := 1#32
  let v1219 : BitVec 32 := Scalar.subi v1204 c1_i32_459
  let v1220 : BitVec 32 := Scalar.select v1218 v1219 v1204
  let c8_i32_460 : BitVec 32 := 8#32
  let v1221 : BitVec 32 := Scalar.muli v1220 c8_i32_460
  let v1222 : BitVec 32 := v1221
  let c0_i32_528 : BitVec 32 := 0#32
  ![v1222.toNat, 0]
def k0_off24 (v1203 : BitVec 32) : Fin 2 → Nat :=
  let c0_i32_454 : BitVec 32 := 0#32
  let v1205 : BitVec 1 := Scalar.cmpi .sgt v1203 c0_i32_454
  let v1206 : BitVec 32 := Scalar.extui v1205
  let c0_i32_455 : BitVec 32 := 0#32
  let v1207 : BitVec 1 := Scalar.cmpi .slt v1203 c0_i32_455
  let v1208 : BitVec 32 := Scalar.extui v1207
  let v1209 : BitVec 32 := Scalar.subi v1206 v1208
  let c8_i32_453 : BitVec 32 := 8#32
  let c0_i32_456 : BitVec 32 := 0#32
  let v1210 : BitVec 1 := Scalar.cmpi .sgt c8_i32_453 c0_i32_456
  let v1211 : BitVec 32 := Scalar.extui v1210
  let c0_i32_457 : BitVec 32 := 0#32
  let v1212 : BitVec 1 := Scalar.cmpi .slt c8_i32_453 c0_i32_457
  let v1213 : BitVec 32 := Scalar.extui v1212
  let v1214 : BitVec 32 := Scalar.subi v1211 v1213
  let v1215 : BitVec 1 := Scalar.cmpi .ne v1209 v1214
  let v1216 : BitVec 32 := Scalar.remsi v1203 c8_i32_453
  let c0_i32_458 : BitVec 32 := 0#32
  let v1217 : BitVec 1 := Scalar.cmpi .ne v1216 c0_i32_458
  let v1218 : BitVec 1 := Scalar.andi v1215 v1217
  let v1204 : BitVec 32 := Scalar.divsi v1203 c8_i32_453
  let c1_i32_459 : BitVec 32 := 1#32
  let v1219 : BitVec 32 := Scalar.subi v1204 c1_i32_459
  let v1220 : BitVec 32 := Scalar.select v1218 v1219 v1204
  let c8_i32_460 : BitVec 32 := 8#32
  let v1221 : BitVec 32 := Scalar.muli v1220 c8_i32_460
  let v1222 : BitVec 32 := v1221
  let c0_i32_531 : BitVec 32 := 0#32
  ![v1222.toNat, 0]

def k0_chk6 (i : grid0.Coords) (v1203 : BitVec 32) : Prop :=
  (∀ (k0_h1 : k0_cond1 i = 1#1), 8 ∣ (k0_mult3 v1203).toNat) ∧
  (∀ (k0_h1 : k0_cond1 i = 1#1), ∀ a, (k0_off8 v1203) a + S72x4096.size a ≤ S900x4096.size a) ∧
  (∀ (k0_h1 : k0_cond1 i = 1#1), ∀ (hinb : ∀ a, (k0_off8 v1203) a + S72x4096.size a ≤ S900x4096.size a), (Rect.unit (s := S900x4096) (k0_off8 v1203) S72x4096.size hinb).WholeWords (EltTy.packing .bf16)) ∧
  (∀ (k0_h1 : k0_cond1 i = 1#1), ∀ a, (k0_off9 v1203) a + S72x14336.size a ≤ S900x14336.size a) ∧
  (∀ (k0_h1 : k0_cond1 i = 1#1), ∀ (hinb : ∀ a, (k0_off9 v1203) a + S72x14336.size a ≤ S900x14336.size a), (Rect.unit (s := S900x14336) (k0_off9 v1203) S72x14336.size hinb).WholeWords (EltTy.packing .bf16)) ∧
  (∀ (k0_h1 : k0_cond1 i = 1#1), ∀ a, (k0_off23 v1203) a + S72x4096.size a ≤ S900x4096.size a) ∧
  (∀ (k0_h1 : k0_cond1 i = 1#1), ∀ (hinb : ∀ a, (k0_off23 v1203) a + S72x4096.size a ≤ S900x4096.size a), (Rect.unit (s := S900x4096) (k0_off23 v1203) S72x4096.size hinb).WholeWords (EltTy.packing .bf16)) ∧
  (∀ (k0_h1 : k0_cond1 i = 1#1), ∀ a, (k0_off24 v1203) a + S72x14336.size a ≤ S900x14336.size a) ∧
  (∀ (k0_h1 : k0_cond1 i = 1#1), ∀ (hinb : ∀ a, (k0_off24 v1203) a + S72x14336.size a ≤ S900x14336.size a), (Rect.unit (s := S900x14336) (k0_off24 v1203) S72x14336.size hinb).WholeWords (EltTy.packing .bf16))
theorem k0_mult3_dvd : ∀ (i : grid0.Coords) (v1203 : BitVec 32) (k0_hw6 : k0_chk6 i v1203), ∀ (k0_h1 : k0_cond1 i = 1#1), 8 ∣ (k0_mult3 v1203).toNat := fun i v1203 k0_hw6 k0_h1 => k0_hw6.1 k0_h1
theorem k0_off8_inb : ∀ (i : grid0.Coords) (v1203 : BitVec 32) (k0_hw6 : k0_chk6 i v1203), ∀ (k0_h1 : k0_cond1 i = 1#1), ∀ a, (k0_off8 v1203) a + S72x4096.size a ≤ S900x4096.size a := fun i v1203 k0_hw6 k0_h1 => k0_hw6.2.1 k0_h1
theorem k0_off8_wordsbf16 : ∀ (i : grid0.Coords) (v1203 : BitVec 32) (k0_hw6 : k0_chk6 i v1203), ∀ (k0_h1 : k0_cond1 i = 1#1), (Rect.unit (s := S900x4096) (k0_off8 v1203) S72x4096.size (k0_off8_inb i v1203 k0_hw6 k0_h1)).WholeWords (EltTy.packing .bf16) := fun i v1203 k0_hw6 k0_h1 => k0_hw6.2.2.1 k0_h1 (k0_off8_inb i v1203 k0_hw6 k0_h1)
theorem k0_off9_inb : ∀ (i : grid0.Coords) (v1203 : BitVec 32) (k0_hw6 : k0_chk6 i v1203), ∀ (k0_h1 : k0_cond1 i = 1#1), ∀ a, (k0_off9 v1203) a + S72x14336.size a ≤ S900x14336.size a := fun i v1203 k0_hw6 k0_h1 => k0_hw6.2.2.2.1 k0_h1
theorem k0_off9_wordsbf16 : ∀ (i : grid0.Coords) (v1203 : BitVec 32) (k0_hw6 : k0_chk6 i v1203), ∀ (k0_h1 : k0_cond1 i = 1#1), (Rect.unit (s := S900x14336) (k0_off9 v1203) S72x14336.size (k0_off9_inb i v1203 k0_hw6 k0_h1)).WholeWords (EltTy.packing .bf16) := fun i v1203 k0_hw6 k0_h1 => k0_hw6.2.2.2.2.1 k0_h1 (k0_off9_inb i v1203 k0_hw6 k0_h1)
theorem k0_off23_inb : ∀ (i : grid0.Coords) (v1203 : BitVec 32) (k0_hw6 : k0_chk6 i v1203), ∀ (k0_h1 : k0_cond1 i = 1#1), ∀ a, (k0_off23 v1203) a + S72x4096.size a ≤ S900x4096.size a := fun i v1203 k0_hw6 k0_h1 => k0_hw6.2.2.2.2.2.1 k0_h1
theorem k0_off23_wordsbf16 : ∀ (i : grid0.Coords) (v1203 : BitVec 32) (k0_hw6 : k0_chk6 i v1203), ∀ (k0_h1 : k0_cond1 i = 1#1), (Rect.unit (s := S900x4096) (k0_off23 v1203) S72x4096.size (k0_off23_inb i v1203 k0_hw6 k0_h1)).WholeWords (EltTy.packing .bf16) := fun i v1203 k0_hw6 k0_h1 => k0_hw6.2.2.2.2.2.2.1 k0_h1 (k0_off23_inb i v1203 k0_hw6 k0_h1)
theorem k0_off24_inb : ∀ (i : grid0.Coords) (v1203 : BitVec 32) (k0_hw6 : k0_chk6 i v1203), ∀ (k0_h1 : k0_cond1 i = 1#1), ∀ a, (k0_off24 v1203) a + S72x14336.size a ≤ S900x14336.size a := fun i v1203 k0_hw6 k0_h1 => k0_hw6.2.2.2.2.2.2.2.1 k0_h1
theorem k0_off24_wordsbf16 : ∀ (i : grid0.Coords) (v1203 : BitVec 32) (k0_hw6 : k0_chk6 i v1203), ∀ (k0_h1 : k0_cond1 i = 1#1), (Rect.unit (s := S900x14336) (k0_off24 v1203) S72x14336.size (k0_off24_inb i v1203 k0_hw6 k0_h1)).WholeWords (EltTy.packing .bf16) := fun i v1203 k0_hw6 k0_h1 => k0_hw6.2.2.2.2.2.2.2.2 k0_h1 (k0_off24_inb i v1203 k0_hw6 k0_h1)

def k0_off25 (v1229 : BitVec 32) : Fin 2 → Nat :=
  let c0_i32_468 : BitVec 32 := 0#32
  let v1231 : BitVec 1 := Scalar.cmpi .sgt v1229 c0_i32_468
  let v1232 : BitVec 32 := Scalar.extui v1231
  let c0_i32_469 : BitVec 32 := 0#32
  let v1233 : BitVec 1 := Scalar.cmpi .slt v1229 c0_i32_469
  let v1234 : BitVec 32 := Scalar.extui v1233
  let v1235 : BitVec 32 := Scalar.subi v1232 v1234
  let c8_i32_467 : BitVec 32 := 8#32
  let c0_i32_470 : BitVec 32 := 0#32
  let v1236 : BitVec 1 := Scalar.cmpi .sgt c8_i32_467 c0_i32_470
  let v1237 : BitVec 32 := Scalar.extui v1236
  let c0_i32_471 : BitVec 32 := 0#32
  let v1238 : BitVec 1 := Scalar.cmpi .slt c8_i32_467 c0_i32_471
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_467
  let c0_i32_472 : BitVec 32 := 0#32
  let v1243 : BitVec 1 := Scalar.cmpi .ne v1242 c0_i32_472
  let v1244 : BitVec 1 := Scalar.andi v1241 v1243
  let v1230 : BitVec 32 := Scalar.divsi v1229 c8_i32_467
  let c1_i32_473 : BitVec 32 := 1#32
  let v1245 : BitVec 32 := Scalar.subi v1230 c1_i32_473
  let v1246 : BitVec 32 := Scalar.select v1244 v1245 v1230
  let c8_i32_474 : BitVec 32 := 8#32
  let v1247 : BitVec 32 := Scalar.muli v1246 c8_i32_474
  let v1248 : BitVec 32 := v1247
  let c0_i32_534 : BitVec 32 := 0#32
  ![v1248.toNat, 0]
def k0_off26 (v1229 : BitVec 32) : Fin 2 → Nat :=
  let c0_i32_468 : BitVec 32 := 0#32
  let v1231 : BitVec 1 := Scalar.cmpi .sgt v1229 c0_i32_468
  let v1232 : BitVec 32 := Scalar.extui v1231
  let c0_i32_469 : BitVec 32 := 0#32
  let v1233 : BitVec 1 := Scalar.cmpi .slt v1229 c0_i32_469
  let v1234 : BitVec 32 := Scalar.extui v1233
  let v1235 : BitVec 32 := Scalar.subi v1232 v1234
  let c8_i32_467 : BitVec 32 := 8#32
  let c0_i32_470 : BitVec 32 := 0#32
  let v1236 : BitVec 1 := Scalar.cmpi .sgt c8_i32_467 c0_i32_470
  let v1237 : BitVec 32 := Scalar.extui v1236
  let c0_i32_471 : BitVec 32 := 0#32
  let v1238 : BitVec 1 := Scalar.cmpi .slt c8_i32_467 c0_i32_471
  let v1239 : BitVec 32 := Scalar.extui v1238
  let v1240 : BitVec 32 := Scalar.subi v1237 v1239
  let v1241 : BitVec 1 := Scalar.cmpi .ne v1235 v1240
  let v1242 : BitVec 32 := Scalar.remsi v1229 c8_i32_467
  let c0_i32_472 : BitVec 32 := 0#32
  let v1243 : BitVec 1 := Scalar.cmpi .ne v1242 c0_i32_472
  let v1244 : BitVec 1 := Scalar.andi v1241 v1243
  let v1230 : BitVec 32 := Scalar.divsi v1229 c8_i32_467
  let c1_i32_473 : BitVec 32 := 1#32
  let v1245 : BitVec 32 := Scalar.subi v1230 c1_i32_473
  let v1246 : BitVec 32 := Scalar.select v1244 v1245 v1230
  let c8_i32_474 : BitVec 32 := 8#32
  let v1247 : BitVec 32 := Scalar.muli v1246 c8_i32_474
  let v1248 : BitVec 32 := v1247
  let c0_i32_537 : BitVec 32 := 0#32
  ![v1248.toNat, 0]

def k0_chk8 (i : grid0.Coords) (v1229 : BitVec 32) : Prop :=
  (∀ (k0_h1 : k0_cond1 i = 1#1), 8 ∣ (k0_mult4 v1229).toNat) ∧
  (∀ (k0_h1 : k0_cond1 i = 1#1), ∀ a, (k0_off11 v1229) a + S72x4096.size a ≤ S900x4096.size a) ∧
  (∀ (k0_h1 : k0_cond1 i = 1#1), ∀ (hinb : ∀ a, (k0_off11 v1229) a + S72x4096.size a ≤ S900x4096.size a), (Rect.unit (s := S900x4096) (k0_off11 v1229) S72x4096.size hinb).WholeWords (EltTy.packing .bf16)) ∧
  (∀ (k0_h1 : k0_cond1 i = 1#1), ∀ a, (k0_off12 v1229) a + S72x14336.size a ≤ S900x14336.size a) ∧
  (∀ (k0_h1 : k0_cond1 i = 1#1), ∀ (hinb : ∀ a, (k0_off12 v1229) a + S72x14336.size a ≤ S900x14336.size a), (Rect.unit (s := S900x14336) (k0_off12 v1229) S72x14336.size hinb).WholeWords (EltTy.packing .bf16)) ∧
  (∀ (k0_h1 : k0_cond1 i = 1#1), ∀ a, (k0_off25 v1229) a + S72x4096.size a ≤ S900x4096.size a) ∧
  (∀ (k0_h1 : k0_cond1 i = 1#1), ∀ (hinb : ∀ a, (k0_off25 v1229) a + S72x4096.size a ≤ S900x4096.size a), (Rect.unit (s := S900x4096) (k0_off25 v1229) S72x4096.size hinb).WholeWords (EltTy.packing .bf16)) ∧
  (∀ (k0_h1 : k0_cond1 i = 1#1), ∀ a, (k0_off26 v1229) a + S72x14336.size a ≤ S900x14336.size a) ∧
  (∀ (k0_h1 : k0_cond1 i = 1#1), ∀ (hinb : ∀ a, (k0_off26 v1229) a + S72x14336.size a ≤ S900x14336.size a), (Rect.unit (s := S900x14336) (k0_off26 v1229) S72x14336.size hinb).WholeWords (EltTy.packing .bf16))
theorem k0_mult4_dvd : ∀ (i : grid0.Coords) (v1229 : BitVec 32) (k0_hw8 : k0_chk8 i v1229), ∀ (k0_h1 : k0_cond1 i = 1#1), 8 ∣ (k0_mult4 v1229).toNat := fun i v1229 k0_hw8 k0_h1 => k0_hw8.1 k0_h1
theorem k0_off11_inb : ∀ (i : grid0.Coords) (v1229 : BitVec 32) (k0_hw8 : k0_chk8 i v1229), ∀ (k0_h1 : k0_cond1 i = 1#1), ∀ a, (k0_off11 v1229) a + S72x4096.size a ≤ S900x4096.size a := fun i v1229 k0_hw8 k0_h1 => k0_hw8.2.1 k0_h1
theorem k0_off11_wordsbf16 : ∀ (i : grid0.Coords) (v1229 : BitVec 32) (k0_hw8 : k0_chk8 i v1229), ∀ (k0_h1 : k0_cond1 i = 1#1), (Rect.unit (s := S900x4096) (k0_off11 v1229) S72x4096.size (k0_off11_inb i v1229 k0_hw8 k0_h1)).WholeWords (EltTy.packing .bf16) := fun i v1229 k0_hw8 k0_h1 => k0_hw8.2.2.1 k0_h1 (k0_off11_inb i v1229 k0_hw8 k0_h1)
theorem k0_off12_inb : ∀ (i : grid0.Coords) (v1229 : BitVec 32) (k0_hw8 : k0_chk8 i v1229), ∀ (k0_h1 : k0_cond1 i = 1#1), ∀ a, (k0_off12 v1229) a + S72x14336.size a ≤ S900x14336.size a := fun i v1229 k0_hw8 k0_h1 => k0_hw8.2.2.2.1 k0_h1
theorem k0_off12_wordsbf16 : ∀ (i : grid0.Coords) (v1229 : BitVec 32) (k0_hw8 : k0_chk8 i v1229), ∀ (k0_h1 : k0_cond1 i = 1#1), (Rect.unit (s := S900x14336) (k0_off12 v1229) S72x14336.size (k0_off12_inb i v1229 k0_hw8 k0_h1)).WholeWords (EltTy.packing .bf16) := fun i v1229 k0_hw8 k0_h1 => k0_hw8.2.2.2.2.1 k0_h1 (k0_off12_inb i v1229 k0_hw8 k0_h1)
theorem k0_off25_inb : ∀ (i : grid0.Coords) (v1229 : BitVec 32) (k0_hw8 : k0_chk8 i v1229), ∀ (k0_h1 : k0_cond1 i = 1#1), ∀ a, (k0_off25 v1229) a + S72x4096.size a ≤ S900x4096.size a := fun i v1229 k0_hw8 k0_h1 => k0_hw8.2.2.2.2.2.1 k0_h1
theorem k0_off25_wordsbf16 : ∀ (i : grid0.Coords) (v1229 : BitVec 32) (k0_hw8 : k0_chk8 i v1229), ∀ (k0_h1 : k0_cond1 i = 1#1), (Rect.unit (s := S900x4096) (k0_off25 v1229) S72x4096.size (k0_off25_inb i v1229 k0_hw8 k0_h1)).WholeWords (EltTy.packing .bf16) := fun i v1229 k0_hw8 k0_h1 => k0_hw8.2.2.2.2.2.2.1 k0_h1 (k0_off25_inb i v1229 k0_hw8 k0_h1)
theorem k0_off26_inb : ∀ (i : grid0.Coords) (v1229 : BitVec 32) (k0_hw8 : k0_chk8 i v1229), ∀ (k0_h1 : k0_cond1 i = 1#1), ∀ a, (k0_off26 v1229) a + S72x14336.size a ≤ S900x14336.size a := fun i v1229 k0_hw8 k0_h1 => k0_hw8.2.2.2.2.2.2.2.1 k0_h1
theorem k0_off26_wordsbf16 : ∀ (i : grid0.Coords) (v1229 : BitVec 32) (k0_hw8 : k0_chk8 i v1229), ∀ (k0_h1 : k0_cond1 i = 1#1), (Rect.unit (s := S900x14336) (k0_off26 v1229) S72x14336.size (k0_off26_inb i v1229 k0_hw8 k0_h1)).WholeWords (EltTy.packing .bf16) := fun i v1229 k0_hw8 k0_h1 => k0_hw8.2.2.2.2.2.2.2.2 k0_h1 (k0_off26_inb i v1229 k0_hw8 k0_h1)

def k0_off27 (v1255 : BitVec 32) : Fin 2 → Nat :=
  let c0_i32_482 : BitVec 32 := 0#32
  let v1257 : BitVec 1 := Scalar.cmpi .sgt v1255 c0_i32_482
  let v1258 : BitVec 32 := Scalar.extui v1257
  let c0_i32_483 : BitVec 32 := 0#32
  let v1259 : BitVec 1 := Scalar.cmpi .slt v1255 c0_i32_483
  let v1260 : BitVec 32 := Scalar.extui v1259
  let v1261 : BitVec 32 := Scalar.subi v1258 v1260
  let c8_i32_481 : BitVec 32 := 8#32
  let c0_i32_484 : BitVec 32 := 0#32
  let v1262 : BitVec 1 := Scalar.cmpi .sgt c8_i32_481 c0_i32_484
  let v1263 : BitVec 32 := Scalar.extui v1262
  let c0_i32_485 : BitVec 32 := 0#32
  let v1264 : BitVec 1 := Scalar.cmpi .slt c8_i32_481 c0_i32_485
  let v1265 : BitVec 32 := Scalar.extui v1264
  let v1266 : BitVec 32 := Scalar.subi v1263 v1265
  let v1267 : BitVec 1 := Scalar.cmpi .ne v1261 v1266
  let v1268 : BitVec 32 := Scalar.remsi v1255 c8_i32_481
  let c0_i32_486 : BitVec 32 := 0#32
  let v1269 : BitVec 1 := Scalar.cmpi .ne v1268 c0_i32_486
  let v1270 : BitVec 1 := Scalar.andi v1267 v1269
  let v1256 : BitVec 32 := Scalar.divsi v1255 c8_i32_481
  let c1_i32_487 : BitVec 32 := 1#32
  let v1271 : BitVec 32 := Scalar.subi v1256 c1_i32_487
  let v1272 : BitVec 32 := Scalar.select v1270 v1271 v1256
  let c8_i32_488 : BitVec 32 := 8#32
  let v1273 : BitVec 32 := Scalar.muli v1272 c8_i32_488
  let v1274 : BitVec 32 := v1273
  let c0_i32_540 : BitVec 32 := 0#32
  ![v1274.toNat, 0]
def k0_off28 (v1255 : BitVec 32) : Fin 2 → Nat :=
  let c0_i32_482 : BitVec 32 := 0#32
  let v1257 : BitVec 1 := Scalar.cmpi .sgt v1255 c0_i32_482
  let v1258 : BitVec 32 := Scalar.extui v1257
  let c0_i32_483 : BitVec 32 := 0#32
  let v1259 : BitVec 1 := Scalar.cmpi .slt v1255 c0_i32_483
  let v1260 : BitVec 32 := Scalar.extui v1259
  let v1261 : BitVec 32 := Scalar.subi v1258 v1260
  let c8_i32_481 : BitVec 32 := 8#32
  let c0_i32_484 : BitVec 32 := 0#32
  let v1262 : BitVec 1 := Scalar.cmpi .sgt c8_i32_481 c0_i32_484
  let v1263 : BitVec 32 := Scalar.extui v1262
  let c0_i32_485 : BitVec 32 := 0#32
  let v1264 : BitVec 1 := Scalar.cmpi .slt c8_i32_481 c0_i32_485
  let v1265 : BitVec 32 := Scalar.extui v1264
  let v1266 : BitVec 32 := Scalar.subi v1263 v1265
  let v1267 : BitVec 1 := Scalar.cmpi .ne v1261 v1266
  let v1268 : BitVec 32 := Scalar.remsi v1255 c8_i32_481
  let c0_i32_486 : BitVec 32 := 0#32
  let v1269 : BitVec 1 := Scalar.cmpi .ne v1268 c0_i32_486
  let v1270 : BitVec 1 := Scalar.andi v1267 v1269
  let v1256 : BitVec 32 := Scalar.divsi v1255 c8_i32_481
  let c1_i32_487 : BitVec 32 := 1#32
  let v1271 : BitVec 32 := Scalar.subi v1256 c1_i32_487
  let v1272 : BitVec 32 := Scalar.select v1270 v1271 v1256
  let c8_i32_488 : BitVec 32 := 8#32
  let v1273 : BitVec 32 := Scalar.muli v1272 c8_i32_488
  let v1274 : BitVec 32 := v1273
  let c0_i32_543 : BitVec 32 := 0#32
  ![v1274.toNat, 0]

def k0_chk10 (i : grid0.Coords) (v1255 : BitVec 32) : Prop :=
  (∀ (k0_h1 : k0_cond1 i = 1#1), 8 ∣ (k0_mult5 v1255).toNat) ∧
  (∀ (k0_h1 : k0_cond1 i = 1#1), ∀ a, (k0_off14 v1255) a + S72x4096.size a ≤ S900x4096.size a) ∧
  (∀ (k0_h1 : k0_cond1 i = 1#1), ∀ (hinb : ∀ a, (k0_off14 v1255) a + S72x4096.size a ≤ S900x4096.size a), (Rect.unit (s := S900x4096) (k0_off14 v1255) S72x4096.size hinb).WholeWords (EltTy.packing .bf16)) ∧
  (∀ (k0_h1 : k0_cond1 i = 1#1), ∀ a, (k0_off15 v1255) a + S72x14336.size a ≤ S900x14336.size a) ∧
  (∀ (k0_h1 : k0_cond1 i = 1#1), ∀ (hinb : ∀ a, (k0_off15 v1255) a + S72x14336.size a ≤ S900x14336.size a), (Rect.unit (s := S900x14336) (k0_off15 v1255) S72x14336.size hinb).WholeWords (EltTy.packing .bf16)) ∧
  (∀ (k0_h1 : k0_cond1 i = 1#1), ∀ a, (k0_off27 v1255) a + S72x4096.size a ≤ S900x4096.size a) ∧
  (∀ (k0_h1 : k0_cond1 i = 1#1), ∀ (hinb : ∀ a, (k0_off27 v1255) a + S72x4096.size a ≤ S900x4096.size a), (Rect.unit (s := S900x4096) (k0_off27 v1255) S72x4096.size hinb).WholeWords (EltTy.packing .bf16)) ∧
  (∀ (k0_h1 : k0_cond1 i = 1#1), ∀ a, (k0_off28 v1255) a + S72x14336.size a ≤ S900x14336.size a) ∧
  (∀ (k0_h1 : k0_cond1 i = 1#1), ∀ (hinb : ∀ a, (k0_off28 v1255) a + S72x14336.size a ≤ S900x14336.size a), (Rect.unit (s := S900x14336) (k0_off28 v1255) S72x14336.size hinb).WholeWords (EltTy.packing .bf16))
theorem k0_mult5_dvd : ∀ (i : grid0.Coords) (v1255 : BitVec 32) (k0_hw10 : k0_chk10 i v1255), ∀ (k0_h1 : k0_cond1 i = 1#1), 8 ∣ (k0_mult5 v1255).toNat := fun i v1255 k0_hw10 k0_h1 => k0_hw10.1 k0_h1
theorem k0_off14_inb : ∀ (i : grid0.Coords) (v1255 : BitVec 32) (k0_hw10 : k0_chk10 i v1255), ∀ (k0_h1 : k0_cond1 i = 1#1), ∀ a, (k0_off14 v1255) a + S72x4096.size a ≤ S900x4096.size a := fun i v1255 k0_hw10 k0_h1 => k0_hw10.2.1 k0_h1
theorem k0_off14_wordsbf16 : ∀ (i : grid0.Coords) (v1255 : BitVec 32) (k0_hw10 : k0_chk10 i v1255), ∀ (k0_h1 : k0_cond1 i = 1#1), (Rect.unit (s := S900x4096) (k0_off14 v1255) S72x4096.size (k0_off14_inb i v1255 k0_hw10 k0_h1)).WholeWords (EltTy.packing .bf16) := fun i v1255 k0_hw10 k0_h1 => k0_hw10.2.2.1 k0_h1 (k0_off14_inb i v1255 k0_hw10 k0_h1)
theorem k0_off15_inb : ∀ (i : grid0.Coords) (v1255 : BitVec 32) (k0_hw10 : k0_chk10 i v1255), ∀ (k0_h1 : k0_cond1 i = 1#1), ∀ a, (k0_off15 v1255) a + S72x14336.size a ≤ S900x14336.size a := fun i v1255 k0_hw10 k0_h1 => k0_hw10.2.2.2.1 k0_h1
theorem k0_off15_wordsbf16 : ∀ (i : grid0.Coords) (v1255 : BitVec 32) (k0_hw10 : k0_chk10 i v1255), ∀ (k0_h1 : k0_cond1 i = 1#1), (Rect.unit (s := S900x14336) (k0_off15 v1255) S72x14336.size (k0_off15_inb i v1255 k0_hw10 k0_h1)).WholeWords (EltTy.packing .bf16) := fun i v1255 k0_hw10 k0_h1 => k0_hw10.2.2.2.2.1 k0_h1 (k0_off15_inb i v1255 k0_hw10 k0_h1)
theorem k0_off27_inb : ∀ (i : grid0.Coords) (v1255 : BitVec 32) (k0_hw10 : k0_chk10 i v1255), ∀ (k0_h1 : k0_cond1 i = 1#1), ∀ a, (k0_off27 v1255) a + S72x4096.size a ≤ S900x4096.size a := fun i v1255 k0_hw10 k0_h1 => k0_hw10.2.2.2.2.2.1 k0_h1
theorem k0_off27_wordsbf16 : ∀ (i : grid0.Coords) (v1255 : BitVec 32) (k0_hw10 : k0_chk10 i v1255), ∀ (k0_h1 : k0_cond1 i = 1#1), (Rect.unit (s := S900x4096) (k0_off27 v1255) S72x4096.size (k0_off27_inb i v1255 k0_hw10 k0_h1)).WholeWords (EltTy.packing .bf16) := fun i v1255 k0_hw10 k0_h1 => k0_hw10.2.2.2.2.2.2.1 k0_h1 (k0_off27_inb i v1255 k0_hw10 k0_h1)
theorem k0_off28_inb : ∀ (i : grid0.Coords) (v1255 : BitVec 32) (k0_hw10 : k0_chk10 i v1255), ∀ (k0_h1 : k0_cond1 i = 1#1), ∀ a, (k0_off28 v1255) a + S72x14336.size a ≤ S900x14336.size a := fun i v1255 k0_hw10 k0_h1 => k0_hw10.2.2.2.2.2.2.2.1 k0_h1
theorem k0_off28_wordsbf16 : ∀ (i : grid0.Coords) (v1255 : BitVec 32) (k0_hw10 : k0_chk10 i v1255), ∀ (k0_h1 : k0_cond1 i = 1#1), (Rect.unit (s := S900x14336) (k0_off28 v1255) S72x14336.size (k0_off28_inb i v1255 k0_hw10 k0_h1)).WholeWords (EltTy.packing .bf16) := fun i v1255 k0_hw10 k0_h1 => k0_hw10.2.2.2.2.2.2.2.2 k0_h1 (k0_off28_inb i v1255 k0_hw10 k0_h1)

def k0_off29 (v1348 : BitVec 32) : Fin 1 → Nat :=
  let v1349 : Index := Scalar.indexCast v1348
  ![v1349.toNat]

def k0_mult7 (v1350 : BitVec 32) : BitVec 32 :=
  let c0_i32_560 : BitVec 32 := 0#32
  let v1352 : BitVec 1 := Scalar.cmpi .sgt v1350 c0_i32_560
  let v1353 : BitVec 32 := Scalar.extui v1352
  let c0_i32_561 : BitVec 32 := 0#32
  let v1354 : BitVec 1 := Scalar.cmpi .slt v1350 c0_i32_561
  let v1355 : BitVec 32 := Scalar.extui v1354
  let v1356 : BitVec 32 := Scalar.subi v1353 v1355
  let c8_i32_559 : BitVec 32 := 8#32
  let c0_i32_562 : BitVec 32 := 0#32
  let v1357 : BitVec 1 := Scalar.cmpi .sgt c8_i32_559 c0_i32_562
  let v1358 : BitVec 32 := Scalar.extui v1357
  let c0_i32_563 : BitVec 32 := 0#32
  let v1359 : BitVec 1 := Scalar.cmpi .slt c8_i32_559 c0_i32_563
  let v1360 : BitVec 32 := Scalar.extui v1359
  let v1361 : BitVec 32 := Scalar.subi v1358 v1360
  let v1362 : BitVec 1 := Scalar.cmpi .ne v1356 v1361
  let v1363 : BitVec 32 := Scalar.remsi v1350 c8_i32_559
  let c0_i32_564 : BitVec 32 := 0#32
  let v1364 : BitVec 1 := Scalar.cmpi .ne v1363 c0_i32_564
  let v1365 : BitVec 1 := Scalar.andi v1362 v1364
  let v1351 : BitVec 32 := Scalar.divsi v1350 c8_i32_559
  let c1_i32_565 : BitVec 32 := 1#32
  let v1366 : BitVec 32 := Scalar.subi v1351 c1_i32_565
  let v1367 : BitVec 32 := Scalar.select v1365 v1366 v1351
  let c8_i32_566 : BitVec 32 := 8#32
  let v1368 : BitVec 32 := Scalar.muli v1367 c8_i32_566
  v1368

def k0_chk14 (i : grid0.Coords) (v1350 : BitVec 32) : Prop :=
  (∀ (k0_h1 : k0_cond1 i = 1#1), 8 ∣ (k0_mult7 v1350).toNat)
theorem k0_mult7_dvd : ∀ (i : grid0.Coords) (v1350 : BitVec 32) (k0_hw14 : k0_chk14 i v1350), ∀ (k0_h1 : k0_cond1 i = 1#1), 8 ∣ (k0_mult7 v1350).toNat := fun i v1350 k0_hw14 k0_h1 => k0_hw14 k0_h1

def k0_off30 (v1348 : BitVec 32) : Fin 1 → Nat :=
  let v1370 : Index := Scalar.indexCast v1348
  ![v1370.toNat]

def k0_chk13 (i : grid0.Coords) (v1348 : BitVec 32) : Prop :=
  (∀ (k0_h1 : k0_cond1 i = 1#1), ∀ a, (k0_off29 v1348) a + S1.size a ≤ S11.size a) ∧
  (∀ (k0_h1 : k0_cond1 i = 1#1), ∀ a, (k0_off30 v1348) a + S1.size a ≤ S11.size a)
theorem k0_off29_inb : ∀ (i : grid0.Coords) (v1348 : BitVec 32) (k0_hw13 : k0_chk13 i v1348), ∀ (k0_h1 : k0_cond1 i = 1#1), ∀ a, (k0_off29 v1348) a + S1.size a ≤ S11.size a := fun i v1348 k0_hw13 k0_h1 => k0_hw13.1 k0_h1
theorem k0_off30_inb : ∀ (i : grid0.Coords) (v1348 : BitVec 32) (k0_hw13 : k0_chk13 i v1348), ∀ (k0_h1 : k0_cond1 i = 1#1), ∀ a, (k0_off30 v1348) a + S1.size a ≤ S11.size a := fun i v1348 k0_hw13 k0_h1 => k0_hw13.2 k0_h1

def k0_off31 (v1383 : BitVec 32) : Fin 1 → Nat :=
  let v1384 : Index := Scalar.indexCast v1383
  ![v1384.toNat]

def k0_chk15 (i : grid0.Coords) (v1383 : BitVec 32) : Prop :=
  (∀ (k0_h1 : k0_cond1 i = 1#1), ∀ a, (k0_off31 v1383) a + S1.size a ≤ S11.size a)
theorem k0_off31_inb : ∀ (i : grid0.Coords) (v1383 : BitVec 32) (k0_hw15 : k0_chk15 i v1383), ∀ (k0_h1 : k0_cond1 i = 1#1), ∀ a, (k0_off31 v1383) a + S1.size a ≤ S11.size a := fun i v1383 k0_hw15 k0_h1 => k0_hw15 k0_h1

def k0_off32 (v1405 : BitVec 32) : Fin 1 → Nat :=
  let v1406 : Index := Scalar.indexCast v1405
  ![v1406.toNat]

def k0_mult8 (v1407 : BitVec 32) : BitVec 32 :=
  let c0_i32_575 : BitVec 32 := 0#32
  let v1409 : BitVec 1 := Scalar.cmpi .sgt v1407 c0_i32_575
  let v1410 : BitVec 32 := Scalar.extui v1409
  let c0_i32_576 : BitVec 32 := 0#32
  let v1411 : BitVec 1 := Scalar.cmpi .slt v1407 c0_i32_576
  let v1412 : BitVec 32 := Scalar.extui v1411
  let v1413 : BitVec 32 := Scalar.subi v1410 v1412
  let c8_i32_574 : BitVec 32 := 8#32
  let c0_i32_577 : BitVec 32 := 0#32
  let v1414 : BitVec 1 := Scalar.cmpi .sgt c8_i32_574 c0_i32_577
  let v1415 : BitVec 32 := Scalar.extui v1414
  let c0_i32_578 : BitVec 32 := 0#32
  let v1416 : BitVec 1 := Scalar.cmpi .slt c8_i32_574 c0_i32_578
  let v1417 : BitVec 32 := Scalar.extui v1416
  let v1418 : BitVec 32 := Scalar.subi v1415 v1417
  let v1419 : BitVec 1 := Scalar.cmpi .ne v1413 v1418
  let v1420 : BitVec 32 := Scalar.remsi v1407 c8_i32_574
  let c0_i32_579 : BitVec 32 := 0#32
  let v1421 : BitVec 1 := Scalar.cmpi .ne v1420 c0_i32_579
  let v1422 : BitVec 1 := Scalar.andi v1419 v1421
  let v1408 : BitVec 32 := Scalar.divsi v1407 c8_i32_574
  let c1_i32_580 : BitVec 32 := 1#32
  let v1423 : BitVec 32 := Scalar.subi v1408 c1_i32_580
  let v1424 : BitVec 32 := Scalar.select v1422 v1423 v1408
  let c8_i32_581 : BitVec 32 := 8#32
  let v1425 : BitVec 32 := Scalar.muli v1424 c8_i32_581
  v1425

def k0_chk17 (i : grid0.Coords) (v1407 : BitVec 32) : Prop :=
  (∀ (k0_h1 : k0_cond1 i = 1#1), 8 ∣ (k0_mult8 v1407).toNat)
theorem k0_mult8_dvd : ∀ (i : grid0.Coords) (v1407 : BitVec 32) (k0_hw17 : k0_chk17 i v1407), ∀ (k0_h1 : k0_cond1 i = 1#1), 8 ∣ (k0_mult8 v1407).toNat := fun i v1407 k0_hw17 k0_h1 => k0_hw17 k0_h1

def k0_off33 (v1405 : BitVec 32) : Fin 1 → Nat :=
  let v1427 : Index := Scalar.indexCast v1405
  ![v1427.toNat]

def k0_chk16 (i : grid0.Coords) (v1405 : BitVec 32) : Prop :=
  (∀ (k0_h1 : k0_cond1 i = 1#1), ∀ a, (k0_off32 v1405) a + S1.size a ≤ S11.size a) ∧
  (∀ (k0_h1 : k0_cond1 i = 1#1), ∀ a, (k0_off33 v1405) a + S1.size a ≤ S11.size a)
theorem k0_off32_inb : ∀ (i : grid0.Coords) (v1405 : BitVec 32) (k0_hw16 : k0_chk16 i v1405), ∀ (k0_h1 : k0_cond1 i = 1#1), ∀ a, (k0_off32 v1405) a + S1.size a ≤ S11.size a := fun i v1405 k0_hw16 k0_h1 => k0_hw16.1 k0_h1
theorem k0_off33_inb : ∀ (i : grid0.Coords) (v1405 : BitVec 32) (k0_hw16 : k0_chk16 i v1405), ∀ (k0_h1 : k0_cond1 i = 1#1), ∀ a, (k0_off33 v1405) a + S1.size a ≤ S11.size a := fun i v1405 k0_hw16 k0_h1 => k0_hw16.2 k0_h1

def k0_off34 (v1440 : BitVec 32) : Fin 1 → Nat :=
  let v1441 : Index := Scalar.indexCast v1440
  ![v1441.toNat]

def k0_chk18 (i : grid0.Coords) (v1440 : BitVec 32) : Prop :=
  (∀ (k0_h1 : k0_cond1 i = 1#1), ∀ a, (k0_off34 v1440) a + S1.size a ≤ S11.size a)
theorem k0_off34_inb : ∀ (i : grid0.Coords) (v1440 : BitVec 32) (k0_hw18 : k0_chk18 i v1440), ∀ (k0_h1 : k0_cond1 i = 1#1), ∀ a, (k0_off34 v1440) a + S1.size a ≤ S11.size a := fun i v1440 k0_hw18 k0_h1 => k0_hw18 k0_h1

def k0_off35 (v1462 : BitVec 32) : Fin 1 → Nat :=
  let v1463 : Index := Scalar.indexCast v1462
  ![v1463.toNat]

def k0_mult9 (v1464 : BitVec 32) : BitVec 32 :=
  let c0_i32_590 : BitVec 32 := 0#32
  let v1466 : BitVec 1 := Scalar.cmpi .sgt v1464 c0_i32_590
  let v1467 : BitVec 32 := Scalar.extui v1466
  let c0_i32_591 : BitVec 32 := 0#32
  let v1468 : BitVec 1 := Scalar.cmpi .slt v1464 c0_i32_591
  let v1469 : BitVec 32 := Scalar.extui v1468
  let v1470 : BitVec 32 := Scalar.subi v1467 v1469
  let c8_i32_589 : BitVec 32 := 8#32
  let c0_i32_592 : BitVec 32 := 0#32
  let v1471 : BitVec 1 := Scalar.cmpi .sgt c8_i32_589 c0_i32_592
  let v1472 : BitVec 32 := Scalar.extui v1471
  let c0_i32_593 : BitVec 32 := 0#32
  let v1473 : BitVec 1 := Scalar.cmpi .slt c8_i32_589 c0_i32_593
  let v1474 : BitVec 32 := Scalar.extui v1473
  let v1475 : BitVec 32 := Scalar.subi v1472 v1474
  let v1476 : BitVec 1 := Scalar.cmpi .ne v1470 v1475
  let v1477 : BitVec 32 := Scalar.remsi v1464 c8_i32_589
  let c0_i32_594 : BitVec 32 := 0#32
  let v1478 : BitVec 1 := Scalar.cmpi .ne v1477 c0_i32_594
  let v1479 : BitVec 1 := Scalar.andi v1476 v1478
  let v1465 : BitVec 32 := Scalar.divsi v1464 c8_i32_589
  let c1_i32_595 : BitVec 32 := 1#32
  let v1480 : BitVec 32 := Scalar.subi v1465 c1_i32_595
  let v1481 : BitVec 32 := Scalar.select v1479 v1480 v1465
  let c8_i32_596 : BitVec 32 := 8#32
  let v1482 : BitVec 32 := Scalar.muli v1481 c8_i32_596
  v1482

def k0_chk20 (i : grid0.Coords) (v1464 : BitVec 32) : Prop :=
  (∀ (k0_h1 : k0_cond1 i = 1#1), 8 ∣ (k0_mult9 v1464).toNat)
theorem k0_mult9_dvd : ∀ (i : grid0.Coords) (v1464 : BitVec 32) (k0_hw20 : k0_chk20 i v1464), ∀ (k0_h1 : k0_cond1 i = 1#1), 8 ∣ (k0_mult9 v1464).toNat := fun i v1464 k0_hw20 k0_h1 => k0_hw20 k0_h1

def k0_off36 (v1462 : BitVec 32) : Fin 1 → Nat :=
  let v1484 : Index := Scalar.indexCast v1462
  ![v1484.toNat]

def k0_chk19 (i : grid0.Coords) (v1462 : BitVec 32) : Prop :=
  (∀ (k0_h1 : k0_cond1 i = 1#1), ∀ a, (k0_off35 v1462) a + S1.size a ≤ S11.size a) ∧
  (∀ (k0_h1 : k0_cond1 i = 1#1), ∀ a, (k0_off36 v1462) a + S1.size a ≤ S11.size a)
theorem k0_off35_inb : ∀ (i : grid0.Coords) (v1462 : BitVec 32) (k0_hw19 : k0_chk19 i v1462), ∀ (k0_h1 : k0_cond1 i = 1#1), ∀ a, (k0_off35 v1462) a + S1.size a ≤ S11.size a := fun i v1462 k0_hw19 k0_h1 => k0_hw19.1 k0_h1
theorem k0_off36_inb : ∀ (i : grid0.Coords) (v1462 : BitVec 32) (k0_hw19 : k0_chk19 i v1462), ∀ (k0_h1 : k0_cond1 i = 1#1), ∀ a, (k0_off36 v1462) a + S1.size a ≤ S11.size a := fun i v1462 k0_hw19 k0_h1 => k0_hw19.2 k0_h1

def k0_off37 (v1497 : BitVec 32) : Fin 1 → Nat :=
  let v1498 : Index := Scalar.indexCast v1497
  ![v1498.toNat]

def k0_chk21 (i : grid0.Coords) (v1497 : BitVec 32) : Prop :=
  (∀ (k0_h1 : k0_cond1 i = 1#1), ∀ a, (k0_off37 v1497) a + S1.size a ≤ S11.size a)
theorem k0_off37_inb : ∀ (i : grid0.Coords) (v1497 : BitVec 32) (k0_hw21 : k0_chk21 i v1497), ∀ (k0_h1 : k0_cond1 i = 1#1), ∀ a, (k0_off37 v1497) a + S1.size a ≤ S11.size a := fun i v1497 k0_hw21 k0_h1 => k0_hw21 k0_h1

def k0_off38 (v1519 : BitVec 32) : Fin 1 → Nat :=
  let v1520 : Index := Scalar.indexCast v1519
  ![v1520.toNat]

def k0_mult10 (v1521 : BitVec 32) : BitVec 32 :=
  let c0_i32_605 : BitVec 32 := 0#32
  let v1523 : BitVec 1 := Scalar.cmpi .sgt v1521 c0_i32_605
  let v1524 : BitVec 32 := Scalar.extui v1523
  let c0_i32_606 : BitVec 32 := 0#32
  let v1525 : BitVec 1 := Scalar.cmpi .slt v1521 c0_i32_606
  let v1526 : BitVec 32 := Scalar.extui v1525
  let v1527 : BitVec 32 := Scalar.subi v1524 v1526
  let c8_i32_604 : BitVec 32 := 8#32
  let c0_i32_607 : BitVec 32 := 0#32
  let v1528 : BitVec 1 := Scalar.cmpi .sgt c8_i32_604 c0_i32_607
  let v1529 : BitVec 32 := Scalar.extui v1528
  let c0_i32_608 : BitVec 32 := 0#32
  let v1530 : BitVec 1 := Scalar.cmpi .slt c8_i32_604 c0_i32_608
  let v1531 : BitVec 32 := Scalar.extui v1530
  let v1532 : BitVec 32 := Scalar.subi v1529 v1531
  let v1533 : BitVec 1 := Scalar.cmpi .ne v1527 v1532
  let v1534 : BitVec 32 := Scalar.remsi v1521 c8_i32_604
  let c0_i32_609 : BitVec 32 := 0#32
  let v1535 : BitVec 1 := Scalar.cmpi .ne v1534 c0_i32_609
  let v1536 : BitVec 1 := Scalar.andi v1533 v1535
  let v1522 : BitVec 32 := Scalar.divsi v1521 c8_i32_604
  let c1_i32_610 : BitVec 32 := 1#32
  let v1537 : BitVec 32 := Scalar.subi v1522 c1_i32_610
  let v1538 : BitVec 32 := Scalar.select v1536 v1537 v1522
  let c8_i32_611 : BitVec 32 := 8#32
  let v1539 : BitVec 32 := Scalar.muli v1538 c8_i32_611
  v1539

def k0_chk23 (i : grid0.Coords) (v1521 : BitVec 32) : Prop :=
  (∀ (k0_h1 : k0_cond1 i = 1#1), 8 ∣ (k0_mult10 v1521).toNat)
theorem k0_mult10_dvd : ∀ (i : grid0.Coords) (v1521 : BitVec 32) (k0_hw23 : k0_chk23 i v1521), ∀ (k0_h1 : k0_cond1 i = 1#1), 8 ∣ (k0_mult10 v1521).toNat := fun i v1521 k0_hw23 k0_h1 => k0_hw23 k0_h1

def k0_off39 (v1519 : BitVec 32) : Fin 1 → Nat :=
  let v1541 : Index := Scalar.indexCast v1519
  ![v1541.toNat]

def k0_chk22 (i : grid0.Coords) (v1519 : BitVec 32) : Prop :=
  (∀ (k0_h1 : k0_cond1 i = 1#1), ∀ a, (k0_off38 v1519) a + S1.size a ≤ S11.size a) ∧
  (∀ (k0_h1 : k0_cond1 i = 1#1), ∀ a, (k0_off39 v1519) a + S1.size a ≤ S11.size a)
theorem k0_off38_inb : ∀ (i : grid0.Coords) (v1519 : BitVec 32) (k0_hw22 : k0_chk22 i v1519), ∀ (k0_h1 : k0_cond1 i = 1#1), ∀ a, (k0_off38 v1519) a + S1.size a ≤ S11.size a := fun i v1519 k0_hw22 k0_h1 => k0_hw22.1 k0_h1
theorem k0_off39_inb : ∀ (i : grid0.Coords) (v1519 : BitVec 32) (k0_hw22 : k0_chk22 i v1519), ∀ (k0_h1 : k0_cond1 i = 1#1), ∀ a, (k0_off39 v1519) a + S1.size a ≤ S11.size a := fun i v1519 k0_hw22 k0_h1 => k0_hw22.2 k0_h1

def k0_off40 (v1554 : BitVec 32) : Fin 1 → Nat :=
  let v1555 : Index := Scalar.indexCast v1554
  ![v1555.toNat]

def k0_chk24 (i : grid0.Coords) (v1554 : BitVec 32) : Prop :=
  (∀ (k0_h1 : k0_cond1 i = 1#1), ∀ a, (k0_off40 v1554) a + S1.size a ≤ S11.size a)
theorem k0_off40_inb : ∀ (i : grid0.Coords) (v1554 : BitVec 32) (k0_hw24 : k0_chk24 i v1554), ∀ (k0_h1 : k0_cond1 i = 1#1), ∀ a, (k0_off40 v1554) a + S1.size a ≤ S11.size a := fun i v1554 k0_hw24 k0_h1 => k0_hw24 k0_h1

def k0_off41 (v1576 : BitVec 32) : Fin 1 → Nat :=
  let v1577 : Index := Scalar.indexCast v1576
  ![v1577.toNat]

def k0_mult11 (v1578 : BitVec 32) : BitVec 32 :=
  let c0_i32_620 : BitVec 32 := 0#32
  let v1580 : BitVec 1 := Scalar.cmpi .sgt v1578 c0_i32_620
  let v1581 : BitVec 32 := Scalar.extui v1580
  let c0_i32_621 : BitVec 32 := 0#32
  let v1582 : BitVec 1 := Scalar.cmpi .slt v1578 c0_i32_621
  let v1583 : BitVec 32 := Scalar.extui v1582
  let v1584 : BitVec 32 := Scalar.subi v1581 v1583
  let c8_i32_619 : BitVec 32 := 8#32
  let c0_i32_622 : BitVec 32 := 0#32
  let v1585 : BitVec 1 := Scalar.cmpi .sgt c8_i32_619 c0_i32_622
  let v1586 : BitVec 32 := Scalar.extui v1585
  let c0_i32_623 : BitVec 32 := 0#32
  let v1587 : BitVec 1 := Scalar.cmpi .slt c8_i32_619 c0_i32_623
  let v1588 : BitVec 32 := Scalar.extui v1587
  let v1589 : BitVec 32 := Scalar.subi v1586 v1588
  let v1590 : BitVec 1 := Scalar.cmpi .ne v1584 v1589
  let v1591 : BitVec 32 := Scalar.remsi v1578 c8_i32_619
  let c0_i32_624 : BitVec 32 := 0#32
  let v1592 : BitVec 1 := Scalar.cmpi .ne v1591 c0_i32_624
  let v1593 : BitVec 1 := Scalar.andi v1590 v1592
  let v1579 : BitVec 32 := Scalar.divsi v1578 c8_i32_619
  let c1_i32_625 : BitVec 32 := 1#32
  let v1594 : BitVec 32 := Scalar.subi v1579 c1_i32_625
  let v1595 : BitVec 32 := Scalar.select v1593 v1594 v1579
  let c8_i32_626 : BitVec 32 := 8#32
  let v1596 : BitVec 32 := Scalar.muli v1595 c8_i32_626
  v1596

def k0_chk26 (i : grid0.Coords) (v1578 : BitVec 32) : Prop :=
  (∀ (k0_h1 : k0_cond1 i = 1#1), 8 ∣ (k0_mult11 v1578).toNat)
theorem k0_mult11_dvd : ∀ (i : grid0.Coords) (v1578 : BitVec 32) (k0_hw26 : k0_chk26 i v1578), ∀ (k0_h1 : k0_cond1 i = 1#1), 8 ∣ (k0_mult11 v1578).toNat := fun i v1578 k0_hw26 k0_h1 => k0_hw26 k0_h1

def k0_off42 (v1576 : BitVec 32) : Fin 1 → Nat :=
  let v1598 : Index := Scalar.indexCast v1576
  ![v1598.toNat]

def k0_chk25 (i : grid0.Coords) (v1576 : BitVec 32) : Prop :=
  (∀ (k0_h1 : k0_cond1 i = 1#1), ∀ a, (k0_off41 v1576) a + S1.size a ≤ S11.size a) ∧
  (∀ (k0_h1 : k0_cond1 i = 1#1), ∀ a, (k0_off42 v1576) a + S1.size a ≤ S11.size a)
theorem k0_off41_inb : ∀ (i : grid0.Coords) (v1576 : BitVec 32) (k0_hw25 : k0_chk25 i v1576), ∀ (k0_h1 : k0_cond1 i = 1#1), ∀ a, (k0_off41 v1576) a + S1.size a ≤ S11.size a := fun i v1576 k0_hw25 k0_h1 => k0_hw25.1 k0_h1
theorem k0_off42_inb : ∀ (i : grid0.Coords) (v1576 : BitVec 32) (k0_hw25 : k0_chk25 i v1576), ∀ (k0_h1 : k0_cond1 i = 1#1), ∀ a, (k0_off42 v1576) a + S1.size a ≤ S11.size a := fun i v1576 k0_hw25 k0_h1 => k0_hw25.2 k0_h1

def k0_off43 (v1611 : BitVec 32) : Fin 1 → Nat :=
  let v1612 : Index := Scalar.indexCast v1611
  ![v1612.toNat]

def k0_chk27 (i : grid0.Coords) (v1611 : BitVec 32) : Prop :=
  (∀ (k0_h1 : k0_cond1 i = 1#1), ∀ a, (k0_off43 v1611) a + S1.size a ≤ S11.size a)
theorem k0_off43_inb : ∀ (i : grid0.Coords) (v1611 : BitVec 32) (k0_hw27 : k0_chk27 i v1611), ∀ (k0_h1 : k0_cond1 i = 1#1), ∀ a, (k0_off43 v1611) a + S1.size a ≤ S11.size a := fun i v1611 k0_hw27 k0_h1 => k0_hw27 k0_h1

def k0_off44 (v1633 : BitVec 32) : Fin 1 → Nat :=
  let v1634 : Index := Scalar.indexCast v1633
  ![v1634.toNat]

def k0_mult12 (v1635 : BitVec 32) : BitVec 32 :=
  let c0_i32_635 : BitVec 32 := 0#32
  let v1637 : BitVec 1 := Scalar.cmpi .sgt v1635 c0_i32_635
  let v1638 : BitVec 32 := Scalar.extui v1637
  let c0_i32_636 : BitVec 32 := 0#32
  let v1639 : BitVec 1 := Scalar.cmpi .slt v1635 c0_i32_636
  let v1640 : BitVec 32 := Scalar.extui v1639
  let v1641 : BitVec 32 := Scalar.subi v1638 v1640
  let c8_i32_634 : BitVec 32 := 8#32
  let c0_i32_637 : BitVec 32 := 0#32
  let v1642 : BitVec 1 := Scalar.cmpi .sgt c8_i32_634 c0_i32_637
  let v1643 : BitVec 32 := Scalar.extui v1642
  let c0_i32_638 : BitVec 32 := 0#32
  let v1644 : BitVec 1 := Scalar.cmpi .slt c8_i32_634 c0_i32_638
  let v1645 : BitVec 32 := Scalar.extui v1644
  let v1646 : BitVec 32 := Scalar.subi v1643 v1645
  let v1647 : BitVec 1 := Scalar.cmpi .ne v1641 v1646
  let v1648 : BitVec 32 := Scalar.remsi v1635 c8_i32_634
  let c0_i32_639 : BitVec 32 := 0#32
  let v1649 : BitVec 1 := Scalar.cmpi .ne v1648 c0_i32_639
  let v1650 : BitVec 1 := Scalar.andi v1647 v1649
  let v1636 : BitVec 32 := Scalar.divsi v1635 c8_i32_634
  let c1_i32_640 : BitVec 32 := 1#32
  let v1651 : BitVec 32 := Scalar.subi v1636 c1_i32_640
  let v1652 : BitVec 32 := Scalar.select v1650 v1651 v1636
  let c8_i32_641 : BitVec 32 := 8#32
  let v1653 : BitVec 32 := Scalar.muli v1652 c8_i32_641
  v1653

def k0_chk29 (i : grid0.Coords) (v1635 : BitVec 32) : Prop :=
  (∀ (k0_h1 : k0_cond1 i = 1#1), 8 ∣ (k0_mult12 v1635).toNat)
theorem k0_mult12_dvd : ∀ (i : grid0.Coords) (v1635 : BitVec 32) (k0_hw29 : k0_chk29 i v1635), ∀ (k0_h1 : k0_cond1 i = 1#1), 8 ∣ (k0_mult12 v1635).toNat := fun i v1635 k0_hw29 k0_h1 => k0_hw29 k0_h1

def k0_off45 (v1633 : BitVec 32) : Fin 1 → Nat :=
  let v1655 : Index := Scalar.indexCast v1633
  ![v1655.toNat]

def k0_chk28 (i : grid0.Coords) (v1633 : BitVec 32) : Prop :=
  (∀ (k0_h1 : k0_cond1 i = 1#1), ∀ a, (k0_off44 v1633) a + S1.size a ≤ S11.size a) ∧
  (∀ (k0_h1 : k0_cond1 i = 1#1), ∀ a, (k0_off45 v1633) a + S1.size a ≤ S11.size a)
theorem k0_off44_inb : ∀ (i : grid0.Coords) (v1633 : BitVec 32) (k0_hw28 : k0_chk28 i v1633), ∀ (k0_h1 : k0_cond1 i = 1#1), ∀ a, (k0_off44 v1633) a + S1.size a ≤ S11.size a := fun i v1633 k0_hw28 k0_h1 => k0_hw28.1 k0_h1
theorem k0_off45_inb : ∀ (i : grid0.Coords) (v1633 : BitVec 32) (k0_hw28 : k0_chk28 i v1633), ∀ (k0_h1 : k0_cond1 i = 1#1), ∀ a, (k0_off45 v1633) a + S1.size a ≤ S11.size a := fun i v1633 k0_hw28 k0_h1 => k0_hw28.2 k0_h1

def k0_off46 (v1668 : BitVec 32) : Fin 1 → Nat :=
  let v1669 : Index := Scalar.indexCast v1668
  ![v1669.toNat]

def k0_chk30 (i : grid0.Coords) (v1668 : BitVec 32) : Prop :=
  (∀ (k0_h1 : k0_cond1 i = 1#1), ∀ a, (k0_off46 v1668) a + S1.size a ≤ S11.size a)
theorem k0_off46_inb : ∀ (i : grid0.Coords) (v1668 : BitVec 32) (k0_hw30 : k0_chk30 i v1668), ∀ (k0_h1 : k0_cond1 i = 1#1), ∀ a, (k0_off46 v1668) a + S1.size a ≤ S11.size a := fun i v1668 k0_hw30 k0_h1 => k0_hw30 k0_h1

def k0_mult13 (i : grid0.Coords) : BitVec 32 :=
  let arg0 : BitVec 32 := BitVec.ofNat 32 (i 0).val
  let c512_i32 : BitVec 32 := 512#32
  let v1140 : BitVec 32 := Scalar.muli arg0 c512_i32
  v1140
def k0_off47 (i : grid0.Coords) : Fin 2 → Nat :=
  let c0_417 : Index := 0#32
  let arg0 : BitVec 32 := BitVec.ofNat 32 (i 0).val
  let c512_i32 : BitVec 32 := 512#32
  let v1140 : BitVec 32 := Scalar.muli arg0 c512_i32
  let v1141 : BitVec 32 := v1140
  let v1142 : Index := Scalar.indexCast v1141
  ![0, v1142.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S11 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x128x4096 : Shape := ⟨3, ![1, 128, 4096]⟩
abbrev S512x14336 : Shape := ⟨2, ![512, 14336]⟩
abbrev S32x14336 : Shape := ⟨2, ![32, 14336]⟩
abbrev S900x4096 : Shape := ⟨2, ![900, 4096]⟩
abbrev S900x14336 : Shape := ⟨2, ![900, 14336]⟩
abbrev S11 : Shape := ⟨1, ![11]⟩
abbrev S7 : Shape := ⟨1, ![7]⟩
abbrev S6 : Shape := ⟨1, ![6]⟩
abbrev S128x4096 : Shape := ⟨2, ![128, 4096]⟩
abbrev S32x16x14336 : Shape := ⟨3, ![32, 16, 14336]⟩
abbrev S_ : Shape := ⟨0, ![]⟩
abbrev S128x512 : Shape := ⟨2, ![128, 512]⟩
abbrev S128x14336 : Shape := ⟨2, ![128, 14336]⟩
abbrev S64 : Shape := ⟨1, ![64]⟩
abbrev S6x1 : Shape := ⟨2, ![6, 1]⟩
abbrev S1x64 : Shape := ⟨2, ![1, 64]⟩
abbrev S6x64 : Shape := ⟨2, ![6, 64]⟩
abbrev S6x64x1 : Shape := ⟨3, ![6, 64, 1]⟩
abbrev S6x64x4096 : Shape := ⟨3, ![6, 64, 4096]⟩
abbrev S6x64x14336 : Shape := ⟨3, ![6, 64, 14336]⟩
abbrev S128 : Shape := ⟨1, ![128]⟩
abbrev S1x128 : Shape := ⟨2, ![1, 128]⟩
abbrev S6x128 : Shape := ⟨2, ![6, 128]⟩
abbrev S6x128x1 : Shape := ⟨3, ![6, 128, 1]⟩
abbrev S6x64x128 : Shape := ⟨3, ![6, 64, 128]⟩
abbrev S6x128x64 : Shape := ⟨3, ![6, 128, 64]⟩
abbrev S128x64 : Shape := ⟨2, ![128, 64]⟩
abbrev S128x1 : Shape := ⟨2, ![128, 1]⟩
abbrev S6x14336x128 : Shape := ⟨3, ![6, 14336, 128]⟩
abbrev S6x128x14336 : Shape := ⟨3, ![6, 128, 14336]⟩
abbrev S1x128x14336 : Shape := ⟨3, ![1, 128, 14336]⟩

abbrev nBuf : Space → Nat
  | .hbm => 192
  | .vmem => 0
  | .smem => 0
  | _ => 0

abbrev hbmTy0_0 (i : Nat) : BufTy := match i % 128 with
  | 0 => ⟨S1x128x4096, .bf16⟩
  | 1 => ⟨S512x14336, .i32⟩
  | 2 => ⟨S32x14336, .bf16⟩
  | 3 => ⟨S32x14336, .bf16⟩
  | 4 => ⟨S900x4096, .bf16⟩
  | 5 => ⟨S900x14336, .bf16⟩
  | 6 => ⟨S11, .i32⟩
  | 7 => ⟨S11, .i32⟩
  | 8 => ⟨S11, .f32⟩
  | 9 => ⟨S7, .i32⟩
  | 10 => ⟨S6, .i32⟩
  | 11 => ⟨S128x4096, .bf16⟩
  | 12 => ⟨S32x16x14336, .bf16⟩
  | 13 => ⟨S512x14336, .bf16⟩
  | 14 => ⟨S32x16x14336, .bf16⟩
  | 15 => ⟨S512x14336, .bf16⟩
  | 16 => ⟨S_, .i32⟩
  | 17 => ⟨S512x14336, .i32⟩
  | 18 => ⟨S512x14336, .i32⟩
  | 19 => ⟨S_, .i32⟩
  | 20 => ⟨S512x14336, .i32⟩
  | 21 => ⟨S512x14336, .i32⟩
  | 22 => ⟨S512x14336, .bf16⟩
  | 23 => ⟨S512x14336, .bf16⟩
  | 24 => ⟨S512x14336, .bf16⟩
  | 25 => ⟨S128x512, .bf16⟩
  | 26 => ⟨S128x14336, .f32⟩
  | 27 => ⟨S_, .i32⟩
  | 28 => ⟨S512x14336, .i32⟩
  | 29 => ⟨S512x14336, .i32⟩
  | 30 => ⟨S_, .i32⟩
  | 31 => ⟨S512x14336, .i32⟩
  | 32 => ⟨S512x14336, .i32⟩
  | 33 => ⟨S512x14336, .bf16⟩
  | 34 => ⟨S512x14336, .bf16⟩
  | 35 => ⟨S512x14336, .bf16⟩
  | 36 => ⟨S128x512, .bf16⟩
  | 37 => ⟨S128x14336, .f32⟩
  | 38 => ⟨S128x14336, .f32⟩
  | 39 => ⟨S_, .i32⟩
  | 40 => ⟨S512x14336, .i32⟩
  | 41 => ⟨S512x14336, .i32⟩
  | 42 => ⟨S_, .i32⟩
  | 43 => ⟨S512x14336, .i32⟩
  | 44 => ⟨S512x14336, .i32⟩
  | 45 => ⟨S512x14336, .bf16⟩
  | 46 => ⟨S512x14336, .bf16⟩
  | 47 => ⟨S512x14336, .bf16⟩
  | 48 => ⟨S128x512, .bf16⟩
  | 49 => ⟨S128x14336, .f32⟩
  | 50 => ⟨S128x14336, .f32⟩
  | 51 => ⟨S_, .i32⟩
  | 52 => ⟨S512x14336, .i32⟩
  | 53 => ⟨S512x14336, .i32⟩
  | 54 => ⟨S_, .i32⟩
  | 55 => ⟨S512x14336, .i32⟩
  | 56 => ⟨S512x14336, .i32⟩
  | 57 => ⟨S512x14336, .bf16⟩
  | 58 => ⟨S512x14336, .bf16⟩
  | 59 => ⟨S512x14336, .bf16⟩
  | 60 => ⟨S128x512, .bf16⟩
  | 61 => ⟨S128x14336, .f32⟩
  | 62 => ⟨S128x14336, .f32⟩
  | 63 => ⟨S_, .i32⟩
  | 64 => ⟨S512x14336, .i32⟩
  | 65 => ⟨S512x14336, .i32⟩
  | 66 => ⟨S_, .i32⟩
  | 67 => ⟨S512x14336, .i32⟩
  | 68 => ⟨S512x14336, .i32⟩
  | 69 => ⟨S512x14336, .bf16⟩
  | 70 => ⟨S512x14336, .bf16⟩
  | 71 => ⟨S512x14336, .bf16⟩
  | 72 => ⟨S128x512, .bf16⟩
  | 73 => ⟨S128x14336, .f32⟩
  | 74 => ⟨S128x14336, .f32⟩
  | 75 => ⟨S_, .i32⟩
  | 76 => ⟨S512x14336, .i32⟩
  | 77 => ⟨S512x14336, .i32⟩
  | 78 => ⟨S_, .i32⟩
  | 79 => ⟨S512x14336, .i32⟩
  | 80 => ⟨S512x14336, .i32⟩
  | 81 => ⟨S512x14336, .bf16⟩
  | 82 => ⟨S512x14336, .bf16⟩
  | 83 => ⟨S512x14336, .bf16⟩
  | 84 => ⟨S128x512, .bf16⟩
  | 85 => ⟨S128x14336, .f32⟩
  | 86 => ⟨S128x14336, .f32⟩
  | 87 => ⟨S_, .i32⟩
  | 88 => ⟨S512x14336, .i32⟩
  | 89 => ⟨S512x14336, .i32⟩
  | 90 => ⟨S_, .i32⟩
  | 91 => ⟨S512x14336, .i32⟩
  | 92 => ⟨S512x14336, .i32⟩
  | 93 => ⟨S512x14336, .bf16⟩
  | 94 => ⟨S512x14336, .bf16⟩
  | 95 => ⟨S512x14336, .bf16⟩
  | 96 => ⟨S128x512, .bf16⟩
  | 97 => ⟨S128x14336, .f32⟩
  | 98 => ⟨S128x14336, .f32⟩
  | 99 => ⟨S_, .i32⟩
  | 100 => ⟨S512x14336, .i32⟩
  | 101 => ⟨S512x14336, .i32⟩
  | 102 => ⟨S_, .i32⟩
  | 103 => ⟨S512x14336, .i32⟩
  | 104 => ⟨S512x14336, .i32⟩
  | 105 => ⟨S512x14336, .bf16⟩
  | 106 => ⟨S512x14336, .bf16⟩
  | 107 => ⟨S512x14336, .bf16⟩
  | 108 => ⟨S128x512, .bf16⟩
  | 109 => ⟨S128x14336, .f32⟩
  | 110 => ⟨S128x14336, .f32⟩
  | 111 => ⟨S64, .i32⟩
  | 112 => ⟨S6x1, .i32⟩
  | 113 => ⟨S6, .i32⟩
  | 114 => ⟨S6x1, .i32⟩
  | 115 => ⟨S6, .i32⟩
  | 116 => ⟨S6x1, .i32⟩
  | 117 => ⟨S6, .f32⟩
  | 118 => ⟨S6x1, .i32⟩
  | 119 => ⟨S1x64, .i32⟩
  | 120 => ⟨S6x64, .i32⟩
  | 121 => ⟨S6x64, .i32⟩
  | 122 => ⟨S6x64, .i32⟩
  | 123 => ⟨S6x64x1, .i32⟩
  | 124 => ⟨S6x64x4096, .bf16⟩
  | 125 => ⟨S6x64x1, .i32⟩
  | 126 => ⟨S6x64x14336, .bf16⟩
  | 127 => ⟨S128, .i32⟩
  | _ => ⟨S1x128x4096, .bf16⟩

abbrev hbmTy0_1 (i : Nat) : BufTy := match i % 128 with
  | 0 => ⟨S1x128, .i32⟩
  | 1 => ⟨S6, .i32⟩
  | 2 => ⟨S6x1, .i32⟩
  | 3 => ⟨S6x128, .i32⟩
  | 4 => ⟨S6x128, .i32⟩
  | 5 => ⟨S6x128, .i1⟩
  | 6 => ⟨S1x128, .i32⟩
  | 7 => ⟨S6, .i32⟩
  | 8 => ⟨S6x1, .i32⟩
  | 9 => ⟨S6x128, .i32⟩
  | 10 => ⟨S6x128, .i32⟩
  | 11 => ⟨S6x128, .i1⟩
  | 12 => ⟨S6x128, .i1⟩
  | 13 => ⟨S6x1, .i32⟩
  | 14 => ⟨S_, .i32⟩
  | 15 => ⟨S_, .i32⟩
  | 16 => ⟨S6x128, .i32⟩
  | 17 => ⟨S6x128, .i32⟩
  | 18 => ⟨S6x128, .i32⟩
  | 19 => ⟨S_, .i32⟩
  | 20 => ⟨S128, .i32⟩
  | 21 => ⟨S6x1, .f32⟩
  | 22 => ⟨S_, .f32⟩
  | 23 => ⟨S_, .f32⟩
  | 24 => ⟨S6x128, .f32⟩
  | 25 => ⟨S6x128, .f32⟩
  | 26 => ⟨S6x128, .f32⟩
  | 27 => ⟨S_, .f32⟩
  | 28 => ⟨S128, .f32⟩
  | 29 => ⟨S6x128x1, .i1⟩
  | 30 => ⟨S6x64x128, .f32⟩
  | 31 => ⟨S6x128x64, .f32⟩
  | 32 => ⟨S_, .f32⟩
  | 33 => ⟨S_, .f32⟩
  | 34 => ⟨S6x128x64, .i1⟩
  | 35 => ⟨S6x128x64, .f32⟩
  | 36 => ⟨S6x128x64, .f32⟩
  | 37 => ⟨S_, .f32⟩
  | 38 => ⟨S128x64, .f32⟩
  | 39 => ⟨S1x64, .i32⟩
  | 40 => ⟨S128x1, .i32⟩
  | 41 => ⟨S128x64, .i32⟩
  | 42 => ⟨S128x64, .i32⟩
  | 43 => ⟨S128x64, .i1⟩
  | 44 => ⟨S128x1, .f32⟩
  | 45 => ⟨S128x64, .f32⟩
  | 46 => ⟨S128x64, .f32⟩
  | 47 => ⟨S128x64, .bf16⟩
  | 48 => ⟨S_, .bf16⟩
  | 49 => ⟨S128x64, .bf16⟩
  | 50 => ⟨S128x64, .bf16⟩
  | 51 => ⟨S6x128x1, .i1⟩
  | 52 => ⟨S6x14336x128, .f32⟩
  | 53 => ⟨S6x128x14336, .f32⟩
  | 54 => ⟨S_, .f32⟩
  | 55 => ⟨S_, .f32⟩
  | 56 => ⟨S6x128x14336, .i1⟩
  | 57 => ⟨S6x128x14336, .f32⟩
  | 58 => ⟨S6x128x14336, .f32⟩
  | 59 => ⟨S_, .f32⟩
  | 60 => ⟨S128x14336, .f32⟩
  | 61 => ⟨S128x14336, .f32⟩
  | 62 => ⟨S128x14336, .bf16⟩
  | 63 => ⟨S1x128x14336, .bf16⟩
  | _ => ⟨S1x128x4096, .bf16⟩

abbrev hbmTy (i : Nat) : BufTy := match i / 128 with
  | 0 => hbmTy0_0 i
  | 1 => hbmTy0_1 i
  | _ => ⟨S1x128x4096, .bf16⟩

abbrev bufTy : (tb : Table) → Fin (tcTables nBuf tb) → BufTy
  | .hbm, ⟨i, _⟩ => hbmTy i
  | _, _ => ⟨S1x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_c_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_11 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_13 : Ref sig .tc := ⟨.hbm, 99, rfl⟩
abbrev main_v74 : Ref sig .tc := ⟨.hbm, 100, rfl⟩
abbrev main_v75 : Ref sig .tc := ⟨.hbm, 101, rfl⟩
abbrev main_c_14 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_call0_v0 : Ref sig .tc := ⟨.hbm, 112, rfl⟩
abbrev main_v85 : Ref sig .tc := ⟨.hbm, 113, rfl⟩
abbrev main_call1_v0 : Ref sig .tc := ⟨.hbm, 114, rfl⟩
abbrev main_v86 : Ref sig .tc := ⟨.hbm, 115, rfl⟩
abbrev main_call2_v0 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call3_v0 : Ref sig .tc := ⟨.hbm, 123, rfl⟩
abbrev main_v93 : Ref sig .tc := ⟨.hbm, 124, rfl⟩
abbrev main_call4_v0 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_c_15 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_v110 : Ref sig .tc := ⟨.hbm, 146, rfl⟩
abbrev main_c_16 : Ref sig .tc := ⟨.hbm, 147, rfl⟩
abbrev main_v111 : Ref sig .tc := ⟨.hbm, 148, rfl⟩
abbrev main_v112 : Ref sig .tc := ⟨.hbm, 149, rfl⟩
abbrev main_cst : Ref sig .tc := ⟨.hbm, 150, rfl⟩
abbrev main_call6_v0 : Ref sig .tc := ⟨.hbm, 151, rfl⟩
abbrev main_call6_v1 : Ref sig .tc := ⟨.hbm, 152, rfl⟩
abbrev main_call6_v2 : Ref sig .tc := ⟨.hbm, 153, rfl⟩
abbrev main_v113 : Ref sig .tc := ⟨.hbm, 154, rfl⟩
abbrev main_cst_17 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_18 : Ref sig .tc := ⟨.hbm, 160, rfl⟩
abbrev main_call7_v0 : Ref sig .tc := ⟨.hbm, 161, rfl⟩
abbrev main_call7_v1 : Ref sig .tc := ⟨.hbm, 162, rfl⟩
abbrev main_call7_v2 : Ref sig .tc := ⟨.hbm, 163, rfl⟩
abbrev main_v118 : Ref sig .tc := ⟨.hbm, 164, rfl⟩
abbrev main_cst_19 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_20 : Ref sig .tc := ⟨.hbm, 176, rfl⟩
abbrev main_call8_v0 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_21 : Ref sig .tc := ⟨.hbm, 182, rfl⟩
abbrev main_call9_v0 : Ref sig .tc := ⟨.hbm, 183, rfl⟩
abbrev main_call9_v1 : Ref sig .tc := ⟨.hbm, 184, rfl⟩
abbrev main_call9_v2 : Ref sig .tc := ⟨.hbm, 185, rfl⟩
abbrev main_v133 : Ref sig .tc := ⟨.hbm, 186, rfl⟩
abbrev main_cst_22 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩

abbrev nD : Nat := 1
abbrev τ : Topo := Topo.v7x

variable {F : FTy → Type} [FloatOps F]
-- ==== Proof.KI.Common.lean ====
/-
  The operands the kernel body is called with, and what its invariant is made of: the scratch buffers, the pools left
  in HBM, the four integer tables, the transfers' one DMA cell.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffix
public import Idealize.ShloMosaic.Lib.MixedBatch
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The four tables in SMEM: adapter starts, ranks, segment offsets, segment adapters. -/
abbrev tbStart : Memref sig .tc .smem S11 .i32 := Memref.whole main_arg6
abbrev tbRank : Memref sig .tc .smem S11 .i32 := Memref.whole main_arg7
abbrev tbOff : Memref sig .tc .smem S7 .i32 := Memref.whole main_arg9
abbrev tbAd : Memref sig .tc .smem S6 .i32 := Memref.whole main_arg10
/-- The pools in HBM. -/
abbrev hbA : Memref sig .tc .hbm S900x4096 .bf16 := Memref.whole main_arg4
abbrev hbB : Memref sig .tc .hbm S900x14336 .bf16 := Memref.whole main_arg5
/-- The scratch: the gathered rows of either pool, the masked low-rank activations. -/
abbrev scA : Memref sig .tc .vmem S512x4096 .bf16 := Memref.whole cc0_scratch0
abbrev scB : Memref sig .tc .vmem S512x14336 .bf16 := Memref.whole cc0_scratch1
abbrev scH : Memref sig .tc .vmem S128x512 .bf16 := Memref.whole cc0_scratch2

/-- The contents type of a memref's buffer, and the memref's buffer held whole at some share. -/
abbrev BufOf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (q : PosShare TreeShare) (f : BufOf (F := F) c M) : sProp 𝕄 :=
  M.view.loc (c : Thread nD τ) ↦{q} f

end Cert.KernelIdeal.Hand

end
-- ==== Proof.KI.Region.lean ====
/-
  What the region is entered with and what runs around it: the buffers after the host's first line, the four tables the
  launch prefetches, the DMA cell and the two pools that the body's own transfers use.
-/
module

public import proofs.«01_k».proof.Proof.KI.Common
public import Idealize.ShloMosaic.Lib.Pipeline.TableIdle
public import Idealize.ShloMosaic.Lib.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers when the region is entered, as a valuation, and read at a TensorCore reference. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := rfl
theorem hostOps1_fresh : (hostOps1 : List (HloOp τ sig (Elt F))).Forall fun op => op.fresh = ∅ := rfl

/-- The program is the host's first line, the region, and the host's last line. -/
theorem hmain (𝒱₀ : Variants) : Pipeline.HMainPK (Ix := Unit) (Name := ℕ) (U := Pipeline.UD sig nD τ) (Lvl := ℕ) pcfgs 0 defs₀ 𝒱₀ m (main (F := F)) (V m)
    (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- A buffer other than the first line's result is as it was. -/
theorem V_arg (c : Dev nD) (b : Ref sig .tc) (h : b ≠ main_v0) : V m c b = m ((c : Thread nD τ).loc b) := by
  unfold V V0
  refine StableHlo.after_of_forall_not_mem _ _ ?_
  simp only [List.flatten_cons, List.flatten_nil, List.append_nil, List.mem_singleton]
  rintro op rfl
  simp only [StableHlo.reshape_writes, Finset.mem_singleton]
  exact StableHlo.devRef_ne_of_ne h

/-- The tables as the region is entered; any contents of them are admissible. -/
def tbl : pre0.Contents (Elt F) := fun j => V m (0 : Dev nD) (pre0.ref j)
theorem V_pre (c : Dev nD) (j : Fin 4) : V m c (pre0.ref j) = tbl m j := by
  obtain rfl : c = 0 := Subsingleton.elim _ _
  rfl
abbrev adm : (pcfg0 (F := F)).Adm := ⟨tbl m, trivial⟩
abbrev cfgM : Cfg sig Λ₀ := cfg0 (adm m)

/-- The body's own DMA cell, and the two pools it reads by its own transfers. -/
def osem0 : Fin 1 → SemLoc sig := fun j => (![SemLoc.dma 11] : Fin 1 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 11) 0 := by
  rw [Pipeline.ownSems0_eq_of_list c osem0 [0] (by decide) (by decide)]; rfl
def H0 : Finset (Ref sig .tc) := {main_arg4, main_arg5}
theorem H0_sub : H0 ⊆ Pipeline.restRefsP sig pre0 spec0 := by decide
theorem poolPts_eq (c : Dev nD) (V : (b : Ref sig .tc) → Buf (Elt F) ((c : Thread nD τ).loc b)) :
    (bigSep H0 (fun b => ((c : Thread nD τ).loc b) ↦{fullShare} V b) : sProp 𝕄)
      = iprop(pt c hbA fullShare (V main_arg4) ∗ pt c hbB fullShare (V main_arg5)) := by
  rw [BI.bigSep_eq_bigSepL_of_eq [main_arg4, main_arg5] (by decide) (by decide)]; rfl

/-- The tables as the body holds them: half of each. -/
theorem tables_eq (c : Dev nD) :
    (Pipeline.ΦT pre0 (tbl m) c : sProp 𝕄)
      = iprop(pt c tbStart fullShare.right (V m c main_arg6) ∗ pt c tbRank fullShare.right (V m c main_arg7)
          ∗ pt c tbOff fullShare.right (V m c main_arg9) ∗ pt c tbAd fullShare.right (V m c main_arg10)) := by
  obtain rfl : c = 0 := Subsingleton.elim _ _
  unfold Pipeline.ΦT Pipeline.prefHeld
  rw [bigSep_univ_eq_bigSepL [(0 : Fin 4), 1, 2, 3] (by decide) (by decide)]; rfl

/-- The last line touches neither the tables nor the pools, allocates nothing, and writes no array of the region. -/
theorem sfx_but : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl
  refine Pipeline.sub_tailRefsBut pre0 spec0 H0 op ((List.forall_iff_forall_mem.mp hostOps1_sub) op hop) ?_ ?_
  · simp only [hostOps1, List.mem_cons, List.mem_nil_iff, or_false] at hop
    rcases hop with rfl
    intro j; fin_cases j <;> simp only [StableHlo.reshape_bufs, Finset.mem_insert, Finset.mem_singleton, not_or] <;> and_intros <;> exact StableHlo.devRef_ne_of_ne (by decide)
  · simp only [hostOps1, List.mem_cons, List.mem_nil_iff, or_false] at hop
    rcases hop with rfl
    intro b hb
    simp only [H0, Finset.mem_insert, Finset.mem_singleton] at hb
    rcases hb with rfl | rfl <;> simp only [StableHlo.reshape_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- The body's branch is taken at the first grid point alone. -/
theorem cond_iff : ∀ t : Fin grid0.N, k0_cond1 (grid0.coords t) = 1#1 ↔ t.val = 0 := by decide +kernel

/-- The low-rank activations' window is idle past the first point, and written back at the last alone. -/
theorem idle6 (t : Fin (cfgM m).N) : (cfgM m).idle 6 ((cfgM m).grid.coords t) = decide (t.val ≠ 0) :=
  (by decide +kernel : ∀ t : Fin grid0.N, idle0 6 (grid0.coords t) = decide (t.val ≠ 0)) t
theorem flush6 (t : Fin (cfgM m).N) : ((cfgM m).win 6).flush t = decide (t.val = 27) :=
  (by decide +kernel : ∀ t : Fin grid0.N, Window.flushOf grid0 true cc0_transform_8 t = decide (t.val = 27)) t
theorem fresh6 (n : ℕ) (hn : n ≤ (cfgM m).N) : (cfgM m).fresh 6 n = (decide (n = 0) || decide (n = 28)) := by
  refine (cfgM m).fresh_tab 6 (fun n => decide (n = 0) || decide (n = 28)) rfl (fun t => ?_) n hn
  rw [idle6, flush6]
  exact (by decide +kernel : ∀ t : Fin grid0.N, (decide (t.val + 1 = 0) || decide (t.val + 1 = 28)) = (decide (t.val = 27) || (decide (t.val ≠ 0) && (decide (t.val = 0) || decide (t.val = 28))))) t

end Cert.KernelIdeal.Hand

end
-- ==== Proof.KI.Checks.lean ====
module
public import proofs.«01_k».proof.Proof.KI.Common
@[expose] public section

/-!
The kernel reads adapter numbers and start rows out of its tables and computes with them where a
window of 72 rows of a pool begins. Here: for a start row below 832 that window begins at the row
rounded down to a multiple of eight, and every side condition that the kernel asks of the words it
read follows from their ranges.
-/

namespace Cert.KernelIdeal.Hand

open Cert.KernelIdeal Cert.KernelIdeal.Gen
open Idealize.ShloMosaic Idealize.ShloMosaic.TcCoe

/-- A word whose signed value lies in `[0, n)` is its natural number, below `n`. -/
theorem toNat_lt_of_range {v : BitVec 32} {n : Nat} (h : 0 ≤ v.toInt ∧ v.toInt < n) : v.toNat < n := by
  rw [BitVec.toInt_eq_toNat_cond] at h
  split at h <;> omega

set_option maxRecDepth 100000 in
private theorem mult_all : ∀ n : Fin 832, (k0_mult1 (BitVec.ofNat 32 n.val)).toNat = 8 * (n.val / 8) := by
  decide +kernel

/-- The first row of a window: the start row rounded down to a multiple of eight. -/
theorem mult_eq {v : BitVec 32} (h : 0 ≤ v.toInt ∧ v.toInt < 832) : (k0_mult1 v).toNat = 8 * (v.toNat / 8) := by
  have hv := toNat_lt_of_range (n := 832) h
  simpa using mult_all ⟨v.toNat, hv⟩

section
variable {v : BitVec 32} (h : 0 ≤ v.toInt ∧ v.toInt < 832)
include h

theorem off_eq : (![(k0_mult1 v).toNat, 0] : Fin 2 → Nat) = ![8 * (v.toNat / 8), 0] := by rw [mult_eq h]

theorem dvd_mult : 8 ∣ (k0_mult1 v).toNat := by rw [mult_eq h]; omega

theorem inbA : ∀ a, (![(k0_mult1 v).toNat, 0] : Fin 2 → Nat) a + S72x4096.size a ≤ S900x4096.size a := by
  have hv := toNat_lt_of_range (n := 832) h
  rw [mult_eq h]
  intro a
  fin_cases a
  · show 8 * (v.toNat / 8) + 72 ≤ 900; omega
  · show 0 + 4096 ≤ 4096; omega

theorem inbB : ∀ a, (![(k0_mult1 v).toNat, 0] : Fin 2 → Nat) a + S72x14336.size a ≤ S900x14336.size a := by
  have hv := toNat_lt_of_range (n := 832) h
  rw [mult_eq h]
  intro a
  fin_cases a
  · show 8 * (v.toNat / 8) + 72 ≤ 900; omega
  · show 0 + 14336 ≤ 14336; omega

theorem wwA (hinb : ∀ a, (![(k0_mult1 v).toNat, 0] : Fin 2 → Nat) a + S72x4096.size a ≤ S900x4096.size a) :
    (Rect.unit (s := S900x4096) ![(k0_mult1 v).toNat, 0] S72x4096.size hinb).WholeWords (EltTy.packing .bf16) := by
  refine Affine.words_of_packed (Affine.packed_dvd (by decide) ?_ (by decide))
  show 2 ∣ (k0_mult1 v).toNat
  rw [mult_eq h]; omega

theorem wwB (hinb : ∀ a, (![(k0_mult1 v).toNat, 0] : Fin 2 → Nat) a + S72x14336.size a ≤ S900x14336.size a) :
    (Rect.unit (s := S900x14336) ![(k0_mult1 v).toNat, 0] S72x14336.size hinb).WholeWords (EltTy.packing .bf16) := by
  refine Affine.words_of_packed (Affine.packed_dvd (by decide) ?_ (by decide))
  show 2 ∣ (k0_mult1 v).toNat
  rw [mult_eq h]; omega

end

section
variable (i : grid0.Coords) {v : BitVec 32}

section
variable (h : 0 ≤ v.toInt ∧ v.toInt < 832)
include h
theorem chk2 : k0_chk2 i v := ⟨fun _ => dvd_mult h, fun _ => inbA h, fun _ => wwA h, fun _ => inbB h, fun _ => wwB h, fun _ => inbA h, fun _ => wwA h, fun _ => inbB h, fun _ => wwB h⟩
theorem chk4 : k0_chk4 i v := ⟨fun _ => dvd_mult h, fun _ => inbA h, fun _ => wwA h, fun _ => inbB h, fun _ => wwB h, fun _ => inbA h, fun _ => wwA h, fun _ => inbB h, fun _ => wwB h⟩
theorem chk6 : k0_chk6 i v := ⟨fun _ => dvd_mult h, fun _ => inbA h, fun _ => wwA h, fun _ => inbB h, fun _ => wwB h, fun _ => inbA h, fun _ => wwA h, fun _ => inbB h, fun _ => wwB h⟩
theorem chk8 : k0_chk8 i v := ⟨fun _ => dvd_mult h, fun _ => inbA h, fun _ => wwA h, fun _ => inbB h, fun _ => wwB h, fun _ => inbA h, fun _ => wwA h, fun _ => inbB h, fun _ => wwB h⟩
theorem chk10 : k0_chk10 i v := ⟨fun _ => dvd_mult h, fun _ => inbA h, fun _ => wwA h, fun _ => inbB h, fun _ => wwB h, fun _ => inbA h, fun _ => wwA h, fun _ => inbB h, fun _ => wwB h⟩
theorem chk12 : k0_chk12 i v := ⟨fun _ => dvd_mult h, fun _ => inbA h, fun _ => wwA h, fun _ => inbB h, fun _ => wwB h⟩
theorem chk14 : k0_chk14 i v := fun _ => dvd_mult h
theorem chk17 : k0_chk17 i v := fun _ => dvd_mult h
theorem chk20 : k0_chk20 i v := fun _ => dvd_mult h
theorem chk23 : k0_chk23 i v := fun _ => dvd_mult h
theorem chk26 : k0_chk26 i v := fun _ => dvd_mult h
theorem chk29 : k0_chk29 i v := fun _ => dvd_mult h
end

section
variable (h : 0 ≤ v.toInt ∧ v.toInt < 11)
include h
theorem inbT : ∀ a, (![(Scalar.indexCast v : Index).toNat] : Fin 1 → Nat) a + S1.size a ≤ S11.size a := by
  have hv := toNat_lt_of_range (n := 11) h
  have e : (Scalar.indexCast v : Index).toNat = v.toNat := rfl
  rw [e]
  intro a
  fin_cases a
  show v.toNat + 1 ≤ 11; omega
theorem chk1 : k0_chk1 i v := fun _ => inbT h
theorem chk3 : k0_chk3 i v := fun _ => inbT h
theorem chk5 : k0_chk5 i v := fun _ => inbT h
theorem chk7 : k0_chk7 i v := fun _ => inbT h
theorem chk9 : k0_chk9 i v := fun _ => inbT h
theorem chk11 : k0_chk11 i v := fun _ => inbT h
theorem chk13 : k0_chk13 i v := ⟨fun _ => inbT h, fun _ => inbT h⟩
theorem chk15 : k0_chk15 i v := fun _ => inbT h
theorem chk16 : k0_chk16 i v := ⟨fun _ => inbT h, fun _ => inbT h⟩
theorem chk18 : k0_chk18 i v := fun _ => inbT h
theorem chk19 : k0_chk19 i v := ⟨fun _ => inbT h, fun _ => inbT h⟩
theorem chk21 : k0_chk21 i v := fun _ => inbT h
theorem chk22 : k0_chk22 i v := ⟨fun _ => inbT h, fun _ => inbT h⟩
theorem chk24 : k0_chk24 i v := fun _ => inbT h
theorem chk25 : k0_chk25 i v := ⟨fun _ => inbT h, fun _ => inbT h⟩
theorem chk27 : k0_chk27 i v := fun _ => inbT h
theorem chk28 : k0_chk28 i v := ⟨fun _ => inbT h, fun _ => inbT h⟩
theorem chk30 : k0_chk30 i v := fun _ => inbT h
end
end

end Cert.KernelIdeal.Hand
-- ==== Proof.KI.CarveA.lean ====
module

public import proofs.«01_k».proof.Proof.KI.Checks
public import Idealize.ShloMosaic.Lib.Ring

@[expose] public section

/-!
The scratch buffer that takes the rows gathered from pool A: six windows of 72 rows and the 80 rows under them. It is
held as those seven blocks while the transfers are in flight, and joins again, once they have landed, to the whole buffer
at one named contents.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev dstA0 : Memref sig .tc .vmem S72x4096 .bf16 := scA.slice (Rect.unit (s := S512x4096) ![0, 0] S72x4096.size inb_S512x4096_S72x4096_0_0) (fun _ => rfl)
abbrev dstA1 : Memref sig .tc .vmem S72x4096 .bf16 := scA.slice (Rect.unit (s := S512x4096) ![72, 0] S72x4096.size inb_S512x4096_S72x4096_72_0) (fun _ => rfl)
abbrev dstA2 : Memref sig .tc .vmem S72x4096 .bf16 := scA.slice (Rect.unit (s := S512x4096) ![144, 0] S72x4096.size inb_S512x4096_S72x4096_144_0) (fun _ => rfl)
abbrev dstA3 : Memref sig .tc .vmem S72x4096 .bf16 := scA.slice (Rect.unit (s := S512x4096) ![216, 0] S72x4096.size inb_S512x4096_S72x4096_216_0) (fun _ => rfl)
abbrev dstA4 : Memref sig .tc .vmem S72x4096 .bf16 := scA.slice (Rect.unit (s := S512x4096) ![288, 0] S72x4096.size inb_S512x4096_S72x4096_288_0) (fun _ => rfl)
abbrev dstA5 : Memref sig .tc .vmem S72x4096 .bf16 := scA.slice (Rect.unit (s := S512x4096) ![360, 0] S72x4096.size inb_S512x4096_S72x4096_360_0) (fun _ => rfl)
/-- The rows under the windows. -/
abbrev padA : Memref sig .tc .vmem S80x4096 .bf16 := scA.slice (Rect.unit (s := S512x4096) ![432, 0] S80x4096.size inb_S512x4096_S80x4096_432_0) (fun _ => rfl)

/-- The elements of block `b`. -/
def blkA : Fin 7 → Finset S512x4096.Idx
  | 0 => dstA0.view.set
  | 1 => dstA1.view.set
  | 2 => dstA2.view.set
  | 3 => dstA3.view.set
  | 4 => dstA4.view.set
  | 5 => dstA5.view.set
  | 6 => padA.view.set

theorem mem_blkA (b : Fin 7) (y : S512x4096.Idx) : y ∈ blkA b ↔ min ((y 0).val / 72) 6 = b.val := by
  have h1 : (y 1).val < 4096 := (y 1).isLt
  have h0 : (y 0).val < 512 := (y 0).isLt
  have key : ∀ (o n : Nat) (inb), y ∈ (Rect.unit (s := S512x4096) ![o, 0] ![n, 4096] inb).set ↔ o ≤ (y 0).val ∧ (y 0).val < o + n := by
    intro o n inb
    rw [Rect.mem_set_unit]
    constructor
    · intro h; exact h 0
    · intro h a
      fin_cases a
      · exact h
      · exact ⟨Nat.zero_le _, by show (y 1).val < 0 + 4096; omega⟩
  have dec : ∀ (o n : Nat) (inb), y ∈ (View.slice (View.whole cc0_scratch0) (Rect.unit (s := S512x4096) ![o, 0] ![n, 4096] inb)).set ↔ o ≤ (y 0).val ∧ (y 0).val < o + n := by
    intro o n inb
    rw [View.set_slice_whole]
    exact key o n inb
  fin_cases b
  · refine (dec 0 72 _).trans ?_
    show _ ↔ _ = 0
    omega
  · refine (dec 72 72 _).trans ?_
    show _ ↔ _ = 1
    omega
  · refine (dec 144 72 _).trans ?_
    show _ ↔ _ = 2
    omega
  · refine (dec 216 72 _).trans ?_
    show _ ↔ _ = 3
    omega
  · refine (dec 288 72 _).trans ?_
    show _ ↔ _ = 4
    omega
  · refine (dec 360 72 _).trans ?_
    show _ ↔ _ = 5
    omega
  · refine (dec 432 80 _).trans ?_
    show _ ↔ _ = 6
    omega

theorem blkA_disjoint (b b' : Fin 7) (h : b ≠ b') : Disjoint (blkA b) (blkA b') := by
  rw [Finset.disjoint_left]
  intro y hy hy'
  exact h (Fin.ext (((mem_blkA b y).mp hy).symm.trans ((mem_blkA b' y).mp hy')))

theorem blkA_cover : Finset.univ.biUnion blkA = Finset.univ := by
  ext y
  simp only [Finset.mem_biUnion, Finset.mem_univ, true_and, iff_true]
  exact ⟨⟨min ((y 0).val / 72) 6, by omega⟩, (mem_blkA _ y).mpr rfl⟩

/-- The rows under the windows are what the windows leave of the buffer. -/
theorem padA_eq : padA.view.set = ((((((scA.view.set \ dstA0.view.set) \ dstA1.view.set) \ dstA2.view.set) \ dstA3.view.set) \ dstA4.view.set) \ dstA5.view.set) := by
  ext y
  have h0 : y ∈ dstA0.view.set ↔ min ((y 0).val / 72) 6 = 0 := mem_blkA 0 y
  have h1 : y ∈ dstA1.view.set ↔ min ((y 0).val / 72) 6 = 1 := mem_blkA 1 y
  have h2 : y ∈ dstA2.view.set ↔ min ((y 0).val / 72) 6 = 2 := mem_blkA 2 y
  have h3 : y ∈ dstA3.view.set ↔ min ((y 0).val / 72) 6 = 3 := mem_blkA 3 y
  have h4 : y ∈ dstA4.view.set ↔ min ((y 0).val / 72) 6 = 4 := mem_blkA 4 y
  have h5 : y ∈ dstA5.view.set ↔ min ((y 0).val / 72) 6 = 5 := mem_blkA 5 y
  have h6 : y ∈ padA.view.set ↔ min ((y 0).val / 72) 6 = 6 := mem_blkA 6 y
  have hu : y ∈ scA.view.set := by rw [show scA.view.set = Finset.univ from View.set_whole _]; exact Finset.mem_univ y
  simp only [Finset.mem_sdiff, h0, h1, h2, h3, h4, h5, h6, hu, true_and]
  omega

/-- The buffer whole is its seven blocks. -/
theorem carveA (c : Dev nD) (f : BufOf (F := F) c scA) :
    (pt c scA fullShare f : sProp 𝕄)
      = iprop((dstA0.view.loc (c : Thread nD τ) ↦[dstA0.view.set]{fullShare} f)
          ∗ (dstA1.view.loc (c : Thread nD τ) ↦[dstA1.view.set]{fullShare} f)
          ∗ (dstA2.view.loc (c : Thread nD τ) ↦[dstA2.view.set]{fullShare} f)
          ∗ (dstA3.view.loc (c : Thread nD τ) ↦[dstA3.view.set]{fullShare} f)
          ∗ (dstA4.view.loc (c : Thread nD τ) ↦[dstA4.view.set]{fullShare} f)
          ∗ (dstA5.view.loc (c : Thread nD τ) ↦[dstA5.view.set]{fullShare} f)
          ∗ (scA.view.loc (c : Thread nD τ) ↦[padA.view.set]{fullShare} f)) := by
  refine (Ring.pointsTo_blocks (ℓ := scA.view.loc (c : Thread nD τ)) blkA blkA_disjoint blkA_cover f).trans ?_
  rw [BI.bigSep_eq_bigSepL_of_eq [0, 1, 2, 3, 4, 5, 6] (by decide) (by decide)]
  rfl

/-! ## What the transfers leave there -/

section
variable (w : Fin 6 → BitVec 32) (hw : ∀ s, 0 ≤ (w s).toInt ∧ (w s).toInt < 832)

/-- Segment `s`'s rows of the pool. -/
abbrev rowsA (s : Fin 6) : Rect S900x4096 := Rect.unit (s := S900x4096) (k0_off2 (w s)) S72x4096.size (inbA (hw s))

/-- Where row `y` lies within its window. -/
def inWinA (y : S512x4096.Idx) : S72x4096.Idx := fun a => match a with
  | ⟨0, _⟩ => (⟨(y 0).val % 72, Nat.mod_lt _ (by decide)⟩ : Fin 72)
  | ⟨1, _⟩ => (⟨(y 1).val, (y 1).isLt⟩ : Fin 4096)

/-- The gathered rows: row `72 s + r` is the pool's row `r` of segment `s`'s window, and zero below the windows. -/
def gathA (p : S900x4096.Idx → Elt F .bf16) : S512x4096.Idx → Elt F .bf16 := fun y =>
  if h : (y 0).val < 432 then
    p ((rowsA w hw ⟨(y 0).val / 72, by omega⟩).emb (inWinA y))
  else (Scalar.ofBits .bf16 0x0000#16 : F .bf16)

theorem gathA_window (p : S900x4096.Idx → Elt F .bf16) (s : Fin 6) (x : S72x4096.Idx) (y : S512x4096.Idx)
    (h0 : (y 0).val = 72 * s.val + (x 0).val) (h1 : (y 1).val = (x 1).val) :
    gathA w hw p y = p ((rowsA w hw s).emb x) := by
  have hx : (x 0).val < 72 := (x 0).isLt
  have hs := s.isLt
  have e : ∀ (s' : Fin 6) (x' : S72x4096.Idx), s' = s → x' = x → p ((rowsA w hw s').emb x') = p ((rowsA w hw s).emb x) := by
    rintro _ _ rfl rfl; rfl
  unfold gathA
  rw [dif_pos (by omega)]
  refine e _ _ (Fin.ext (by show (y 0).val / 72 = s.val; omega)) ?_
  funext a
  match a with
  | ⟨0, _⟩ => exact Fin.ext (by show (y 0).val % 72 = (x 0).val; omega)
  | ⟨1, _⟩ => exact Fin.ext h1

theorem gathA_pad (p : S900x4096.Idx → Elt F .bf16) (y : S512x4096.Idx) (h0 : 432 ≤ (y 0).val) :
    gathA w hw p y = (Scalar.ofBits .bf16 0x0000#16 : F .bf16) := by
  unfold gathA; rw [dif_neg (by omega)]

/-- What the transfer of segment `s`'s rows leaves in its window is the gathered rows. -/
theorem landA (c : Dev nD) (p : BufOf (F := F) c hbA) (s : Fin 6) (n : ℕ) (hn : n = 72 * s.val) (inb) (f : BufOf (F := F) c scA) :
    ∀ i ∈ (scA.slice (Rect.unit (s := S512x4096) ![n, 0] S72x4096.size inb) (fun _ => rfl)).view.set,
    (scA.slice (Rect.unit (s := S512x4096) ![n, 0] S72x4096.size inb) (fun _ => rfl)).view.writes (Elt F) f
        [⟨Rect.whole _, ReadAs.same.apply ((hbA.slice (rowsA w hw s) (fun _ => rfl)).view.read (Elt F) p)⟩] i
      = gathA w hw p i := by
  subst hn
  intro i hi
  obtain ⟨x, -, rfl⟩ := Finset.mem_map.mp hi
  rw [← View.write_univ_eq_writes_whole, View.write_emb_of_mem _ _ (Finset.mem_univ _)]
  refine Eq.trans ?_ (gathA_window w hw p s x _ ?_ ?_).symm
  · rfl
  · show 72 * s.val + 1 * (x 0).val = _; omega
  · show 0 + 1 * (x 1).val = _; omega

/-- And the rows under the windows, which the kernel zero-fills. -/
theorem landA_pad (c : Dev nD) (p : BufOf (F := F) c hbA) (f : BufOf (F := F) c scA) :
    ∀ i ∈ padA.view.set,
    scA.view.writes (Elt F) f [⟨Rect.unit (s := S512x4096) ![432, 0] S80x4096.size inb_S512x4096_S80x4096_432_0, k0_pay2 (F := F)⟩] i
      = gathA w hw p i := by
  intro i hi
  obtain ⟨x, -, rfl⟩ := Finset.mem_map.mp hi
  rw [View.writes_singleton]
  refine (View.write_emb_of_mem (v := scA.view.slice (Rect.unit (s := S512x4096) ![432, 0] S80x4096.size inb_S512x4096_S80x4096_432_0)) _ _ (Finset.mem_univ x)).trans ?_
  refine Eq.trans ?_ (gathA_pad w hw p _ ?_).symm
  · rfl
  · show 432 ≤ 432 + 1 * (x 0).val; omega

end

end Cert.KernelIdeal.Hand

end
-- ==== Proof.KI.CarveB.lean ====
module

public import proofs.«01_k».proof.Proof.KI.Checks
public import Idealize.ShloMosaic.Lib.Ring

@[expose] public section

/-!
The scratch buffer that takes the rows gathered from pool B: six windows of 72 rows and the 80 rows under them. It is
held as those seven blocks while the transfers are in flight, and joins again, once they have landed, to the whole buffer
at one named contents.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev dstB0 : Memref sig .tc .vmem S72x14336 .bf16 := scB.slice (Rect.unit (s := S512x14336) ![0, 0] S72x14336.size inb_S512x14336_S72x14336_0_0) (fun _ => rfl)
abbrev dstB1 : Memref sig .tc .vmem S72x14336 .bf16 := scB.slice (Rect.unit (s := S512x14336) ![72, 0] S72x14336.size inb_S512x14336_S72x14336_72_0) (fun _ => rfl)
abbrev dstB2 : Memref sig .tc .vmem S72x14336 .bf16 := scB.slice (Rect.unit (s := S512x14336) ![144, 0] S72x14336.size inb_S512x14336_S72x14336_144_0) (fun _ => rfl)
abbrev dstB3 : Memref sig .tc .vmem S72x14336 .bf16 := scB.slice (Rect.unit (s := S512x14336) ![216, 0] S72x14336.size inb_S512x14336_S72x14336_216_0) (fun _ => rfl)
abbrev dstB4 : Memref sig .tc .vmem S72x14336 .bf16 := scB.slice (Rect.unit (s := S512x14336) ![288, 0] S72x14336.size inb_S512x14336_S72x14336_288_0) (fun _ => rfl)
abbrev dstB5 : Memref sig .tc .vmem S72x14336 .bf16 := scB.slice (Rect.unit (s := S512x14336) ![360, 0] S72x14336.size inb_S512x14336_S72x14336_360_0) (fun _ => rfl)
/-- The rows under the windows. -/
abbrev padB : Memref sig .tc .vmem S80x14336 .bf16 := scB.slice (Rect.unit (s := S512x14336) ![432, 0] S80x14336.size inb_S512x14336_S80x14336_432_0) (fun _ => rfl)

/-- The elements of block `b`. -/
def blkB : Fin 7 → Finset S512x14336.Idx
  | 0 => dstB0.view.set
  | 1 => dstB1.view.set
  | 2 => dstB2.view.set
  | 3 => dstB3.view.set
  | 4 => dstB4.view.set
  | 5 => dstB5.view.set
  | 6 => padB.view.set

theorem mem_blkB (b : Fin 7) (y : S512x14336.Idx) : y ∈ blkB b ↔ min ((y 0).val / 72) 6 = b.val := by
  have h1 : (y 1).val < 14336 := (y 1).isLt
  have h0 : (y 0).val < 512 := (y 0).isLt
  have key : ∀ (o n : Nat) (inb), y ∈ (Rect.unit (s := S512x14336) ![o, 0] ![n, 14336] inb).set ↔ o ≤ (y 0).val ∧ (y 0).val < o + n := by
    intro o n inb
    rw [Rect.mem_set_unit]
    constructor
    · intro h; exact h 0
    · intro h a
      fin_cases a
      · exact h
      · exact ⟨Nat.zero_le _, by show (y 1).val < 0 + 14336; omega⟩
  have dec : ∀ (o n : Nat) (inb), y ∈ (View.slice (View.whole cc0_scratch1) (Rect.unit (s := S512x14336) ![o, 0] ![n, 14336] inb)).set ↔ o ≤ (y 0).val ∧ (y 0).val < o + n := by
    intro o n inb
    rw [View.set_slice_whole]
    exact key o n inb
  fin_cases b
  · refine (dec 0 72 _).trans ?_
    show _ ↔ _ = 0
    omega
  · refine (dec 72 72 _).trans ?_
    show _ ↔ _ = 1
    omega
  · refine (dec 144 72 _).trans ?_
    show _ ↔ _ = 2
    omega
  · refine (dec 216 72 _).trans ?_
    show _ ↔ _ = 3
    omega
  · refine (dec 288 72 _).trans ?_
    show _ ↔ _ = 4
    omega
  · refine (dec 360 72 _).trans ?_
    show _ ↔ _ = 5
    omega
  · refine (dec 432 80 _).trans ?_
    show _ ↔ _ = 6
    omega

theorem blkB_disjoint (b b' : Fin 7) (h : b ≠ b') : Disjoint (blkB b) (blkB b') := by
  rw [Finset.disjoint_left]
  intro y hy hy'
  exact h (Fin.ext (((mem_blkB b y).mp hy).symm.trans ((mem_blkB b' y).mp hy')))

theorem blkB_cover : Finset.univ.biUnion blkB = Finset.univ := by
  ext y
  simp only [Finset.mem_biUnion, Finset.mem_univ, true_and, iff_true]
  exact ⟨⟨min ((y 0).val / 72) 6, by omega⟩, (mem_blkB _ y).mpr rfl⟩

/-- The rows under the windows are what the windows leave of the buffer. -/
theorem padB_eq : padB.view.set = ((((((scB.view.set \ dstB0.view.set) \ dstB1.view.set) \ dstB2.view.set) \ dstB3.view.set) \ dstB4.view.set) \ dstB5.view.set) := by
  ext y
  have h0 : y ∈ dstB0.view.set ↔ min ((y 0).val / 72) 6 = 0 := mem_blkB 0 y
  have h1 : y ∈ dstB1.view.set ↔ min ((y 0).val / 72) 6 = 1 := mem_blkB 1 y
  have h2 : y ∈ dstB2.view.set ↔ min ((y 0).val / 72) 6 = 2 := mem_blkB 2 y
  have h3 : y ∈ dstB3.view.set ↔ min ((y 0).val / 72) 6 = 3 := mem_blkB 3 y
  have h4 : y ∈ dstB4.view.set ↔ min ((y 0).val / 72) 6 = 4 := mem_blkB 4 y
  have h5 : y ∈ dstB5.view.set ↔ min ((y 0).val / 72) 6 = 5 := mem_blkB 5 y
  have h6 : y ∈ padB.view.set ↔ min ((y 0).val / 72) 6 = 6 := mem_blkB 6 y
  have hu : y ∈ scB.view.set := by rw [show scB.view.set = Finset.univ from View.set_whole _]; exact Finset.mem_univ y
  simp only [Finset.mem_sdiff, h0, h1, h2, h3, h4, h5, h6, hu, true_and]
  omega

/-- The buffer whole is its seven blocks. -/
theorem carveB (c : Dev nD) (f : BufOf (F := F) c scB) :
    (pt c scB fullShare f : sProp 𝕄)
      = iprop((dstB0.view.loc (c : Thread nD τ) ↦[dstB0.view.set]{fullShare} f)
          ∗ (dstB1.view.loc (c : Thread nD τ) ↦[dstB1.view.set]{fullShare} f)
          ∗ (dstB2.view.loc (c : Thread nD τ) ↦[dstB2.view.set]{fullShare} f)
          ∗ (dstB3.view.loc (c : Thread nD τ) ↦[dstB3.view.set]{fullShare} f)
          ∗ (dstB4.view.loc (c : Thread nD τ) ↦[dstB4.view.set]{fullShare} f)
          ∗ (dstB5.view.loc (c : Thread nD τ) ↦[dstB5.view.set]{fullShare} f)
          ∗ (scB.view.loc (c : Thread nD τ) ↦[padB.view.set]{fullShare} f)) := by
  refine (Ring.pointsTo_blocks (ℓ := scB.view.loc (c : Thread nD τ)) blkB blkB_disjoint blkB_cover f).trans ?_
  rw [BI.bigSep_eq_bigSepL_of_eq [0, 1, 2, 3, 4, 5, 6] (by decide) (by decide)]
  rfl

/-! ## What the transfers leave there -/

section
variable (w : Fin 6 → BitVec 32) (hw : ∀ s, 0 ≤ (w s).toInt ∧ (w s).toInt < 832)

/-- Segment `s`'s rows of the pool. -/
abbrev rowsB (s : Fin 6) : Rect S900x14336 := Rect.unit (s := S900x14336) (k0_off2 (w s)) S72x14336.size (inbB (hw s))

/-- Where row `y` lies within its window. -/
def inWinB (y : S512x14336.Idx) : S72x14336.Idx := fun a => match a with
  | ⟨0, _⟩ => (⟨(y 0).val % 72, Nat.mod_lt _ (by decide)⟩ : Fin 72)
  | ⟨1, _⟩ => (⟨(y 1).val, (y 1).isLt⟩ : Fin 14336)

/-- The gathered rows: row `72 s + r` is the pool's row `r` of segment `s`'s window, and zero below the windows. -/
def gathB (p : S900x14336.Idx → Elt F .bf16) : S512x14336.Idx → Elt F .bf16 := fun y =>
  if h : (y 0).val < 432 then
    p ((rowsB w hw ⟨(y 0).val / 72, by omega⟩).emb (inWinB y))
  else (Scalar.ofBits .bf16 0x0000#16 : F .bf16)

theorem gathB_window (p : S900x14336.Idx → Elt F .bf16) (s : Fin 6) (x : S72x14336.Idx) (y : S512x14336.Idx)
    (h0 : (y 0).val = 72 * s.val + (x 0).val) (h1 : (y 1).val = (x 1).val) :
    gathB w hw p y = p ((rowsB w hw s).emb x) := by
  have hx : (x 0).val < 72 := (x 0).isLt
  have hs := s.isLt
  have e : ∀ (s' : Fin 6) (x' : S72x14336.Idx), s' = s → x' = x → p ((rowsB w hw s').emb x') = p ((rowsB w hw s).emb x) := by
    rintro _ _ rfl rfl; rfl
  unfold gathB
  rw [dif_pos (by omega)]
  refine e _ _ (Fin.ext (by show (y 0).val / 72 = s.val; omega)) ?_
  funext a
  match a with
  | ⟨0, _⟩ => exact Fin.ext (by show (y 0).val % 72 = (x 0).val; omega)
  | ⟨1, _⟩ => exact Fin.ext h1

theorem gathB_pad (p : S900x14336.Idx → Elt F .bf16) (y : S512x14336.Idx) (h0 : 432 ≤ (y 0).val) :
    gathB w hw p y = (Scalar.ofBits .bf16 0x0000#16 : F .bf16) := by
  unfold gathB; rw [dif_neg (by omega)]

/-- What the transfer of segment `s`'s rows leaves in its window is the gathered rows. -/
theorem landB (c : Dev nD) (p : BufOf (F := F) c hbB) (s : Fin 6) (n : ℕ) (hn : n = 72 * s.val) (inb) (f : BufOf (F := F) c scB) :
    ∀ i ∈ (scB.slice (Rect.unit (s := S512x14336) ![n, 0] S72x14336.size inb) (fun _ => rfl)).view.set,
    (scB.slice (Rect.unit (s := S512x14336) ![n, 0] S72x14336.size inb) (fun _ => rfl)).view.writes (Elt F) f
        [⟨Rect.whole _, ReadAs.same.apply ((hbB.slice (rowsB w hw s) (fun _ => rfl)).view.read (Elt F) p)⟩] i
      = gathB w hw p i := by
  subst hn
  intro i hi
  obtain ⟨x, -, rfl⟩ := Finset.mem_map.mp hi
  rw [← View.write_univ_eq_writes_whole, View.write_emb_of_mem _ _ (Finset.mem_univ _)]
  refine Eq.trans ?_ (gathB_window w hw p s x _ ?_ ?_).symm
  · rfl
  · show 72 * s.val + 1 * (x 0).val = _; omega
  · show 0 + 1 * (x 1).val = _; omega

/-- And the rows under the windows, which the kernel zero-fills. -/
theorem landB_pad (c : Dev nD) (p : BufOf (F := F) c hbB) (f : BufOf (F := F) c scB) :
    ∀ i ∈ padB.view.set,
    scB.view.writes (Elt F) f [⟨Rect.unit (s := S512x14336) ![432, 0] S80x14336.size inb_S512x14336_S80x14336_432_0, k0_pay3 (F := F)⟩] i
      = gathB w hw p i := by
  intro i hi
  obtain ⟨x, -, rfl⟩ := Finset.mem_map.mp hi
  rw [View.writes_singleton]
  refine (View.write_emb_of_mem (v := scB.view.slice (Rect.unit (s := S512x14336) ![432, 0] S80x14336.size inb_S512x14336_S80x14336_432_0)) _ _ (Finset.mem_univ x)).trans ?_
  refine Eq.trans ?_ (gathB_pad w hw p _ ?_).symm
  · rfl
  · show 432 ≤ 432 + 1 * (x 0).val; omega

end

end Cert.KernelIdeal.Hand

end
-- ==== Proof.KI.First.lean ====
module

public import proofs.«01_k».proof.Proof.KI.CarveA
public import proofs.«01_k».proof.Proof.KI.CarveB

@[expose] public section

/-!
The kernel body's run at grid point 0: it reads each segment's adapter number and start row out of the tables, starts the
twelve transfers that gather the adapters' rows of either pool, zero-fills the rows under them, waits for all twelve, and
computes the masked low-rank activations and the first tile of the result.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)
    (fS : BufOf (F := F) c tbStart) (fR : BufOf (F := F) c tbRank) (fO : BufOf (F := F) c tbOff) (fD : BufOf (F := F) c tbAd)

/-- The adapters' numbers are below 11, wherever the table is read. -/
abbrev AdOK : Prop := ∀ (r : LoadRect S6) (x), 0 ≤ (View.readAt (Elt F) tbAd.view r fD x : BitVec 32).toInt ∧ (View.readAt (Elt F) tbAd.view r fD x : BitVec 32).toInt < 11
theorem inbAd (s : Fin 6) : ∀ a, (![s.val] : Fin 1 → Nat) a + S1.size a ≤ S6.size a := by revert s; decide

/-- Segment `s`'s adapter number, and that adapter's start row. -/
abbrev adW (s : Fin 6) : BitVec 32 := View.readAt (Elt F) tbAd.view (Rect.unit (s := S6) ![s.val] S1.size (inbAd s)).toLoadRect fD (Shape.Idx.first (numel1_S1.symm ▸ Nat.one_pos))
abbrev stW (hD : AdOK c fD) (s : Fin 6) : BitVec 32 := View.readAt (Elt F) tbStart.view (Rect.unit (s := S11) (k0_off1 (adW c fD s)) S1.size (inbT (hD _ _))).toLoadRect fS (Shape.Idx.first (numel1_S1.symm ▸ Nat.one_pos))

/-- The segments' adapters' start rows are below 832. -/
abbrev StOK (hD : AdOK c fD) : Prop := ∀ s : Fin 6, 0 ≤ (stW c fS fD hD s).toInt ∧ (stW c fS fD hD s).toInt < 832

variable (hD : AdOK c fD) (hS : StOK c fS fD hD)

include hS in
theorem stW_ok (s : Fin 6) : 0 ≤ (stW c fS fD hD s).toInt ∧ (stW c fS fD hD s).toInt < 832 := hS s

/-- The windows of the pools that segment `s` gathers. -/
abbrev srcA (s : Fin 6) : Memref sig .tc .hbm S72x4096 .bf16 := hbA.slice (rowsA (stW c fS fD hD) (stW_ok c fS fD hD hS) s) (fun _ => rfl)
abbrev srcB (s : Fin 6) : Memref sig .tc .hbm S72x14336 .bf16 := hbB.slice (rowsB (stW c fS fD hD) (stW_ok c fS fD hD hS) s) (fun _ => rfl)

/-- The contents gathered from either pool. -/
abbrev bufA (fA : BufOf (F := F) c hbA) : BufOf (F := F) c scA := gathA (stW c fS fD hD) (stW_ok c fS fD hD hS) fA
abbrev bufB (fB : BufOf (F := F) c hbB) : BufOf (F := F) c scB := gathB (stW c fS fD hD) (stW_ok c fS fD hD hS) fB

/-- One transfer's delivery: its window landed, its source slice back. -/
abbrev dlv {S : Shape} (dst : Memref sig .tc .vmem S .bf16) (src : Memref sig .tc .hbm S .bf16) (q : PosShare TreeShare)
    (fd : BufOf (F := F) c dst) (fs : BufOf (F := F) c src) : sProp 𝕄 :=
  iprop((dst.view.loc (c : Thread nD τ) ↦[dst.view.set]{fullShare} dst.view.writes (Elt F) fd [⟨Rect.whole _, ReadAs.same.apply (src.view.read (Elt F) fs)⟩])
    ∗ src.view.loc (c : Thread nD τ) ↦[src.view.set]{q} fs)

/-- The amounts, in units of the cell, and the deliveries, in the order the transfers are started. -/
abbrev amts : Fin 12 → ℕ := ![18432, 64512, 18432, 64512, 18432, 64512, 18432, 64512, 18432, 64512, 18432, 64512]
def deliv (q : Fin 6 → PosShare TreeShare) (fa : BufOf (F := F) c scA) (fb : BufOf (F := F) c scB) (fA : BufOf (F := F) c hbA) (fB : BufOf (F := F) c hbB) :
    Fin 12 → sProp 𝕄
  | 0 => dlv c dstA0 (srcA c fS fD hD hS 0) (q 0) fa fA
  | 1 => dlv c dstB0 (srcB c fS fD hD hS 0) (q 0) fb fB
  | 2 => dlv c dstA1 (srcA c fS fD hD hS 1) (q 1) fa fA
  | 3 => dlv c dstB1 (srcB c fS fD hD hS 1) (q 1) fb fB
  | 4 => dlv c dstA2 (srcA c fS fD hD hS 2) (q 2) fa fA
  | 5 => dlv c dstB2 (srcB c fS fD hD hS 2) (q 2) fb fB
  | 6 => dlv c dstA3 (srcA c fS fD hD hS 3) (q 3) fa fA
  | 7 => dlv c dstB3 (srcB c fS fD hD hS 3) (q 3) fb fB
  | 8 => dlv c dstA4 (srcA c fS fD hD hS 4) (q 4) fa fA
  | 9 => dlv c dstB4 (srcB c fS fD hD hS 4) (q 4) fb fB
  | 10 => dlv c dstA5 (srcA c fS fD hD hS 5) (q 5) fa fA
  | 11 => dlv c dstB5 (srcB c fS fD hD hS 5) (q 5) fb fB

instance deliv_storable (q : Fin 6 → PosShare TreeShare) (fa : BufOf (F := F) c scA) (fb : BufOf (F := F) c scB) (fA : BufOf (F := F) c hbA) (fB : BufOf (F := F) c hbB)
    (t : Fin 12) : Storable (upEmb : UEmb _ 𝕄) (deliv c fS fD hD hS q fa fb fA fB t) := by
  fin_cases t <;> simp only [deliv] <;> infer_instance

/-- The windows landed and the zeros stored: the buffer whole, at the gathered contents. -/
theorem joinA (fA : BufOf (F := F) c hbA) (fa : BufOf (F := F) c scA) :
    (iprop(
        (dstA0.view.loc (c : Thread nD τ) ↦[dstA0.view.set]{fullShare} dstA0.view.writes (Elt F) fa [⟨Rect.whole _, ReadAs.same.apply ((srcA c fS fD hD hS 0).view.read (Elt F) fA)⟩]) ∗
        (dstA1.view.loc (c : Thread nD τ) ↦[dstA1.view.set]{fullShare} dstA1.view.writes (Elt F) fa [⟨Rect.whole _, ReadAs.same.apply ((srcA c fS fD hD hS 1).view.read (Elt F) fA)⟩]) ∗
        (dstA2.view.loc (c : Thread nD τ) ↦[dstA2.view.set]{fullShare} dstA2.view.writes (Elt F) fa [⟨Rect.whole _, ReadAs.same.apply ((srcA c fS fD hD hS 2).view.read (Elt F) fA)⟩]) ∗
        (dstA3.view.loc (c : Thread nD τ) ↦[dstA3.view.set]{fullShare} dstA3.view.writes (Elt F) fa [⟨Rect.whole _, ReadAs.same.apply ((srcA c fS fD hD hS 3).view.read (Elt F) fA)⟩]) ∗
        (dstA4.view.loc (c : Thread nD τ) ↦[dstA4.view.set]{fullShare} dstA4.view.writes (Elt F) fa [⟨Rect.whole _, ReadAs.same.apply ((srcA c fS fD hD hS 4).view.read (Elt F) fA)⟩]) ∗
        (dstA5.view.loc (c : Thread nD τ) ↦[dstA5.view.set]{fullShare} dstA5.view.writes (Elt F) fa [⟨Rect.whole _, ReadAs.same.apply ((srcA c fS fD hD hS 5).view.read (Elt F) fA)⟩]) ∗
        (scA.view.loc (c : Thread nD τ) ↦[((((((scA.view.set \ dstA0.view.set) \ dstA1.view.set) \ dstA2.view.set) \ dstA3.view.set) \ dstA4.view.set) \ dstA5.view.set)]{fullShare}
          scA.view.writes (Elt F) fa [⟨Rect.unit (s := S512x4096) ![432, 0] S80x4096.size inb_S512x4096_S80x4096_432_0, k0_pay2 (F := F)⟩])) : sProp 𝕄)
      = pt c scA fullShare (bufA c fS fD hD hS fA) := by
  rw [carveA, ← padA_eq]
  refine congrArg₂ BIBase.sep (pointsTo_congr (landA (stW c fS fD hD) (stW_ok c fS fD hD hS) c fA 0 0 rfl inb_S512x4096_S72x4096_0_0 fa)) ?_
  refine congrArg₂ BIBase.sep (pointsTo_congr (landA (stW c fS fD hD) (stW_ok c fS fD hD hS) c fA 1 72 rfl inb_S512x4096_S72x4096_72_0 fa)) ?_
  refine congrArg₂ BIBase.sep (pointsTo_congr (landA (stW c fS fD hD) (stW_ok c fS fD hD hS) c fA 2 144 rfl inb_S512x4096_S72x4096_144_0 fa)) ?_
  refine congrArg₂ BIBase.sep (pointsTo_congr (landA (stW c fS fD hD) (stW_ok c fS fD hD hS) c fA 3 216 rfl inb_S512x4096_S72x4096_216_0 fa)) ?_
  refine congrArg₂ BIBase.sep (pointsTo_congr (landA (stW c fS fD hD) (stW_ok c fS fD hD hS) c fA 4 288 rfl inb_S512x4096_S72x4096_288_0 fa)) ?_
  refine congrArg₂ BIBase.sep (pointsTo_congr (landA (stW c fS fD hD) (stW_ok c fS fD hD hS) c fA 5 360 rfl inb_S512x4096_S72x4096_360_0 fa)) ?_
  exact pointsTo_congr (landA_pad (stW c fS fD hD) (stW_ok c fS fD hD hS) c fA fa)

/-- The windows landed and the zeros stored: the buffer whole, at the gathered contents. -/
theorem joinB (fB : BufOf (F := F) c hbB) (fb : BufOf (F := F) c scB) :
    (iprop(
        (dstB0.view.loc (c : Thread nD τ) ↦[dstB0.view.set]{fullShare} dstB0.view.writes (Elt F) fb [⟨Rect.whole _, ReadAs.same.apply ((srcB c fS fD hD hS 0).view.read (Elt F) fB)⟩]) ∗
        (dstB1.view.loc (c : Thread nD τ) ↦[dstB1.view.set]{fullShare} dstB1.view.writes (Elt F) fb [⟨Rect.whole _, ReadAs.same.apply ((srcB c fS fD hD hS 1).view.read (Elt F) fB)⟩]) ∗
        (dstB2.view.loc (c : Thread nD τ) ↦[dstB2.view.set]{fullShare} dstB2.view.writes (Elt F) fb [⟨Rect.whole _, ReadAs.same.apply ((srcB c fS fD hD hS 2).view.read (Elt F) fB)⟩]) ∗
        (dstB3.view.loc (c : Thread nD τ) ↦[dstB3.view.set]{fullShare} dstB3.view.writes (Elt F) fb [⟨Rect.whole _, ReadAs.same.apply ((srcB c fS fD hD hS 3).view.read (Elt F) fB)⟩]) ∗
        (dstB4.view.loc (c : Thread nD τ) ↦[dstB4.view.set]{fullShare} dstB4.view.writes (Elt F) fb [⟨Rect.whole _, ReadAs.same.apply ((srcB c fS fD hD hS 4).view.read (Elt F) fB)⟩]) ∗
        (dstB5.view.loc (c : Thread nD τ) ↦[dstB5.view.set]{fullShare} dstB5.view.writes (Elt F) fb [⟨Rect.whole _, ReadAs.same.apply ((srcB c fS fD hD hS 5).view.read (Elt F) fB)⟩]) ∗
        (scB.view.loc (c : Thread nD τ) ↦[((((((scB.view.set \ dstB0.view.set) \ dstB1.view.set) \ dstB2.view.set) \ dstB3.view.set) \ dstB4.view.set) \ dstB5.view.set)]{fullShare}
          scB.view.writes (Elt F) fb [⟨Rect.unit (s := S512x14336) ![432, 0] S80x14336.size inb_S512x14336_S80x14336_432_0, k0_pay3 (F := F)⟩])) : sProp 𝕄)
      = pt c scB fullShare (bufB c fS fD hD hS fB) := by
  rw [carveB, ← padB_eq]
  refine congrArg₂ BIBase.sep (pointsTo_congr (landB (stW c fS fD hD) (stW_ok c fS fD hD hS) c fB 0 0 rfl inb_S512x14336_S72x14336_0_0 fb)) ?_
  refine congrArg₂ BIBase.sep (pointsTo_congr (landB (stW c fS fD hD) (stW_ok c fS fD hD hS) c fB 1 72 rfl inb_S512x14336_S72x14336_72_0 fb)) ?_
  refine congrArg₂ BIBase.sep (pointsTo_congr (landB (stW c fS fD hD) (stW_ok c fS fD hD hS) c fB 2 144 rfl inb_S512x14336_S72x14336_144_0 fb)) ?_
  refine congrArg₂ BIBase.sep (pointsTo_congr (landB (stW c fS fD hD) (stW_ok c fS fD hD hS) c fB 3 216 rfl inb_S512x14336_S72x14336_216_0 fb)) ?_
  refine congrArg₂ BIBase.sep (pointsTo_congr (landB (stW c fS fD hD) (stW_ok c fS fD hD hS) c fB 4 288 rfl inb_S512x14336_S72x14336_288_0 fb)) ?_
  refine congrArg₂ BIBase.sep (pointsTo_congr (landB (stW c fS fD hD) (stW_ok c fS fD hD hS) c fB 5 360 rfl inb_S512x14336_S72x14336_360_0 fb)) ?_
  exact pointsTo_congr (landB_pad (stW c fS fD hD) (stW_ok c fS fD hD hS) c fB fb)

variable (i : grid0.Coords) (hi : k0_cond1 i = 1#1)
    (qS qR qO qA : PosShare TreeShare) (q : Fin 6 → PosShare TreeShare)
    (arg5 : Memref sig .tc .smem S11 .f32) (harg5 : arg5.IsWhole) (arg6 : Memref sig .tc .vmem S128x4096 .bf16) (harg6 : arg6.IsWhole)
    (arg7 : Memref sig .tc .vmem S512x512 .i32) (harg7 : arg7.IsWhole) (arg8 : Memref sig .tc .vmem S32x512 .bf16) (harg8 : arg8.IsWhole)
    (arg9 : Memref sig .tc .vmem S32x512 .bf16) (harg9 : arg9.IsWhole) (arg12 : Memref sig .tc .vmem S128x512 .bf16) (harg12 : arg12.IsWhole)
    (arg13 : Memref sig .tc .vmem S128x64 .bf16) (harg13 : arg13.IsWhole)
    (f5 : BufOf (F := F) c arg5)
    (f6 : BufOf (F := F) c arg6) (f7 : BufOf (F := F) c arg7) (f8 : BufOf (F := F) c arg8) (f9 : BufOf (F := F) c arg9)
    (fA : BufOf (F := F) c hbA) (fB : BufOf (F := F) c hbB)

/-- What the run neither changes: the tables, the staged operands, the pools. -/
abbrev keeps : sProp 𝕄 :=
  iprop(pt c tbStart qS fS ∗ pt c tbRank qR fR ∗ pt c tbOff qO fO ∗ pt c tbAd qA fD ∗ pt c arg5 fullShare f5 ∗ pt c arg6 fullShare f6
    ∗ pt c arg7 fullShare f7 ∗ pt c arg8 fullShare f8 ∗ pt c arg9 fullShare f9)
abbrev pools : sProp 𝕄 :=
  iprop(pt c hbA (q 0) fA
    ∗ pt c hbA (q 1) fA
    ∗ pt c hbA (q 2) fA
    ∗ pt c hbA (q 3) fA
    ∗ pt c hbA (q 4) fA
    ∗ pt c hbA (q 5) fA
    ∗ pt c hbB (q 0) fB
    ∗ pt c hbB (q 1) fB
    ∗ pt c hbB (q 2) fB
    ∗ pt c hbB (q 3) fB
    ∗ pt c hbB (q 4) fB
    ∗ pt c hbB (q 5) fB)

def firstRun :
    { L : List (View.Piece (Elt F) S128x512 .bf16) × List (View.Piece (Elt F) S128x64 .bf16) × List (View.Piece (Elt F) S128x512 .bf16) //
      ∀ (f12 : BufOf (F := F) c arg12) (f13 : BufOf (F := F) c arg13) (fa : BufOf (F := F) c scA) (fb : BufOf (F := F) c scB) (fH : BufOf (F := F) c scH)
        (W : _) (K : PUnit → sProp 𝕄),
        iprop(keeps c fS fR fO fD qS qR qO qA arg5 arg6 arg7 arg8 arg9 f5 f6 f7 f8 f9 ∗ pools c q fA fB
            ∗ pt c arg12 fullShare f12 ∗ pt c arg13 fullShare f13 ∗ pt c scA fullShare fa ∗ pt c scB fullShare fb ∗ pt c scH fullShare fH
            ∗ semVal ((c : Thread nD τ), SemLoc.dma 11) 0 ∗ owes (c : Thread nD τ) 0 W
            ∗ (iprop(keeps c fS fR fO fD qS qR qO qA arg5 arg6 arg7 arg8 arg9 f5 f6 f7 f8 f9 ∗ pools c q fA fB
                ∗ (arg12.view.loc (c : Thread nD τ) ↦{fullShare} arg12.view.writes (Elt F) f12 L.1)
                ∗ (arg13.view.loc (c : Thread nD τ) ↦{fullShare} arg13.view.writes (Elt F) f13 L.2.1)
                ∗ pt c scA fullShare (bufA c fS fD hD hS fA) ∗ pt c scB fullShare (bufB c fS fD hD hS fB)
                ∗ (scH.view.loc (c : Thread nD τ) ↦{fullShare} scH.view.writes (Elt F) fH L.2.2)
                ∗ semVal ((c : Thread nD τ), SemLoc.dma 11) 0 ∗ (∃ W', owes (c : Thread nD τ) 0 W')) -∗ K ⟨⟩))
          ⊢ wp frame (wpE (defs₀ (F := F)) Variants.none c none) Set.univ
              (cc0_slora_u4 i tbStart (Memref.isWhole_whole _) tbRank (Memref.isWhole_whole _) tbOff (Memref.isWhole_whole _)
                tbAd (Memref.isWhole_whole _) arg5 harg5 arg6 harg6 arg7 harg7 arg8 harg8 arg9 harg9
                hbA (Memref.isWhole_whole _) hbB (Memref.isWhole_whole _) arg12 harg12 arg13 harg13
                scA (Memref.isWhole_whole _) scB (Memref.isWhole_whole _) scH (Memref.isWhole_whole _) cc0_scratch3) K } := by
  refine ⟨⟨?_, ?_, ?_⟩, fun f12 f13 fa fb fH W K => ?run⟩
  case run =>
    simp only [cc0_slora_u4_eq_skeleton]; unfold cc0_slora_u4_skel
    rw [carveA, carveB, padA_eq, padB_eq]
    iintro ⟨⟨HtS, HtR, HtO, HtD, H5, H6, H7, H8, H9⟩, ⟨HA0, HA1, HA2, HA3, HA4, HA5, HB0, HB1, HB2, HB3, HB4, HB5⟩, H12, H13, ⟨Ha0, Ha1, Ha2, Ha3, Ha4, Ha5, Hap⟩, ⟨Hb0, Hb1, Hb2, Hb3, Hb4, Hb5, Hbp⟩, HH, Hq, HW, Hk⟩
    imod (Transfers.mixedBatch_alloc' (Lvl := ℕ) (countersEmb (U := Pipeline.UD sig nD τ)) (c : Thread nD τ) () amts
      (deliv c fS fD hD hS q fa fb fA fB) (sm := SemLoc.dma 11) (E := Set.univ)) $$ Hq with HM
    unfold deliv
    sl_exec_parts (disch := first | exact hi | exact chk1 _ (hD _ _) | exact chk3 _ (hD _ _) | exact chk5 _ (hD _ _) | exact chk7 _ (hD _ _) | exact chk9 _ (hD _ _) | exact chk11 _ (hD _ _) | exact chk13 _ (hD _ _) | exact chk15 _ (hD _ _) | exact chk16 _ (hD _ _) | exact chk18 _ (hD _ _) | exact chk19 _ (hD _ _) | exact chk21 _ (hD _ _) | exact chk22 _ (hD _ _) | exact chk24 _ (hD _ _) | exact chk25 _ (hD _ _) | exact chk27 _ (hD _ _) | exact chk28 _ (hD _ _) | exact chk30 _ (hD _ _) | ((with_reducible refine chk2 _ ?_); exact hS 0) | ((with_reducible refine chk4 _ ?_); exact hS 1) | ((with_reducible refine chk6 _ ?_); exact hS 2) | ((with_reducible refine chk8 _ ?_); exact hS 3) | ((with_reducible refine chk10 _ ?_); exact hS 4) | ((with_reducible refine chk12 _ ?_); exact hS 5) | ((with_reducible refine chk14 _ ?_); exact hS 0) | ((with_reducible refine chk17 _ ?_); exact hS 1) | ((with_reducible refine chk20 _ ?_); exact hS 2) | ((with_reducible refine chk23 _ ?_); exact hS 3) | ((with_reducible refine chk26 _ ?_); exact hS 4) | ((with_reducible refine chk29 _ ?_); exact hS 5))
    ihave Ha := (Entails.of_eq (joinA c fS fD hD hS fA fa)) $$ [HM_dst0 HM_dst2 HM_dst4 HM_dst6 HM_dst8 HM_dst10 Hap]
    · isplitl [HM_dst0]; · iexact HM_dst0
      isplitl [HM_dst2]; · iexact HM_dst2
      isplitl [HM_dst4]; · iexact HM_dst4
      isplitl [HM_dst6]; · iexact HM_dst6
      isplitl [HM_dst8]; · iexact HM_dst8
      isplitl [HM_dst10]; · iexact HM_dst10
      iexact Hap
    ihave Hb := (Entails.of_eq (joinB c fS fD hD hS fB fb)) $$ [HM_dst1 HM_dst3 HM_dst5 HM_dst7 HM_dst9 HM_dst11 Hbp]
    · isplitl [HM_dst1]; · iexact HM_dst1
      isplitl [HM_dst3]; · iexact HM_dst3
      isplitl [HM_dst5]; · iexact HM_dst5
      isplitl [HM_dst7]; · iexact HM_dst7
      isplitl [HM_dst9]; · iexact HM_dst9
      isplitl [HM_dst11]; · iexact HM_dst11
      iexact Hbp
    sl_exec_parts (disch := first | exact hi | exact chk1 _ (hD _ _) | exact chk3 _ (hD _ _) | exact chk5 _ (hD _ _) | exact chk7 _ (hD _ _) | exact chk9 _ (hD _ _) | exact chk11 _ (hD _ _) | exact chk13 _ (hD _ _) | exact chk15 _ (hD _ _) | exact chk16 _ (hD _ _) | exact chk18 _ (hD _ _) | exact chk19 _ (hD _ _) | exact chk21 _ (hD _ _) | exact chk22 _ (hD _ _) | exact chk24 _ (hD _ _) | exact chk25 _ (hD _ _) | exact chk27 _ (hD _ _) | exact chk28 _ (hD _ _) | exact chk30 _ (hD _ _) | ((with_reducible refine chk2 _ ?_); exact hS 0) | ((with_reducible refine chk4 _ ?_); exact hS 1) | ((with_reducible refine chk6 _ ?_); exact hS 2) | ((with_reducible refine chk8 _ ?_); exact hS 3) | ((with_reducible refine chk10 _ ?_); exact hS 4) | ((with_reducible refine chk12 _ ?_); exact hS 5) | ((with_reducible refine chk14 _ ?_); exact hS 0) | ((with_reducible refine chk17 _ ?_); exact hS 1) | ((with_reducible refine chk20 _ ?_); exact hS 2) | ((with_reducible refine chk23 _ ?_); exact hS 3) | ((with_reducible refine chk26 _ ?_); exact hS 4) | ((with_reducible refine chk29 _ ?_); exact hS 5))
    sl_step
    iapply Hk
    isplitl [HtS HtR HtO HtD H5 H6 H7 H8 H9]
    · isplitl [HtS]; · iexact HtS
      isplitl [HtR]; · iexact HtR
      isplitl [HtO]; · iexact HtO
      isplitl [HtD]; · iexact HtD
      isplitl [H5]; · iexact H5
      isplitl [H6]; · iexact H6
      isplitl [H7]; · iexact H7
      isplitl [H8]; · iexact H8
      iexact H9
    isplitl [HA0 HA1 HA2 HA3 HA4 HA5 HB0 HB1 HB2 HB3 HB4 HB5]
    · isplitl [HA0]; · iexact HA0
      isplitl [HA1]; · iexact HA1
      isplitl [HA2]; · iexact HA2
      isplitl [HA3]; · iexact HA3
      isplitl [HA4]; · iexact HA4
      isplitl [HA5]; · iexact HA5
      isplitl [HB0]; · iexact HB0
      isplitl [HB1]; · iexact HB1
      isplitl [HB2]; · iexact HB2
      isplitl [HB3]; · iexact HB3
      isplitl [HB4]; · iexact HB4
      iexact HB5
    isplitl [H12]; · iexact H12
    isplitl [H13]; · iexact H13
    isplitl [Ha]; · iexact Ha
    isplitl [Hb]; · iexact Hb
    isplitl [HH]; · iexact HH
    isplitl [HM]; · iexact HM
    iexists _; iexact HW

end Cert.KernelIdeal.Hand

end
-- ==== Proof.KI.Later.lean ====
/-
  The body at a grid point past the first: it computes one tile of the result from the point's blocks of the quantised
  weights and what the scratch buffers hold, and writes nothing but that tile.
-/
module

public import proofs.«01_k».proof.Proof.KI.Common

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The body's run where the grid point is not the first. -/
def laterRun (c : Dev nD) (i : grid0.Coords) (hi : ¬ k0_cond1 i = 1#1)
    (arg5 : Memref sig .tc .smem S11 .f32) (harg5 : arg5.IsWhole) (arg6 : Memref sig .tc .vmem S128x4096 .bf16) (harg6 : arg6.IsWhole)
    (arg7 : Memref sig .tc .vmem S512x512 .i32) (harg7 : arg7.IsWhole) (arg8 : Memref sig .tc .vmem S32x512 .bf16) (harg8 : arg8.IsWhole)
    (arg9 : Memref sig .tc .vmem S32x512 .bf16) (harg9 : arg9.IsWhole) (arg12 : Memref sig .tc .vmem S128x512 .bf16) (harg12 : arg12.IsWhole)
    (arg13 : Memref sig .tc .vmem S128x64 .bf16) (harg13 : arg13.IsWhole)
    (f6 : BufOf (F := F) c arg6) (f7 : BufOf (F := F) c arg7) (f8 : BufOf (F := F) c arg8) (f9 : BufOf (F := F) c arg9)
    (fB : BufOf (F := F) c scB) (fH : BufOf (F := F) c scH) :
    { L : List (View.Piece (Elt F) S128x512 .bf16) //
      ∀ (f12 : BufOf (F := F) c arg12) (K : PUnit → sProp 𝕄),
        iprop(pt c arg6 fullShare f6 ∗ pt c arg7 fullShare f7 ∗ pt c arg8 fullShare f8 ∗ pt c arg9 fullShare f9
            ∗ pt c arg12 fullShare f12 ∗ pt c scB fullShare fB ∗ pt c scH fullShare fH
            ∗ (iprop(pt c arg6 fullShare f6 ∗ pt c arg7 fullShare f7 ∗ pt c arg8 fullShare f8 ∗ pt c arg9 fullShare f9
                ∗ (arg12.view.loc (c : Thread nD τ) ↦{fullShare} arg12.view.writes (Elt F) f12 L)
                ∗ pt c scB fullShare fB ∗ pt c scH fullShare fH) -∗ K ⟨⟩))
          ⊢ wp frame (wpE (defs₀ (F := F)) Variants.none c none) Set.univ
              (cc0_slora_u4 i tbStart (Memref.isWhole_whole _) tbRank (Memref.isWhole_whole _) tbOff (Memref.isWhole_whole _)
                tbAd (Memref.isWhole_whole _) arg5 harg5 arg6 harg6 arg7 harg7 arg8 harg8 arg9 harg9
                hbA (Memref.isWhole_whole _) hbB (Memref.isWhole_whole _) arg12 harg12 arg13 harg13
                scA (Memref.isWhole_whole _) scB (Memref.isWhole_whole _) scH (Memref.isWhole_whole _) cc0_scratch3) K } := by
  refine ⟨?_, fun f12 K => ?run⟩
  case run =>
    simp only [cc0_slora_u4_eq_skeleton]; unfold cc0_slora_u4_skel
    iintro ⟨H6, H7, H8, H9, H12, HB, HH, Hk⟩
    sl_exec_parts (disch := exact hi)
    sl_step
    iapply Hk
    isplitl [H6]; · iexact H6
    isplitl [H7]; · iexact H7
    isplitl [H8]; · iexact H8
    isplitl [H9]; · iexact H9
    isplitl [H12]; · iexact H12
    isplitl [HB]; · iexact HB
    iexact HH

end Cert.KernelIdeal.Hand

end
-- ==== Proof.KI.Data.lean ====
/-
  The proof data of the region: what each window's buffer holds when the body has run at a point, and the invariant
  between points: from the second point on, the rows gathered from the second pool and the masked low-rank activations.
-/
module

public import proofs.«01_k».proof.Proof.KI.Region
public import proofs.«01_k».proof.Proof.KI.First
public import proofs.«01_k».proof.Proof.KI.Later
public import Idealize.ShloMosaic.Lib.LaneScatter.Own

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- A whole memref owned at `X` is its buffer at the contents that read `X`, and back. -/
theorem owns_pt (c : Dev nD) {sp : Space} {S : Shape} {e : EltTy} (M : Memref sig .tc sp S e) (h : M.IsWhole) (X : S.Idx → Elt F e) :
    (owns (c : Thread nD τ) M fullShare X : sProp 𝕄) ⊢ pt c M fullShare (h.unread X) := by
  refine (LaneScatter.owns_raw (c : Thread nD τ) M h X).trans ?_
  unfold LaneScatter.raw pt
  rw [h.set_eq_univ]
theorem pt_owns (c : Dev nD) {sp : Space} {S : Shape} {e : EltTy} (M : Memref sig .tc sp S e) (h : M.IsWhole) (f : BufOf (F := F) c M) (X : S.Idx → Elt F e)
    (hx : M.view.read (Elt F) f = X) : pt c M fullShare f ⊢ (owns (c : Thread nD τ) M fullShare X : sProp 𝕄) := by
  refine BIBase.Entails.trans ?_ (LaneScatter.raw_owns (c : Thread nD τ) M hx)
  unfold LaneScatter.raw pt
  rw [h.set_eq_univ]

variable (m : (ℓ : Loc nD τ sig) → Buf (Elt F) ℓ)

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The windows' current buffers. -/
abbrev ms0 (t : Fin (cfgM m).N) : Memref sig .tc .smem S11 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S128x4096 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S512x512 .i32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S32x512 .bf16 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S32x512 .bf16 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S128x512 .bf16 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S128x64 .bf16 := spec0_6.stage ((cfgM m).slots t 6)
abbrev hs6 (t : Fin (cfgM m).N) : (ms6 m t).IsWhole := hstage0_6 (((cfgM m).slots t 6).cast nbuf0_6)

/-- The first point. -/
def t0 : Fin (cfgM m).N := ⟨0, lt_of_lt_of_eq (by decide : 0 < 28) N_0.symm⟩
theorem hi0 : k0_cond1 (grid0.coords (t0 m)) = 1#1 := (cond_iff (t0 m)).mpr rfl

/-- Every adapter number in the table of segments, and every start row, is in range on every core. -/
structure TabOKAt (c : Dev nD) : Prop where
  ad : AdOK c (V m c main_arg10 : BufOf (F := F) c tbAd)
  st : StOK c (V m c main_arg6 : BufOf (F := F) c tbStart) (V m c main_arg10) ad
abbrev TabOK : Prop := ∀ c : Dev nD, TabOKAt m c

variable (H : TabOK m)

/-- The run at the first point, on the first point's blocks; its results' lists of writes. -/
abbrev firstW (c : Dev nD) : List (View.Piece (Elt F) S128x512 .bf16) × List (View.Piece (Elt F) S128x64 .bf16) × List (View.Piece (Elt F) S128x512 .bf16) :=
  (firstRun c (V m c main_arg6) (V m c main_arg7) (V m c main_arg9) (V m c main_arg10) (H c).1 (H c).2 (grid0.coords (t0 m)) (hi0 m)
    fullShare.right fullShare.right fullShare.right fullShare.right (fun s => Transfers.shareTok fullShare 6 s)
    (ms0 m (t0 m)) (hs0 m (t0 m)) (ms1 m (t0 m)) (hs1 m (t0 m)) (ms2 m (t0 m)) (hs2 m (t0 m)) (ms3 m (t0 m)) (hs3 m (t0 m)) (ms4 m (t0 m)) (hs4 m (t0 m))
    (ms5 m (t0 m)) (hs5 m (t0 m)) (ms6 m (t0 m)) (hs6 m (t0 m))
    ((hs0 m (t0 m)).unread (iblk m c 0 (t0 m))) ((hs1 m (t0 m)).unread (iblk m c 1 (t0 m))) ((hs2 m (t0 m)).unread (iblk m c 2 (t0 m)))
    ((hs3 m (t0 m)).unread (iblk m c 3 (t0 m))) ((hs4 m (t0 m)).unread (iblk m c 4 (t0 m))) (V m c main_arg4) (V m c main_arg5)).1

/-- A fixed buffer of each result's shape, through which what a list of writes leaves is stated. -/
abbrev VY : View sig .tc .vmem S128x512 .bf16 := scH.view
abbrev VL : View sig .tc .vmem S128x64 .bf16 := (Memref.whole cc0_stg6_0 : Memref sig .tc .vmem S128x64 .bf16).view

/-- The first tile of the result, the low-rank activations, and the masked ones kept for the later points. -/
def firstY (c : Dev nD) : Vec F S128x512 .bf16 := VY.read (Elt F) (VY.writes (Elt F) VY.junk (firstW m H c).1)
def loraH (c : Dev nD) : Vec F S128x64 .bf16 := VL.read (Elt F) (VL.writes (Elt F) VL.junk (firstW m H c).2.1)
def maskH (c : Dev nD) : Vec F S128x512 .bf16 := VY.read (Elt F) (VY.writes (Elt F) VY.junk (firstW m H c).2.2)

/-- What the invariant keeps from the first point on: the second pool's gathered rows, the masked activations. -/
abbrev keptB (c : Dev nD) : BufOf (F := F) c scB := bufB c (V m c main_arg6) (V m c main_arg10) (H c).1 (H c).2 (V m c main_arg5)
abbrev keptH (c : Dev nD) : BufOf (F := F) c scH := (Memref.isWhole_whole cc0_scratch2).unread (maskH m H c)

/-- The run at a later point, its list of writes. -/
abbrev laterW (c : Dev nD) (t : Fin (cfgM m).N) (ht : t.val ≠ 0) : List (View.Piece (Elt F) S128x512 .bf16) :=
  (laterRun c (grid0.coords t) (fun h => ht ((cond_iff t).mp h)) (ms0 m t) (hs0 m t) (ms1 m t) (hs1 m t) (ms2 m t) (hs2 m t) (ms3 m t) (hs3 m t) (ms4 m t) (hs4 m t)
    (ms5 m t) (hs5 m t) (ms6 m t) (hs6 m t)
    ((hs1 m t).unread (iblk m c 1 t)) ((hs2 m t).unread (iblk m c 2 t)) ((hs3 m t).unread (iblk m c 3 t)) ((hs4 m t).unread (iblk m c 4 t))
    (keptB m H c) (keptH m H c)).1

/-- The result's tile at point `t`. -/
def tileY (c : Dev nD) (t : Fin (cfgM m).N) : Vec F S128x512 .bf16 :=
  if ht : t.val = 0 then firstY m H c else VY.read (Elt F) (VY.writes (Elt F) VY.junk (laterW m H c t ht))

/-- The invariant before position `n`: at first what the region hands the body; then the scratch at its contents. -/
def inv (c : Dev nD) (n : ℕ) : sProp 𝕄 :=
  if n = 0 then iprop(Pipeline.ΦD osem0 spec0 H0 (V m) c ∗ Pipeline.ΦT pre0 (tbl m) c)
  else iprop((∃ f, pt c scA fullShare f) ∗ pt c scB fullShare (keptB m H c) ∗ pt c scH fullShare (keptH m H c) ∗ (∃ r, prngReg c r)
    ∗ semVal ((c : Thread nD τ), SemLoc.dma 11) 0 ∗ pt c hbA fullShare (V m c main_arg4) ∗ pt c hbB fullShare (V m c main_arg5)
    ∗ Pipeline.ΦT pre0 (tbl m) c)

/-- The proof data. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileY m H c t
    | ⟨6, _⟩ => loraH m H c
  Φ t := inv m H c t.val
  q _ := fullShare
  owed _ := 0

theorem A_eq (c : Dev nD) (w : Fin (cfgM m).W) : (dats m H 0 c).A w = V m c (Pipeline.arrRef spec0 w) := by dsimp only [dats]
theorem after0 (c : Dev nD) (t : Fin (cfgM m).N) : (dats m H 0 c).after 0 t = iblk m c 0 t := rfl
theorem after1 (c : Dev nD) (t : Fin (cfgM m).N) : (dats m H 0 c).after 1 t = iblk m c 1 t := rfl
theorem after2 (c : Dev nD) (t : Fin (cfgM m).N) : (dats m H 0 c).after 2 t = iblk m c 2 t := rfl
theorem after3 (c : Dev nD) (t : Fin (cfgM m).N) : (dats m H 0 c).after 3 t = iblk m c 3 t := rfl
theorem after4 (c : Dev nD) (t : Fin (cfgM m).N) : (dats m H 0 c).after 4 t = iblk m c 4 t := rfl
theorem after5 (c : Dev nD) (t : Fin (cfgM m).N) : (dats m H 0 c).after 5 t = tileY m H c t := rfl
theorem after6 (c : Dev nD) (t : Fin (cfgM m).N) : (dats m H 0 c).after 6 t = loraH m H c := rfl

/-- An input window's buffer holds its block at every point, fetched there or not. -/
theorem before0 (c : Dev nD) (t : Fin (cfgM m).N) (d) : (dats m H 0 c).before 0 t d = iblk m c 0 t :=
  ((dats m H 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m H 0 c).before 1 t d = iblk m c 1 t :=
  ((dats m H 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m H 0 c).before 2 t d = iblk m c 2 t :=
  ((dats m H 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgM m).N) (d) : (dats m H 0 c).before 3 t d = iblk m c 3 t :=
  ((dats m H 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfgM m).N) (d) : (dats m H 0 c).before 4 t d = iblk m c 4 t :=
  ((dats m H 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- Past the first point the low-rank activations' buffer holds what the first point left. -/
theorem before6 (c : Dev nD) (t : Fin (cfgM m).N) (ht : t.val ≠ 0) (d) : (dats m H 0 c).before 6 t d = loraH m H c := by
  rw [(dats m H 0 c).before_out_traj 6 rfl (fun _ _ => rfl) (fun t _ _ _ => by rw [after6, after6]) t.val t rfl d, fresh6 m t.val t.isLt.le,
    if_neg, after6]
  have := t.isLt.trans_eq (show (cfgM m).N = 28 from N_0)
  simp only [Bool.or_eq_true, decide_eq_true_eq]; omega

end Cert.KernelIdeal.Hand

end
-- ==== Proof.KI.Body.lean ====
/-
  The body obligation: at the first point by the first point's run, at a later point by the later points' run.
-/
module

public import proofs.«01_k».proof.Proof.KI.Data

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (H : TabOK m)

/-- The body as the region calls it at a point. -/
abbrev bodyAt (t : Fin (cfgM m).N) : Prog (TpuEff nD τ sig (Elt F) Λ₀ .tc) PUnit :=
  cc0_slora_u4 (grid0.coords t) tbStart (Memref.isWhole_whole _) tbRank (Memref.isWhole_whole _) tbOff (Memref.isWhole_whole _)
    tbAd (Memref.isWhole_whole _) (ms0 m t) (hs0 m t) (ms1 m t) (hs1 m t) (ms2 m t) (hs2 m t) (ms3 m t) (hs3 m t) (ms4 m t) (hs4 m t)
    hbA (Memref.isWhole_whole _) hbB (Memref.isWhole_whole _) (ms5 m t) (hs5 m t) (ms6 m t) (hs6 m t)
    scA (Memref.isWhole_whole _) scB (Memref.isWhole_whole _) scH (Memref.isWhole_whole _) cc0_scratch3

/-- What the body is handed and hands back, the windows one by one; the low-rank activations' window last. -/
def bodyPre (c : Dev nD) (t : Fin (cfgM m).N) : sProp 𝕄 :=
  iprop((dats m H 0 c).Φ t.castSucc ∗ (dats m H 0 c).owesAt () t.castSucc
    ∗ (∃ d, owns (c : Thread nD τ) (ms0 m t) fullShare ((dats m H 0 c).before 0 t d))
    ∗ (∃ d, owns (c : Thread nD τ) (ms1 m t) fullShare ((dats m H 0 c).before 1 t d))
    ∗ (∃ d, owns (c : Thread nD τ) (ms2 m t) fullShare ((dats m H 0 c).before 2 t d))
    ∗ (∃ d, owns (c : Thread nD τ) (ms3 m t) fullShare ((dats m H 0 c).before 3 t d))
    ∗ (∃ d, owns (c : Thread nD τ) (ms4 m t) fullShare ((dats m H 0 c).before 4 t d))
    ∗ (∃ d, owns (c : Thread nD τ) (ms5 m t) fullShare ((dats m H 0 c).before 5 t d))
    ∗ (∃ d, owns (c : Thread nD τ) (ms6 m t) fullShare ((dats m H 0 c).before 6 t d)))
def bodyPost (c : Dev nD) (t : Fin (cfgM m).N) : sProp 𝕄 :=
  iprop((dats m H 0 c).Φ t.succ ∗ (dats m H 0 c).owesAt () t.succ
    ∗ owns (c : Thread nD τ) (ms0 m t) fullShare (iblk m c 0 t)
    ∗ owns (c : Thread nD τ) (ms1 m t) fullShare (iblk m c 1 t)
    ∗ owns (c : Thread nD τ) (ms2 m t) fullShare (iblk m c 2 t)
    ∗ owns (c : Thread nD τ) (ms3 m t) fullShare (iblk m c 3 t)
    ∗ owns (c : Thread nD τ) (ms4 m t) fullShare (iblk m c 4 t)
    ∗ owns (c : Thread nD τ) (ms5 m t) fullShare (tileY m H c t)
    ∗ owns (c : Thread nD τ) (ms6 m t) fullShare (loraH m H c))

/-- A list of writes that tiles a buffer leaves what it leaves in any other. -/
theorem owns_writes (c : Dev nD) {S : Shape} (M : Memref sig .tc .vmem S .bf16) (h : M.IsWhole) (v : View sig .tc .vmem S .bf16) (f : BufOf (F := F) c M)
    (L : List (View.Piece (Elt F) S .bf16)) (hL : ∀ y, ∃ p ∈ L, y ∈ p.1.set) :
    (M.view.loc (c : Thread nD τ) ↦{fullShare} M.view.writes (Elt F) f L : sProp 𝕄)
      ⊢ owns (c : Thread nD τ) M fullShare (v.read (Elt F) (v.writes (Elt F) v.junk L)) :=
  pt_owns c M h _ _ (View.read_writes_of_cover _ _ _ _ _ hL)

theorem cover_y (c : Dev nD) (y) : ∃ p ∈ (firstW m H c).1, y ∈ p.1.set := View.cover_of_tiledL (firstW m H c).1 S128x512.size (by sl_kernel_rfl) y
theorem cover_l (c : Dev nD) (y) : ∃ p ∈ (firstW m H c).2.1, y ∈ p.1.set := View.cover_of_tiledL (firstW m H c).2.1 S128x64.size (by sl_kernel_rfl) y
theorem cover_h (c : Dev nD) (y) : ∃ p ∈ (firstW m H c).2.2, y ∈ p.1.set := View.cover_of_tiledL (firstW m H c).2.2 S128x512.size (by sl_kernel_rfl) y
theorem cover_t (c : Dev nD) (t) (ht) (y) : ∃ p ∈ laterW m H c t ht, y ∈ p.1.set := View.cover_of_tiledL (laterW m H c t ht) S128x512.size (by sl_kernel_rfl) y

/-- A later point. -/
theorem sound_later (c : Dev nD) (t : Fin (cfgM m).N) (ht : t.val ≠ 0) :
    bodyPre m H c t ⊢ wp frame (wpE (defs₀ (F := F)) Variants.none c none) Set.univ (bodyAt m t) (fun _ => bodyPost m H c t) := by
  unfold bodyPre bodyPost bodyAt
  rw [show (dats m H 0 c).Φ t.castSucc = inv m H c t.val from rfl, show (dats m H 0 c).Φ t.succ = inv m H c (t.val + 1) from rfl]
  unfold inv
  rw [if_neg ht, if_neg (Nat.succ_ne_zero _)]
  unfold Dat.owesAt Pipeline.owesWithin
  rw [show (dats m H 0 c).owed t.castSucc = 0 from rfl, show (dats m H 0 c).owed t.succ = 0 from rfl]
  simp only [before0, before1, before2, before3, before4, before6 m H c t ht]
  unfold tileY
  rw [dif_neg ht]
  iintro ⟨⟨HA, HB, HH, Hg, Hq, HpA, HpB, HT⟩, ⟨%W, -, HW⟩, ⟨%d0, H0⟩, ⟨%d1, H1⟩, ⟨%d2, H2⟩, ⟨%d3, H3⟩, ⟨%d4, H4⟩, ⟨%d5, H5⟩, ⟨%d6, H6⟩⟩
  ihave H1 := (owns_pt c (ms1 m t) (hs1 m t) (iblk m c 1 t)) $$ H1
  ihave H2 := (owns_pt c (ms2 m t) (hs2 m t) (iblk m c 2 t)) $$ H2
  ihave H3 := (owns_pt c (ms3 m t) (hs3 m t) (iblk m c 3 t)) $$ H3
  ihave H4 := (owns_pt c (ms4 m t) (hs4 m t) (iblk m c 4 t)) $$ H4
  ihave H5 := (owns_pt c (ms5 m t) (hs5 m t) ((dats m H 0 c).before 5 t d5)) $$ H5
  iapply ((laterRun c (grid0.coords t) (fun h => ht ((cond_iff t).mp h)) (ms0 m t) (hs0 m t) (ms1 m t) (hs1 m t) (ms2 m t) (hs2 m t) (ms3 m t) (hs3 m t) (ms4 m t) (hs4 m t)
    (ms5 m t) (hs5 m t) (ms6 m t) (hs6 m t)
    ((hs1 m t).unread (iblk m c 1 t)) ((hs2 m t).unread (iblk m c 2 t)) ((hs3 m t).unread (iblk m c 3 t)) ((hs4 m t).unread (iblk m c 4 t))
    (keptB m H c) (keptH m H c)).2 _ _)
  isplitl [H1]; · iexact H1
  isplitl [H2]; · iexact H2
  isplitl [H3]; · iexact H3
  isplitl [H4]; · iexact H4
  isplitl [H5]; · iexact H5
  isplitl [HB]; · iexact HB
  isplitl [HH]; · iexact HH
  iintro ⟨H1, H2, H3, H4, H5, HB, HH⟩
  isplitl [HA HB HH Hg Hq HpA HpB HT]
  · isplitl [HA]; · iexact HA
    isplitl [HB]; · iexact HB
    isplitl [HH]; · iexact HH
    isplitl [Hg]; · iexact Hg
    isplitl [Hq]; · iexact Hq
    isplitl [HpA]; · iexact HpA
    isplitl [HpB]; · iexact HpB
    iexact HT
  isplitl [HW]
  · iexists W; isplitr; · ipureintro; exact fun _ _ => Or.inl trivial
    iexact HW
  isplitl [H0]; · iexact H0
  isplitl [H1]; · iapply (pt_owns c (ms1 m t) (hs1 m t) ((hs1 m t).unread (iblk m c 1 t)) (iblk m c 1 t) ((hs1 m t).read_unread _)) $$ H1
  isplitl [H2]; · iapply (pt_owns c (ms2 m t) (hs2 m t) ((hs2 m t).unread (iblk m c 2 t)) (iblk m c 2 t) ((hs2 m t).read_unread _)) $$ H2
  isplitl [H3]; · iapply (pt_owns c (ms3 m t) (hs3 m t) ((hs3 m t).unread (iblk m c 3 t)) (iblk m c 3 t) ((hs3 m t).read_unread _)) $$ H3
  isplitl [H4]; · iapply (pt_owns c (ms4 m t) (hs4 m t) ((hs4 m t).unread (iblk m c 4 t)) (iblk m c 4 t) ((hs4 m t).read_unread _)) $$ H4
  isplitl [H5]; · iapply (owns_writes c (ms5 m t) (hs5 m t) VY _ _ (cover_t m H c t ht)) $$ H5
  iexact H6

/-- A pool held whole is what remains of it beside six read shares, one for each segment's transfer. -/
theorem toks_eq (c : Dev nD) {sp : Space} {S : Shape} {e : EltTy} (M : Memref sig .tc sp S e) (f : BufOf (F := F) c M) :
    (pt c M fullShare f : sProp 𝕄) ⊣⊢ iprop(pt c M (Transfers.shareDrop fullShare 6) f
      ∗ pt c M (Transfers.shareTok fullShare 6 0) f ∗ pt c M (Transfers.shareTok fullShare 6 1) f ∗ pt c M (Transfers.shareTok fullShare 6 2) f
      ∗ pt c M (Transfers.shareTok fullShare 6 3) f ∗ pt c M (Transfers.shareTok fullShare 6 4) f ∗ pt c M (Transfers.shareTok fullShare 6 5) f) := by
  have h := Transfers.pointsTo_toks (Ix := Unit) (Name := ℕ) (U := Pipeline.UD sig nD τ) (Lvl := ℕ) (ℓ := M.view.loc (c : Thread nD τ)) (S := Finset.univ) (f := f) fullShare 6
  rw [bigSep_univ_eq_bigSepL [(0 : Fin 6), 1, 2, 3, 4, 5] (by decide) (by decide)] at h
  exact h

/-- The kept activations are what the first point's writes leave in their buffer, whatever it held. -/
theorem keptH_eq (c : Dev nD) (f : BufOf (F := F) c scH) : scH.view.writes (Elt F) f (firstW m H c).2.2 = keptH m H c :=
  (Memref.isWhole_whole cc0_scratch2).eq_unread (View.read_writes_of_cover _ _ _ _ _ (cover_h m H c))

/-- The first point. -/
theorem sound_first (c : Dev nD) :
    bodyPre m H c (t0 m) ⊢ wp frame (wpE (defs₀ (F := F)) Variants.none c none) Set.univ (bodyAt m (t0 m)) (fun _ => bodyPost m H c (t0 m)) := by
  unfold bodyPre bodyPost bodyAt
  rw [show (dats m H 0 c).Φ (t0 m).castSucc = inv m H c 0 from rfl, show (dats m H 0 c).Φ (t0 m).succ = inv m H c 1 from rfl]
  unfold inv
  rw [if_pos rfl, if_neg (Nat.succ_ne_zero _), Pipeline.ΦD_eq, scopedRest0_eq, ownSems0_eq, poolPts_eq, tables_eq]
  unfold Dat.owesAt Pipeline.owesWithin
  rw [show (dats m H 0 c).owed (t0 m).castSucc = 0 from rfl, show (dats m H 0 c).owed (t0 m).succ = 0 from rfl]
  simp only [before0, before1, before2, before3, before4]
  unfold tileY
  rw [dif_pos (show (t0 m).val = 0 from rfl)]
  iintro ⟨⟨⟨⟨⟨%fa, HA⟩, ⟨%fb, HB⟩, ⟨%fh, HH⟩⟩, Hg, Hq, HpA, HpB⟩, HtS, HtR, HtO, HtD⟩, ⟨%W, -, HW⟩, ⟨%d0, H0⟩, ⟨%d1, H1⟩, ⟨%d2, H2⟩, ⟨%d3, H3⟩, ⟨%d4, H4⟩, ⟨%d5, H5⟩, ⟨%d6, H6⟩⟩
  ihave H0 := (owns_pt c (ms0 m (t0 m)) (hs0 m (t0 m)) (iblk m c 0 (t0 m))) $$ H0
  ihave H1 := (owns_pt c (ms1 m (t0 m)) (hs1 m (t0 m)) (iblk m c 1 (t0 m))) $$ H1
  ihave H2 := (owns_pt c (ms2 m (t0 m)) (hs2 m (t0 m)) (iblk m c 2 (t0 m))) $$ H2
  ihave H3 := (owns_pt c (ms3 m (t0 m)) (hs3 m (t0 m)) (iblk m c 3 (t0 m))) $$ H3
  ihave H4 := (owns_pt c (ms4 m (t0 m)) (hs4 m (t0 m)) (iblk m c 4 (t0 m))) $$ H4
  ihave H5 := (owns_pt c (ms5 m (t0 m)) (hs5 m (t0 m)) ((dats m H 0 c).before 5 (t0 m) d5)) $$ H5
  ihave H6 := (owns_pt c (ms6 m (t0 m)) (hs6 m (t0 m)) ((dats m H 0 c).before 6 (t0 m) d6)) $$ H6
  ihave HpA := (toks_eq c hbA (V m c main_arg4)).1 $$ HpA
  ihave HpB := (toks_eq c hbB (V m c main_arg5)).1 $$ HpB
  icases HpA with ⟨HpA, HA0, HA1, HA2, HA3, HA4, HA5⟩
  icases HpB with ⟨HpB, HB0, HB1, HB2, HB3, HB4, HB5⟩
  iapply ((firstRun c (V m c main_arg6) (V m c main_arg7) (V m c main_arg9) (V m c main_arg10) (H c).1 (H c).2 (grid0.coords (t0 m)) (hi0 m)
    fullShare.right fullShare.right fullShare.right fullShare.right (fun s => Transfers.shareTok fullShare 6 s)
    (ms0 m (t0 m)) (hs0 m (t0 m)) (ms1 m (t0 m)) (hs1 m (t0 m)) (ms2 m (t0 m)) (hs2 m (t0 m)) (ms3 m (t0 m)) (hs3 m (t0 m)) (ms4 m (t0 m)) (hs4 m (t0 m))
    (ms5 m (t0 m)) (hs5 m (t0 m)) (ms6 m (t0 m)) (hs6 m (t0 m))
    ((hs0 m (t0 m)).unread (iblk m c 0 (t0 m))) ((hs1 m (t0 m)).unread (iblk m c 1 (t0 m))) ((hs2 m (t0 m)).unread (iblk m c 2 (t0 m)))
    ((hs3 m (t0 m)).unread (iblk m c 3 (t0 m))) ((hs4 m (t0 m)).unread (iblk m c 4 (t0 m))) (V m c main_arg4) (V m c main_arg5)).2 _ _ fa fb fh W _)
  isplitl [HtS HtR HtO HtD H0 H1 H2 H3 H4]
  · isplitl [HtS]; · iexact HtS
    isplitl [HtR]; · iexact HtR
    isplitl [HtO]; · iexact HtO
    isplitl [HtD]; · iexact HtD
    isplitl [H0]; · iexact H0
    isplitl [H1]; · iexact H1
    isplitl [H2]; · iexact H2
    isplitl [H3]; · iexact H3
    iexact H4
  isplitl [HA0 HA1 HA2 HA3 HA4 HA5 HB0 HB1 HB2 HB3 HB4 HB5]
  · isplitl [HA0]; · iexact HA0
    isplitl [HA1]; · iexact HA1
    isplitl [HA2]; · iexact HA2
    isplitl [HA3]; · iexact HA3
    isplitl [HA4]; · iexact HA4
    isplitl [HA5]; · iexact HA5
    isplitl [HB0]; · iexact HB0
    isplitl [HB1]; · iexact HB1
    isplitl [HB2]; · iexact HB2
    isplitl [HB3]; · iexact HB3
    isplitl [HB4]; · iexact HB4
    iexact HB5
  isplitl [H5]; · iexact H5
  isplitl [H6]; · iexact H6
  isplitl [HA]; · iexact HA
  isplitl [HB]; · iexact HB
  isplitl [HH]; · iexact HH
  isplitl [Hq]; · iexact Hq
  isplitl [HW]; · iexact HW
  iintro ⟨⟨HtS, HtR, HtO, HtD, H0, H1, H2, H3, H4⟩, ⟨HA0, HA1, HA2, HA3, HA4, HA5, HB0, HB1, HB2, HB3, HB4, HB5⟩, H5, H6, HA, HB, HH, Hq, ⟨%W', HW⟩⟩
  ihave HpA := (toks_eq c hbA (V m c main_arg4)).2 $$ [HpA HA0 HA1 HA2 HA3 HA4 HA5]
  · isplitl [HpA]; · iexact HpA
    isplitl [HA0]; · iexact HA0
    isplitl [HA1]; · iexact HA1
    isplitl [HA2]; · iexact HA2
    isplitl [HA3]; · iexact HA3
    isplitl [HA4]; · iexact HA4
    iexact HA5
  ihave HpB := (toks_eq c hbB (V m c main_arg5)).2 $$ [HpB HB0 HB1 HB2 HB3 HB4 HB5]
  · isplitl [HpB]; · iexact HpB
    isplitl [HB0]; · iexact HB0
    isplitl [HB1]; · iexact HB1
    isplitl [HB2]; · iexact HB2
    isplitl [HB3]; · iexact HB3
    isplitl [HB4]; · iexact HB4
    iexact HB5
  ihave HH := (Entails.of_eq (congrArg (fun g => (pt c scH fullShare g : sProp 𝕄)) (keptH_eq m H c fh))) $$ HH
  isplitl [HA HB HH Hg Hq HpA HpB HtS HtR HtO HtD]
  · isplitl [HA]; · iexists _; iexact HA
    isplitl [HB]; · iexact HB
    isplitl [HH]; · iexact HH
    isplitl [Hg]; · iexact Hg
    isplitl [Hq]; · iexact Hq
    isplitl [HpA]; · iexact HpA
    isplitl [HpB]; · iexact HpB
    isplitl [HtS]; · iexact HtS
    isplitl [HtR]; · iexact HtR
    isplitl [HtO]; · iexact HtO
    iexact HtD
  isplitl [HW]
  · iexists W'; isplitr; · ipureintro; exact fun _ _ => Or.inl trivial
    iexact HW
  isplitl [H0]; · iapply (pt_owns c (ms0 m (t0 m)) (hs0 m (t0 m)) ((hs0 m (t0 m)).unread (iblk m c 0 (t0 m))) (iblk m c 0 (t0 m)) ((hs0 m (t0 m)).read_unread _)) $$ H0
  isplitl [H1]; · iapply (pt_owns c (ms1 m (t0 m)) (hs1 m (t0 m)) ((hs1 m (t0 m)).unread (iblk m c 1 (t0 m))) (iblk m c 1 (t0 m)) ((hs1 m (t0 m)).read_unread _)) $$ H1
  isplitl [H2]; · iapply (pt_owns c (ms2 m (t0 m)) (hs2 m (t0 m)) ((hs2 m (t0 m)).unread (iblk m c 2 (t0 m))) (iblk m c 2 (t0 m)) ((hs2 m (t0 m)).read_unread _)) $$ H2
  isplitl [H3]; · iapply (pt_owns c (ms3 m (t0 m)) (hs3 m (t0 m)) ((hs3 m (t0 m)).unread (iblk m c 3 (t0 m))) (iblk m c 3 (t0 m)) ((hs3 m (t0 m)).read_unread _)) $$ H3
  isplitl [H4]; · iapply (pt_owns c (ms4 m (t0 m)) (hs4 m (t0 m)) ((hs4 m (t0 m)).unread (iblk m c 4 (t0 m))) (iblk m c 4 (t0 m)) ((hs4 m (t0 m)).read_unread _)) $$ H4
  isplitl [H5]; · iapply (owns_writes c (ms5 m (t0 m)) (hs5 m (t0 m)) VY _ _ (cover_y m H c)) $$ H5
  iapply (owns_writes c (ms6 m (t0 m)) (hs6 m (t0 m)) VL _ _ (cover_l m H c)) $$ H6

theorem sound_body (c : Dev nD) (t : Fin (cfgM m).N) :
    bodyPre m H c t ⊢ wp frame (wpE (defs₀ (F := F)) Variants.none c none) Set.univ (bodyAt m t) (fun _ => bodyPost m H c t) := by
  by_cases ht : t.val = 0
  · obtain rfl : t = t0 m := Fin.ext ht
    exact sound_first m H c
  · exact sound_later m H c t ht

theorem defs₀_row (t : Fin (cfgM m).N) :
    defs₀ (F := F) .tc (cfgM m).body ((cfgM m).bodyArgs t ((cfgM m).slots t)) = bodyAt m t := by
  unfold defs₀; rw [Defs.onTc_tc]

/-- The low-rank activations' window as the obligation asks for it at a point: where it is idle, as it was found. -/
theorem post6 (c : Dev nD) (t : Fin (cfgM m).N) :
    (owns (c : Thread nD τ) (ms6 m t) fullShare (loraH m H c) : sProp 𝕄)
      ⊢ match (cfgM m).idle 6 ((cfgM m).grid.coords t) with
        | true =>
          match ((cfgM m).win 6).flush t with
          | false => iprop(∃ d, owns (c : Thread nD τ) (((cfgM m).win 6).stage ((cfgM m).slots t 6)) fullShare ((dats m H 0 c).before 6 t d))
          | true => owns (c : Thread nD τ) (((cfgM m).win 6).stage ((cfgM m).slots t 6)) fullShare ((dats m H 0 c).after 6 t)
        | false => owns (c : Thread nD τ) (((cfgM m).win 6).stage ((cfgM m).slots t 6)) fullShare ((dats m H 0 c).after 6 t) := by
  rw [idle6]
  by_cases ht : t.val = 0
  · rw [decide_eq_false (by simp [ht])]
    exact .rfl
  · rw [decide_eq_true (by simpa using ht)]
    cases ((cfgM m).win 6).flush t
    · dsimp only
      simp only [before6 m H c t ht]
      iintro H; iexists (loraH m H c); iexact H
    · exact .rfl

theorem body_obligation (c : Dev nD) : BodyObligation (dats m H 0 c) (defs₀ (F := F)) Variants.none () Set.univ := fun t => by
  rw [bigSep_W0, bigSep_W0, defs₀_row]
  exact triple_restated (sound_body m H c t) rfl .rfl fun _ => by
    unfold bodyPost
    refine sep_mono .rfl (sep_mono .rfl (sep_mono .rfl (sep_mono .rfl (sep_mono .rfl (sep_mono .rfl (sep_mono .rfl (sep_mono .rfl ?_)))))))
    exact post6 m H c t

end Cert.KernelIdeal.Hand

end
-- ==== Proof.KI.Run.lean ====
/-
  The whole program, run: from any launch whose tables are in range it ends with every semaphore zero, the arrays at what
  the write-backs left, every other buffer at the last line's contents — so the eleven arguments as they were.
-/
module

public import proofs.«01_k».proof.Proof.KI.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (H : TabOK m)

/-- What the run ends in: the arrays at the write-backs' contents, every other buffer at the last line's. -/
abbrev EndsIn (r : PUnit × MemSt nD τ sig (Elt F)) : Prop :=
  Pipeline.FramePost (Pipeline.pin pcfgs (fun _ => adm m)) (dats m H) (0 : Fin 1)
    (Pipeline.afterTail pcfgs (fun _ => adm m) (dats m H) (0 : Fin 1) (V0 m) [hostOps1]) r

theorem inv_end (c : Dev nD) : inv m H c (cfgM m).N ⊢ Pipeline.ΦD osem0 spec0 H0 (V m) c := by
  rw [show (cfgM m).N = 28 from N_0]
  unfold inv
  rw [if_neg (by decide), Pipeline.ΦD_eq, scopedRest0_eq, ownSems0_eq, poolPts_eq]
  iintro ⟨HA, HB, HH, HP, HS, Ha, Hb, -⟩
  isplitl [HA HB HH]
  · isplitl [HA]; · iexact HA
    isplitl [HB]; · iexists _; iexact HB
    iexists _; iexact HH
  isplitl [HP]; · iexact HP
  isplitl [HS]; · iexact HS
  isplitl [Ha]; · iexact Ha
  iexact Hb

set_option backward.isDefEq.respectTransparency.types false in
theorem run_main : θ_run defs (onTc (τ := τ) main) ⟨m, fun _ => 0, ρ⟩ (fun r => EndsIn m H r ∧ r.2.sem = fun _ => 0) :=
  Pipeline.θ_run_frameP_dma_around pcfgs (fun _ => adm m) (dats m H) (0 : Fin 1) launch0 osem0 defs₀ Variants.none ownSemFacts0 H0 H0_sub m ρ main
    (hbody := fun c => (body_obligation m H c).loose)
    (hshare := fun c => (dats m H 0 c).share_full fun _ => rfl)
    (howed := fun _ _ => rfl) (V₀ := V0 m) (opss := [hostOps1]) (hsub := sfx_but) (hfresh := sfx_fresh) (hkeep := sfx_keeps)
    (hmain := hmain m Variants.none) (hA := A_eq m H) (hpf := V_pre m)
    (hin := fun c => by
      show _ ⊢ inv m H c 0
      unfold inv; rw [if_pos rfl])
    (hout := fun c => inv_end m H c)
    (Q' := fun r => EndsIn m H r ∧ r.2.sem = fun _ => 0)
    (hQ' := fun _ h => h)

/-- A buffer that is no array of the region and not the last line's result ends at its launch contents. -/
theorem tail_arg (c : Dev nD) (b : Ref sig .tc) (h0 : b ≠ main_v0) (h2 : b ≠ main_v2) (hw : ∀ w, Pipeline.arrRef spec0 w ≠ b) :
    Pipeline.afterTail pcfgs (fun _ => adm m) (dats m H) (0 : Fin 1) (V0 m) [hostOps1] c b = m ((c : Thread nD τ).loc b) := by
  unfold Pipeline.afterTail
  rw [StableHlo.after_of_forall_not_mem (b := Proc.devRef .tc b) _ _ (by
      simp only [List.flatten_cons, List.flatten_nil, List.append_nil, List.mem_singleton]
      rintro op rfl
      simp only [StableHlo.reshape_writes, Finset.mem_singleton]
      exact StableHlo.devRef_ne_of_ne h2),
    Pipeline.withArrays_of_ne _ c (V0 m c) _ b hw]
  exact V_arg m c b h0

/-- An input window's array ends at its launch contents. -/
theorem arr_arg (c : Dev nD) (w : Fin (cfgM m).W) (hin : ((cfgM m).win w).isOut = false) :
    (dats m H 0 c).arrAt w (cfgM m).N = V m c (Pipeline.arrRef spec0 w) :=
  ((dats m H 0 c).arrAt_in w hin _).trans (A_eq m H c w)

theorem rest_arg {r} (h : EndsIn m H r) (c : Dev nD) (b : Ref sig .tc) (hb : b ∈ Pipeline.restRefs sig spec0) (h0 : b ≠ main_v0) (h2 : b ≠ main_v2)
    (hw : ∀ w, Pipeline.arrRef spec0 w ≠ b) : r.2.mem ((c : Thread nD τ).loc b) = m ((c : Thread nD τ).loc b) :=
  ((h c).2 b hb).trans (tail_arg m H c b h0 h2 hw)

/-- The eleven arguments end as they were. -/
theorem args_kept {r} (h : EndsIn m H r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10) :=
  ⟨rest_arg m H h c main_arg0 (Pipeline.mem_restRefs_of main_arg0 (by decide) (by decide)) (by decide) (by decide) (by decide),
   ((h c).1 2).trans ((arr_arg m H c 2 rfl).trans (V_arg m c main_arg1 (by decide))),
   ((h c).1 3).trans ((arr_arg m H c 3 rfl).trans (V_arg m c main_arg2 (by decide))),
   ((h c).1 4).trans ((arr_arg m H c 4 rfl).trans (V_arg m c main_arg3 (by decide))),
   rest_arg m H h c main_arg4 (Pipeline.mem_restRefs_of main_arg4 (by decide) (by decide)) (by decide) (by decide) (by decide),
   rest_arg m H h c main_arg5 (Pipeline.mem_restRefs_of main_arg5 (by decide) (by decide)) (by decide) (by decide) (by decide),
   rest_arg m H h c main_arg6 (Pipeline.mem_restRefs_of main_arg6 (by decide) (by decide)) (by decide) (by decide) (by decide),
   rest_arg m H h c main_arg7 (Pipeline.mem_restRefs_of main_arg7 (by decide) (by decide)) (by decide) (by decide) (by decide),
   ((h c).1 0).trans ((arr_arg m H c 0 rfl).trans (V_arg m c main_arg8 (by decide))),
   rest_arg m H h c main_arg9 (Pipeline.mem_restRefs_of main_arg9 (by decide) (by decide)) (by decide) (by decide) (by decide),
   rest_arg m H h c main_arg10 (Pipeline.mem_restRefs_of main_arg10 (by decide) (by decide)) (by decide) (by decide) (by decide)⟩

end Cert.KernelIdeal.Hand

end
-- ==== Proof.Pre.lean ====
/-
  The precondition, read off: every segment's adapter is a row of the tables, its start row leaves room for a window of 72
  rows in a pool, its rank is at most 64, and the segments' offsets do not decrease.
-/
module

public import proofs.«01_k».proof.Proof.Gen.Pre_well_formed
public import Idealize.ShloMosaic.Lib.ReduceAll
public import Idealize.ShloMosaic.Lib.Affine
public import Idealize.ShloMosaic.Lib.StackMember
public import Idealize.ShloMosaic.Lib.Pipeline.Value

@[expose] public section

noncomputable section

namespace Cert.RefLem

open Idealize.ShloMosaic

theorem gather_vec {α : Type} {N n w : Nat} (hN : 0 < N) (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w) (p : Fin n) :
    Host.gather (⟨[], [0], [], [], [0], 1, ![1], wf⟩ : GatherDims _ _ _) x idx (ValueIdx.ix1 p)
      = x (ValueIdx.ix1 (⟨min (idx (ValueIdx.ix2 p (0 : Fin 1))).toInt.toNat (N - 1), by omega⟩ : Fin N)) := by
  unfold Host.gather
  congr 1
  funext a
  obtain rfl : a = 0 := Subsingleton.elim _ _
  refine Fin.ext ?_
  show GatherDims.start _ _ idx 0 + GatherDims.batchCoord _ _ 0 + GatherDims.offCoord _ _ 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ [0] from List.mem_singleton.mpr rfl)]
  refine congrArg (fun i => min (idx i).toInt.toNat (N - 1)) ?_
  funext b; refine Fin.ext ?_
  match b with
  | ⟨0, _⟩ => rfl
  | ⟨1, _⟩ => rfl

end Cert.RefLem

namespace Cert.Tables

open Idealize.ShloMosaic Cert.Pre_well_formed

variable {F : FTy → Type} [FloatOps F]

/-- The row of the adapters' tables that a segment names. -/
def row (ad : IVec S6 32) (s : Fin 6) : Fin 11 := ⟨min (ad (ValueIdx.ix1 s)).toInt.toNat 10, by omega⟩

/-- A table of the adapters, gathered by the segments' adapters. -/
theorem take_apply (tab : IVec S11 32) (ad : IVec S6 32) (s : Fin 6) : fn_take (F := F) tab ad (ValueIdx.ix1 s) = tab (ValueIdx.ix1 (row ad s)) := by
  refine (Cert.RefLem.gather_vec (N := 11) (n := 6) (by decide) Facts.gather_S11_S6x1_S6_n_0_n_n_0_1_1_wf tab _ s).trans ?_
  refine congrArg (fun i => tab (ValueIdx.ix1 i)) (Fin.ext (congrArg (fun w : BitVec 32 => min w.toInt.toNat 10) ?_))
  exact broadcastInDim_apply _ _ _ _ _ fun a => match a with | ⟨0, _⟩ => rfl

/-- What the precondition says of the five tables' words. -/
structure Good (st rk : IVec S11 32) (off : IVec S7 32) (ad : IVec S6 32) : Prop where
  ad_nonneg : ∀ i, 0 ≤ (ad i).toInt
  ad_lt : ∀ i, (ad i).toInt < 11
  st_nonneg : ∀ s, 0 ≤ (st (ValueIdx.ix1 (row ad s))).toInt
  st_lt : ∀ s, (st (ValueIdx.ix1 (row ad s))).toInt < 832
  rk_le : ∀ s, (rk (ValueIdx.ix1 (row ad s))).toInt ≤ 64
  off_mono : ∀ i : S6.Idx, (extractStridedSlice S6 ![0] off Facts.slices_S7_S6_0 i).toInt ≤ (extractStridedSlice S6 ![1] off Facts.slices_S7_S6_1 i).toInt

theorem good (x0 : FVec F S1x128x4096 .bf16) (x1 : IVec S512x14336 32) (x2 x3 : FVec F S32x14336 .bf16) (x4 : FVec F S900x4096 .bf16)
    (x5 : FVec F S900x14336 .bf16) (x6 x7 : IVec S11 32) (x8 : FVec F S11 .f32) (x9 : IVec S7 32) (x10 : IVec S6 32)
    (h : Cert.Pre_well_formed.fn x0 x1 x2 x3 x4 x5 x6 x7 x8 x9 x10 = fun _ => 1#1) : Good x6 x7 x9 x10 := by
  have h := congrFun h (Shape.Idx.first Facts.h_S_)
  unfold Cert.Pre_well_formed.fn Cert.Pre_well_formed.fn_part1 at h
  dsimp only [andi] at h
  simp only [IntOp.andi_eq_one] at h
  obtain ⟨⟨⟨⟨⟨h1, h2⟩, h3⟩, h4⟩, h5⟩, h6⟩ := h
  haveI : Subsingleton S_.Idx := ⟨fun a b => funext fun i => i.elim0⟩
  have h1 := Host.reduce_andi_all _ _ _ _ _ h1
  have h2 := Host.reduce_andi_all _ _ _ _ _ h2
  have h3 := Host.reduce_andi_all _ _ _ _ _ h3
  have h4 := Host.reduce_andi_all _ _ _ _ _ h4
  have h5 := Host.reduce_andi_all _ _ _ _ _ h5
  have h6 := Host.reduce_andi_all _ _ _ _ _ h6
  exact ⟨fun i => IntOp.cmpi_sge.mp (h1 i), fun i => IntOp.cmpi_slt.mp (h2 i), fun s => take_apply (F := F) x6 x10 s ▸ IntOp.cmpi_sge.mp (h3 (ValueIdx.ix1 s)),
    fun s => take_apply (F := F) x6 x10 s ▸ IntOp.cmpi_slt.mp (h4 (ValueIdx.ix1 s)), fun s => take_apply (F := F) x7 x10 s ▸ IntOp.cmpi_sle.mp (h5 (ValueIdx.ix1 s)), fun i => IntOp.cmpi_sle.mp (h6 i)⟩

end Cert.Tables

end
-- ==== Proof.KI.Frame.lean ====
/-
  The kernel's frame from its precondition.
-/
module

public import proofs.«01_k».proof.Proof.KI.Run
public import proofs.«01_k».proof.Proof.Pre

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section
variable {m} {c : Dev nD} {st rk : IVec S11 32} {off : IVec S7 32} {ad : IVec S6 32}

/-- A segment's start row as read is the table's, at the segment's adapter. -/
theorem stW_row (h : Cert.Tables.Good st rk off ad) (hD : AdOK (F := F) c ad) (s : Fin 6) :
    stW (F := F) c st ad hD s = st (ValueIdx.ix1 (Cert.Tables.row ad s)) := by
  have ea : adW (F := F) c ad s = ad (ValueIdx.ix1 s) := by
    refine congrArg ad (funext fun ax => Fin.ext ?_)
    match ax with
    | ⟨0, _⟩ => show s.val + 1 * 0 = s.val; omega
  refine congrArg st (funext fun ax => Fin.ext ?_)
  match ax with
  | ⟨0, _⟩ =>
    show (adW (F := F) c ad s).toNat + 1 * 0 = min (ad (ValueIdx.ix1 s)).toInt.toNat 10
    rw [ea]
    have h0 := h.ad_nonneg (ValueIdx.ix1 s)
    have h1 := h.ad_lt (ValueIdx.ix1 s)
    rw [BitVec.toInt_eq_toNat_cond] at *
    split at h0 <;> split <;> omega

theorem tabOKAt (h : Cert.Tables.Good st rk off ad) : ∃ hD : AdOK (F := F) c ad, StOK (F := F) c st ad hD := by
  have hD : AdOK (F := F) c ad := fun r x => ⟨h.ad_nonneg _, h.ad_lt _⟩
  exact ⟨hD, fun s => by rw [stW_row h hD s]; exact ⟨h.st_nonneg s, h.st_lt s⟩⟩
end

/-- The tables in range make every read of them in range. -/
theorem tabOK (h : ∀ c : Dev nD, Cert.Tables.Good (m ((c : Thread nD τ).loc main_arg6)) (m ((c : Thread nD τ).loc main_arg7))
    (m ((c : Thread nD τ).loc main_arg9)) (m ((c : Thread nD τ).loc main_arg10))) : TabOK m := fun c => by
  have h := h c
  rw [← V_arg m c main_arg10 (by decide), ← V_arg m c main_arg6 (by decide)] at h
  obtain ⟨hD, hS⟩ := tabOKAt (F := F) (c := c) h
  exact ⟨hD, hS⟩

theorem frame (H : TabOK m) : θ_run defs (onTc (τ := τ) main) ⟨m, fun _ => 0, ρ⟩ (fun r => (∀ c : Dev nD,
      r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)) ∧ r.2.sem = fun _ => 0) :=
  (θ_run defs _ _).mono (fun _ h => ⟨fun c => args_kept m H h.1 c, h.2⟩) (run_main m ρ H)

end Cert.KernelIdeal.Hand

end
-- ==== Proof.KB.Common.lean ====
/-
  The operands the kernel body is called with, and what its invariant is made of: the scratch buffers, the pools left
  in HBM, the four integer tables, the transfers' one DMA cell.
-/
module

public import proofs.«01_k».proof.Proof.Gen.Kernel.Launch
public import proofs.«01_k».proof.Proof.Gen.Kernel.Skeleton
public import Idealize.ShloMosaic.Lib.Pipeline.FrameBody
public import Idealize.ShloMosaic.Lib.Pipeline.FrameSuffix
public import Idealize.ShloMosaic.Lib.MixedBatch
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The four tables in SMEM: adapter starts, ranks, segment offsets, segment adapters. -/
abbrev tbStart : Memref sig .tc .smem S11 .i32 := Memref.whole main_arg6
abbrev tbRank : Memref sig .tc .smem S11 .i32 := Memref.whole main_arg7
abbrev tbOff : Memref sig .tc .smem S7 .i32 := Memref.whole main_arg9
abbrev tbAd : Memref sig .tc .smem S6 .i32 := Memref.whole main_arg10
/-- The pools in HBM. -/
abbrev hbA : Memref sig .tc .hbm S900x4096 .bf16 := Memref.whole main_arg4
abbrev hbB : Memref sig .tc .hbm S900x14336 .bf16 := Memref.whole main_arg5
/-- The scratch: the gathered rows of either pool, the masked low-rank activations. -/
abbrev scA : Memref sig .tc .vmem S512x4096 .bf16 := Memref.whole cc0_scratch0
abbrev scB : Memref sig .tc .vmem S512x14336 .bf16 := Memref.whole cc0_scratch1
abbrev scH : Memref sig .tc .vmem S128x512 .bf16 := Memref.whole cc0_scratch2

/-- The contents type of a memref's buffer, and the memref's buffer held whole at some share. -/
abbrev BufOf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (q : PosShare TreeShare) (f : BufOf (F := F) c M) : sProp 𝕄 :=
  M.view.loc (c : Thread nD τ) ↦{q} f

end Cert.Kernel.Hand

end
-- ==== Proof.KB.Region.lean ====
/-
  What the region is entered with and what runs around it: the buffers after the host's first line, the four tables the
  launch prefetches, the DMA cell and the two pools that the body's own transfers use.
-/
module

public import proofs.«01_k».proof.Proof.KB.Common
public import Idealize.ShloMosaic.Lib.Pipeline.TableIdle
public import Idealize.ShloMosaic.Lib.Ring

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers when the region is entered, as a valuation, and read at a TensorCore reference. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := rfl
theorem hostOps1_fresh : (hostOps1 : List (HloOp τ sig (Elt F))).Forall fun op => op.fresh = ∅ := rfl

/-- The program is the host's first line, the region, and the host's last line. -/
theorem hmain (𝒱₀ : Variants) : Pipeline.HMainPK (Ix := Unit) (Name := ℕ) (U := Pipeline.UD sig nD τ) (Lvl := ℕ) pcfgs 0 defs₀ 𝒱₀ m (main (F := F)) (V m)
    (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- A buffer other than the first line's result is as it was. -/
theorem V_arg (c : Dev nD) (b : Ref sig .tc) (h : b ≠ main_v0) : V m c b = m ((c : Thread nD τ).loc b) := by
  unfold V V0
  refine StableHlo.after_of_forall_not_mem _ _ ?_
  simp only [List.flatten_cons, List.flatten_nil, List.append_nil, List.mem_singleton]
  rintro op rfl
  simp only [StableHlo.reshape_writes, Finset.mem_singleton]
  exact StableHlo.devRef_ne_of_ne h

/-- The tables as the region is entered; any contents of them are admissible. -/
def tbl : pre0.Contents (Elt F) := fun j => V m (0 : Dev nD) (pre0.ref j)
theorem V_pre (c : Dev nD) (j : Fin 4) : V m c (pre0.ref j) = tbl m j := by
  obtain rfl : c = 0 := Subsingleton.elim _ _
  rfl
abbrev adm : (pcfg0 (F := F)).Adm := ⟨tbl m, trivial⟩
abbrev cfgM : Cfg sig Λ₀ := cfg0 (adm m)

/-- The body's own DMA cell, and the two pools it reads by its own transfers. -/
def osem0 : Fin 1 → SemLoc sig := fun j => (![SemLoc.dma 11] : Fin 1 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 11) 0 := by
  rw [Pipeline.ownSems0_eq_of_list c osem0 [0] (by decide) (by decide)]; rfl
def H0 : Finset (Ref sig .tc) := {main_arg4, main_arg5}
theorem H0_sub : H0 ⊆ Pipeline.restRefsP sig pre0 spec0 := by decide
theorem poolPts_eq (c : Dev nD) (V : (b : Ref sig .tc) → Buf (Elt F) ((c : Thread nD τ).loc b)) :
    (bigSep H0 (fun b => ((c : Thread nD τ).loc b) ↦{fullShare} V b) : sProp 𝕄)
      = iprop(pt c hbA fullShare (V main_arg4) ∗ pt c hbB fullShare (V main_arg5)) := by
  rw [BI.bigSep_eq_bigSepL_of_eq [main_arg4, main_arg5] (by decide) (by decide)]; rfl

/-- The tables as the body holds them: half of each. -/
theorem tables_eq (c : Dev nD) :
    (Pipeline.ΦT pre0 (tbl m) c : sProp 𝕄)
      = iprop(pt c tbStart fullShare.right (V m c main_arg6) ∗ pt c tbRank fullShare.right (V m c main_arg7)
          ∗ pt c tbOff fullShare.right (V m c main_arg9) ∗ pt c tbAd fullShare.right (V m c main_arg10)) := by
  obtain rfl : c = 0 := Subsingleton.elim _ _
  unfold Pipeline.ΦT Pipeline.prefHeld
  rw [bigSep_univ_eq_bigSepL [(0 : Fin 4), 1, 2, 3] (by decide) (by decide)]; rfl

/-- The last line touches neither the tables nor the pools, allocates nothing, and writes no array of the region. -/
theorem sfx_but : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl
  refine Pipeline.sub_tailRefsBut pre0 spec0 H0 op ((List.forall_iff_forall_mem.mp hostOps1_sub) op hop) ?_ ?_
  · simp only [hostOps1, List.mem_cons, List.mem_nil_iff, or_false] at hop
    rcases hop with rfl
    intro j; fin_cases j <;> simp only [StableHlo.reshape_bufs, Finset.mem_insert, Finset.mem_singleton, not_or] <;> and_intros <;> exact StableHlo.devRef_ne_of_ne (by decide)
  · simp only [hostOps1, List.mem_cons, List.mem_nil_iff, or_false] at hop
    rcases hop with rfl
    intro b hb
    simp only [H0, Finset.mem_insert, Finset.mem_singleton] at hb
    rcases hb with rfl | rfl <;> simp only [StableHlo.reshape_bufs, Finset.mem_insert, Finset.mem_singleton, not_or] <;> and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- The body's branch is taken at the first grid point alone. -/
theorem cond_iff : ∀ t : Fin grid0.N, k0_cond1 (grid0.coords t) = 1#1 ↔ t.val = 0 := by decide +kernel

/-- The low-rank activations' window is idle past the first point, and written back at the last alone. -/
theorem idle6 (t : Fin (cfgM m).N) : (cfgM m).idle 6 ((cfgM m).grid.coords t) = decide (t.val ≠ 0) :=
  (by decide +kernel : ∀ t : Fin grid0.N, idle0 6 (grid0.coords t) = decide (t.val ≠ 0)) t
theorem flush6 (t : Fin (cfgM m).N) : ((cfgM m).win 6).flush t = decide (t.val = 27) :=
  (by decide +kernel : ∀ t : Fin grid0.N, Window.flushOf grid0 true cc0_transform_8 t = decide (t.val = 27)) t
theorem fresh6 (n : ℕ) (hn : n ≤ (cfgM m).N) : (cfgM m).fresh 6 n = (decide (n = 0) || decide (n = 28)) := by
  refine (cfgM m).fresh_tab 6 (fun n => decide (n = 0) || decide (n = 28)) rfl (fun t => ?_) n hn
  rw [idle6, flush6]
  exact (by decide +kernel : ∀ t : Fin grid0.N, (decide (t.val + 1 = 0) || decide (t.val + 1 = 28)) = (decide (t.val = 27) || (decide (t.val ≠ 0) && (decide (t.val = 0) || decide (t.val = 28))))) t

end Cert.Kernel.Hand

end
-- ==== Proof.KB.Checks.lean ====
module
public import proofs.«01_k».proof.Proof.KB.Common
@[expose] public section

/-!
The kernel reads adapter numbers and start rows out of its tables and computes with them where a
window of 72 rows of a pool begins. Here: for a start row below 832 that window begins at the row
rounded down to a multiple of eight, and every side condition that the kernel asks of the words it
read follows from their ranges.
-/

namespace Cert.Kernel.Hand

open Cert.Kernel Cert.Kernel.Gen
open Idealize.ShloMosaic Idealize.ShloMosaic.TcCoe

/-- A word whose signed value lies in `[0, n)` is its natural number, below `n`. -/
theorem toNat_lt_of_range {v : BitVec 32} {n : Nat} (h : 0 ≤ v.toInt ∧ v.toInt < n) : v.toNat < n := by
  rw [BitVec.toInt_eq_toNat_cond] at h
  split at h <;> omega

set_option maxRecDepth 100000 in
private theorem mult_all : ∀ n : Fin 832, (k0_mult1 (BitVec.ofNat 32 n.val)).toNat = 8 * (n.val / 8) := by
  decide +kernel

/-- The first row of a window: the start row rounded down to a multiple of eight. -/
theorem mult_eq {v : BitVec 32} (h : 0 ≤ v.toInt ∧ v.toInt < 832) : (k0_mult1 v).toNat = 8 * (v.toNat / 8) := by
  have hv := toNat_lt_of_range (n := 832) h
  simpa using mult_all ⟨v.toNat, hv⟩

section
variable {v : BitVec 32} (h : 0 ≤ v.toInt ∧ v.toInt < 832)
include h

theorem off_eq : (![(k0_mult1 v).toNat, 0] : Fin 2 → Nat) = ![8 * (v.toNat / 8), 0] := by rw [mult_eq h]

theorem dvd_mult : 8 ∣ (k0_mult1 v).toNat := by rw [mult_eq h]; omega

theorem inbA : ∀ a, (![(k0_mult1 v).toNat, 0] : Fin 2 → Nat) a + S72x4096.size a ≤ S900x4096.size a := by
  have hv := toNat_lt_of_range (n := 832) h
  rw [mult_eq h]
  intro a
  fin_cases a
  · show 8 * (v.toNat / 8) + 72 ≤ 900; omega
  · show 0 + 4096 ≤ 4096; omega

theorem inbB : ∀ a, (![(k0_mult1 v).toNat, 0] : Fin 2 → Nat) a + S72x14336.size a ≤ S900x14336.size a := by
  have hv := toNat_lt_of_range (n := 832) h
  rw [mult_eq h]
  intro a
  fin_cases a
  · show 8 * (v.toNat / 8) + 72 ≤ 900; omega
  · show 0 + 14336 ≤ 14336; omega

theorem wwA (hinb : ∀ a, (![(k0_mult1 v).toNat, 0] : Fin 2 → Nat) a + S72x4096.size a ≤ S900x4096.size a) :
    (Rect.unit (s := S900x4096) ![(k0_mult1 v).toNat, 0] S72x4096.size hinb).WholeWords (EltTy.packing .bf16) := by
  refine Affine.words_of_packed (Affine.packed_dvd (by decide) ?_ (by decide))
  show 2 ∣ (k0_mult1 v).toNat
  rw [mult_eq h]; omega

theorem wwB (hinb : ∀ a, (![(k0_mult1 v).toNat, 0] : Fin 2 → Nat) a + S72x14336.size a ≤ S900x14336.size a) :
    (Rect.unit (s := S900x14336) ![(k0_mult1 v).toNat, 0] S72x14336.size hinb).WholeWords (EltTy.packing .bf16) := by
  refine Affine.words_of_packed (Affine.packed_dvd (by decide) ?_ (by decide))
  show 2 ∣ (k0_mult1 v).toNat
  rw [mult_eq h]; omega

end

section
variable (i : grid0.Coords) {v : BitVec 32}

section
variable (h : 0 ≤ v.toInt ∧ v.toInt < 832)
include h
theorem chk2 : k0_chk2 i v := ⟨fun _ => dvd_mult h, fun _ => inbA h, fun _ => wwA h, fun _ => inbB h, fun _ => wwB h, fun _ => inbA h, fun _ => wwA h, fun _ => inbB h, fun _ => wwB h⟩
theorem chk4 : k0_chk4 i v := ⟨fun _ => dvd_mult h, fun _ => inbA h, fun _ => wwA h, fun _ => inbB h, fun _ => wwB h, fun _ => inbA h, fun _ => wwA h, fun _ => inbB h, fun _ => wwB h⟩
theorem chk6 : k0_chk6 i v := ⟨fun _ => dvd_mult h, fun _ => inbA h, fun _ => wwA h, fun _ => inbB h, fun _ => wwB h, fun _ => inbA h, fun _ => wwA h, fun _ => inbB h, fun _ => wwB h⟩
theorem chk8 : k0_chk8 i v := ⟨fun _ => dvd_mult h, fun _ => inbA h, fun _ => wwA h, fun _ => inbB h, fun _ => wwB h, fun _ => inbA h, fun _ => wwA h, fun _ => inbB h, fun _ => wwB h⟩
theorem chk10 : k0_chk10 i v := ⟨fun _ => dvd_mult h, fun _ => inbA h, fun _ => wwA h, fun _ => inbB h, fun _ => wwB h, fun _ => inbA h, fun _ => wwA h, fun _ => inbB h, fun _ => wwB h⟩
theorem chk12 : k0_chk12 i v := ⟨fun _ => dvd_mult h, fun _ => inbA h, fun _ => wwA h, fun _ => inbB h, fun _ => wwB h⟩
theorem chk14 : k0_chk14 i v := fun _ => dvd_mult h
theorem chk17 : k0_chk17 i v := fun _ => dvd_mult h
theorem chk20 : k0_chk20 i v := fun _ => dvd_mult h
theorem chk23 : k0_chk23 i v := fun _ => dvd_mult h
theorem chk26 : k0_chk26 i v := fun _ => dvd_mult h
theorem chk29 : k0_chk29 i v := fun _ => dvd_mult h
end

section
variable (h : 0 ≤ v.toInt ∧ v.toInt < 11)
include h
theorem inbT : ∀ a, (![(Scalar.indexCast v : Index).toNat] : Fin 1 → Nat) a + S1.size a ≤ S11.size a := by
  have hv := toNat_lt_of_range (n := 11) h
  have e : (Scalar.indexCast v : Index).toNat = v.toNat := rfl
  rw [e]
  intro a
  fin_cases a
  show v.toNat + 1 ≤ 11; omega
theorem chk1 : k0_chk1 i v := fun _ => inbT h
theorem chk3 : k0_chk3 i v := fun _ => inbT h
theorem chk5 : k0_chk5 i v := fun _ => inbT h
theorem chk7 : k0_chk7 i v := fun _ => inbT h
theorem chk9 : k0_chk9 i v := fun _ => inbT h
theorem chk11 : k0_chk11 i v := fun _ => inbT h
theorem chk13 : k0_chk13 i v := ⟨fun _ => inbT h, fun _ => inbT h⟩
theorem chk15 : k0_chk15 i v := fun _ => inbT h
theorem chk16 : k0_chk16 i v := ⟨fun _ => inbT h, fun _ => inbT h⟩
theorem chk18 : k0_chk18 i v := fun _ => inbT h
theorem chk19 : k0_chk19 i v := ⟨fun _ => inbT h, fun _ => inbT h⟩
theorem chk21 : k0_chk21 i v := fun _ => inbT h
theorem chk22 : k0_chk22 i v := ⟨fun _ => inbT h, fun _ => inbT h⟩
theorem chk24 : k0_chk24 i v := fun _ => inbT h
theorem chk25 : k0_chk25 i v := ⟨fun _ => inbT h, fun _ => inbT h⟩
theorem chk27 : k0_chk27 i v := fun _ => inbT h
theorem chk28 : k0_chk28 i v := ⟨fun _ => inbT h, fun _ => inbT h⟩
theorem chk30 : k0_chk30 i v := fun _ => inbT h
end
end

end Cert.Kernel.Hand
-- ==== Proof.KB.CarveA.lean ====
module

public import proofs.«01_k».proof.Proof.KB.Checks
public import Idealize.ShloMosaic.Lib.Ring

@[expose] public section

/-!
The scratch buffer that takes the rows gathered from pool A: six windows of 72 rows and the 80 rows under them. It is
held as those seven blocks while the transfers are in flight, and joins again, once they have landed, to the whole buffer
at one named contents.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev dstA0 : Memref sig .tc .vmem S72x4096 .bf16 := scA.slice (Rect.unit (s := S512x4096) ![0, 0] S72x4096.size inb_S512x4096_S72x4096_0_0) (fun _ => rfl)
abbrev dstA1 : Memref sig .tc .vmem S72x4096 .bf16 := scA.slice (Rect.unit (s := S512x4096) ![72, 0] S72x4096.size inb_S512x4096_S72x4096_72_0) (fun _ => rfl)
abbrev dstA2 : Memref sig .tc .vmem S72x4096 .bf16 := scA.slice (Rect.unit (s := S512x4096) ![144, 0] S72x4096.size inb_S512x4096_S72x4096_144_0) (fun _ => rfl)
abbrev dstA3 : Memref sig .tc .vmem S72x4096 .bf16 := scA.slice (Rect.unit (s := S512x4096) ![216, 0] S72x4096.size inb_S512x4096_S72x4096_216_0) (fun _ => rfl)
abbrev dstA4 : Memref sig .tc .vmem S72x4096 .bf16 := scA.slice (Rect.unit (s := S512x4096) ![288, 0] S72x4096.size inb_S512x4096_S72x4096_288_0) (fun _ => rfl)
abbrev dstA5 : Memref sig .tc .vmem S72x4096 .bf16 := scA.slice (Rect.unit (s := S512x4096) ![360, 0] S72x4096.size inb_S512x4096_S72x4096_360_0) (fun _ => rfl)
/-- The rows under the windows. -/
abbrev padA : Memref sig .tc .vmem S80x4096 .bf16 := scA.slice (Rect.unit (s := S512x4096) ![432, 0] S80x4096.size inb_S512x4096_S80x4096_432_0) (fun _ => rfl)

/-- The elements of block `b`. -/
def blkA : Fin 7 → Finset S512x4096.Idx
  | 0 => dstA0.view.set
  | 1 => dstA1.view.set
  | 2 => dstA2.view.set
  | 3 => dstA3.view.set
  | 4 => dstA4.view.set
  | 5 => dstA5.view.set
  | 6 => padA.view.set

theorem mem_blkA (b : Fin 7) (y : S512x4096.Idx) : y ∈ blkA b ↔ min ((y 0).val / 72) 6 = b.val := by
  have h1 : (y 1).val < 4096 := (y 1).isLt
  have h0 : (y 0).val < 512 := (y 0).isLt
  have key : ∀ (o n : Nat) (inb), y ∈ (Rect.unit (s := S512x4096) ![o, 0] ![n, 4096] inb).set ↔ o ≤ (y 0).val ∧ (y 0).val < o + n := by
    intro o n inb
    rw [Rect.mem_set_unit]
    constructor
    · intro h; exact h 0
    · intro h a
      fin_cases a
      · exact h
      · exact ⟨Nat.zero_le _, by show (y 1).val < 0 + 4096; omega⟩
  have dec : ∀ (o n : Nat) (inb), y ∈ (View.slice (View.whole cc0_scratch0) (Rect.unit (s := S512x4096) ![o, 0] ![n, 4096] inb)).set ↔ o ≤ (y 0).val ∧ (y 0).val < o + n := by
    intro o n inb
    rw [View.set_slice_whole]
    exact key o n inb
  fin_cases b
  · refine (dec 0 72 _).trans ?_
    show _ ↔ _ = 0
    omega
  · refine (dec 72 72 _).trans ?_
    show _ ↔ _ = 1
    omega
  · refine (dec 144 72 _).trans ?_
    show _ ↔ _ = 2
    omega
  · refine (dec 216 72 _).trans ?_
    show _ ↔ _ = 3
    omega
  · refine (dec 288 72 _).trans ?_
    show _ ↔ _ = 4
    omega
  · refine (dec 360 72 _).trans ?_
    show _ ↔ _ = 5
    omega
  · refine (dec 432 80 _).trans ?_
    show _ ↔ _ = 6
    omega

theorem blkA_disjoint (b b' : Fin 7) (h : b ≠ b') : Disjoint (blkA b) (blkA b') := by
  rw [Finset.disjoint_left]
  intro y hy hy'
  exact h (Fin.ext (((mem_blkA b y).mp hy).symm.trans ((mem_blkA b' y).mp hy')))

theorem blkA_cover : Finset.univ.biUnion blkA = Finset.univ := by
  ext y
  simp only [Finset.mem_biUnion, Finset.mem_univ, true_and, iff_true]
  exact ⟨⟨min ((y 0).val / 72) 6, by omega⟩, (mem_blkA _ y).mpr rfl⟩

/-- The rows under the windows are what the windows leave of the buffer. -/
theorem padA_eq : padA.view.set = ((((((scA.view.set \ dstA0.view.set) \ dstA1.view.set) \ dstA2.view.set) \ dstA3.view.set) \ dstA4.view.set) \ dstA5.view.set) := by
  ext y
  have h0 : y ∈ dstA0.view.set ↔ min ((y 0).val / 72) 6 = 0 := mem_blkA 0 y
  have h1 : y ∈ dstA1.view.set ↔ min ((y 0).val / 72) 6 = 1 := mem_blkA 1 y
  have h2 : y ∈ dstA2.view.set ↔ min ((y 0).val / 72) 6 = 2 := mem_blkA 2 y
  have h3 : y ∈ dstA3.view.set ↔ min ((y 0).val / 72) 6 = 3 := mem_blkA 3 y
  have h4 : y ∈ dstA4.view.set ↔ min ((y 0).val / 72) 6 = 4 := mem_blkA 4 y
  have h5 : y ∈ dstA5.view.set ↔ min ((y 0).val / 72) 6 = 5 := mem_blkA 5 y
  have h6 : y ∈ padA.view.set ↔ min ((y 0).val / 72) 6 = 6 := mem_blkA 6 y
  have hu : y ∈ scA.view.set := by rw [show scA.view.set = Finset.univ from View.set_whole _]; exact Finset.mem_univ y
  simp only [Finset.mem_sdiff, h0, h1, h2, h3, h4, h5, h6, hu, true_and]
  omega

/-- The buffer whole is its seven blocks. -/
theorem carveA (c : Dev nD) (f : BufOf (F := F) c scA) :
    (pt c scA fullShare f : sProp 𝕄)
      = iprop((dstA0.view.loc (c : Thread nD τ) ↦[dstA0.view.set]{fullShare} f)
          ∗ (dstA1.view.loc (c : Thread nD τ) ↦[dstA1.view.set]{fullShare} f)
          ∗ (dstA2.view.loc (c : Thread nD τ) ↦[dstA2.view.set]{fullShare} f)
          ∗ (dstA3.view.loc (c : Thread nD τ) ↦[dstA3.view.set]{fullShare} f)
          ∗ (dstA4.view.loc (c : Thread nD τ) ↦[dstA4.view.set]{fullShare} f)
          ∗ (dstA5.view.loc (c : Thread nD τ) ↦[dstA5.view.set]{fullShare} f)
          ∗ (scA.view.loc (c : Thread nD τ) ↦[padA.view.set]{fullShare} f)) := by
  refine (Ring.pointsTo_blocks (ℓ := scA.view.loc (c : Thread nD τ)) blkA blkA_disjoint blkA_cover f).trans ?_
  rw [BI.bigSep_eq_bigSepL_of_eq [0, 1, 2, 3, 4, 5, 6] (by decide) (by decide)]
  rfl

/-! ## What the transfers leave there -/

section
variable (w : Fin 6 → BitVec 32) (hw : ∀ s, 0 ≤ (w s).toInt ∧ (w s).toInt < 832)

/-- Segment `s`'s rows of the pool. -/
abbrev rowsA (s : Fin 6) : Rect S900x4096 := Rect.unit (s := S900x4096) (k0_off2 (w s)) S72x4096.size (inbA (hw s))

/-- Where row `y` lies within its window. -/
def inWinA (y : S512x4096.Idx) : S72x4096.Idx := fun a => match a with
  | ⟨0, _⟩ => (⟨(y 0).val % 72, Nat.mod_lt _ (by decide)⟩ : Fin 72)
  | ⟨1, _⟩ => (⟨(y 1).val, (y 1).isLt⟩ : Fin 4096)

/-- The gathered rows: row `72 s + r` is the pool's row `r` of segment `s`'s window, and zero below the windows. -/
def gathA (p : S900x4096.Idx → Elt F .bf16) : S512x4096.Idx → Elt F .bf16 := fun y =>
  if h : (y 0).val < 432 then
    p ((rowsA w hw ⟨(y 0).val / 72, by omega⟩).emb (inWinA y))
  else (Scalar.ofBits .bf16 0x0000#16 : F .bf16)

theorem gathA_window (p : S900x4096.Idx → Elt F .bf16) (s : Fin 6) (x : S72x4096.Idx) (y : S512x4096.Idx)
    (h0 : (y 0).val = 72 * s.val + (x 0).val) (h1 : (y 1).val = (x 1).val) :
    gathA w hw p y = p ((rowsA w hw s).emb x) := by
  have hx : (x 0).val < 72 := (x 0).isLt
  have hs := s.isLt
  have e : ∀ (s' : Fin 6) (x' : S72x4096.Idx), s' = s → x' = x → p ((rowsA w hw s').emb x') = p ((rowsA w hw s).emb x) := by
    rintro _ _ rfl rfl; rfl
  unfold gathA
  rw [dif_pos (by omega)]
  refine e _ _ (Fin.ext (by show (y 0).val / 72 = s.val; omega)) ?_
  funext a
  match a with
  | ⟨0, _⟩ => exact Fin.ext (by show (y 0).val % 72 = (x 0).val; omega)
  | ⟨1, _⟩ => exact Fin.ext h1

theorem gathA_pad (p : S900x4096.Idx → Elt F .bf16) (y : S512x4096.Idx) (h0 : 432 ≤ (y 0).val) :
    gathA w hw p y = (Scalar.ofBits .bf16 0x0000#16 : F .bf16) := by
  unfold gathA; rw [dif_neg (by omega)]

/-- What the transfer of segment `s`'s rows leaves in its window is the gathered rows. -/
theorem landA (c : Dev nD) (p : BufOf (F := F) c hbA) (s : Fin 6) (n : ℕ) (hn : n = 72 * s.val) (inb) (f : BufOf (F := F) c scA) :
    ∀ i ∈ (scA.slice (Rect.unit (s := S512x4096) ![n, 0] S72x4096.size inb) (fun _ => rfl)).view.set,
    (scA.slice (Rect.unit (s := S512x4096) ![n, 0] S72x4096.size inb) (fun _ => rfl)).view.writes (Elt F) f
        [⟨Rect.whole _, ReadAs.same.apply ((hbA.slice (rowsA w hw s) (fun _ => rfl)).view.read (Elt F) p)⟩] i
      = gathA w hw p i := by
  subst hn
  intro i hi
  obtain ⟨x, -, rfl⟩ := Finset.mem_map.mp hi
  rw [← View.write_univ_eq_writes_whole, View.write_emb_of_mem _ _ (Finset.mem_univ _)]
  refine Eq.trans ?_ (gathA_window w hw p s x _ ?_ ?_).symm
  · rfl
  · show 72 * s.val + 1 * (x 0).val = _; omega
  · show 0 + 1 * (x 1).val = _; omega

/-- And the rows under the windows, which the kernel zero-fills. -/
theorem landA_pad (c : Dev nD) (p : BufOf (F := F) c hbA) (f : BufOf (F := F) c scA) :
    ∀ i ∈ padA.view.set,
    scA.view.writes (Elt F) f [⟨Rect.unit (s := S512x4096) ![432, 0] S80x4096.size inb_S512x4096_S80x4096_432_0, k0_pay2 (F := F)⟩] i
      = gathA w hw p i := by
  intro i hi
  obtain ⟨x, -, rfl⟩ := Finset.mem_map.mp hi
  rw [View.writes_singleton]
  refine (View.write_emb_of_mem (v := scA.view.slice (Rect.unit (s := S512x4096) ![432, 0] S80x4096.size inb_S512x4096_S80x4096_432_0)) _ _ (Finset.mem_univ x)).trans ?_
  refine Eq.trans ?_ (gathA_pad w hw p _ ?_).symm
  · rfl
  · show 432 ≤ 432 + 1 * (x 0).val; omega

end

end Cert.Kernel.Hand

end
-- ==== Proof.KB.CarveB.lean ====
module

public import proofs.«01_k».proof.Proof.KB.Checks
public import Idealize.ShloMosaic.Lib.Ring

@[expose] public section

/-!
The scratch buffer that takes the rows gathered from pool B: six windows of 72 rows and the 80 rows under them. It is
held as those seven blocks while the transfers are in flight, and joins again, once they have landed, to the whole buffer
at one named contents.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev dstB0 : Memref sig .tc .vmem S72x14336 .bf16 := scB.slice (Rect.unit (s := S512x14336) ![0, 0] S72x14336.size inb_S512x14336_S72x14336_0_0) (fun _ => rfl)
abbrev dstB1 : Memref sig .tc .vmem S72x14336 .bf16 := scB.slice (Rect.unit (s := S512x14336) ![72, 0] S72x14336.size inb_S512x14336_S72x14336_72_0) (fun _ => rfl)
abbrev dstB2 : Memref sig .tc .vmem S72x14336 .bf16 := scB.slice (Rect.unit (s := S512x14336) ![144, 0] S72x14336.size inb_S512x14336_S72x14336_144_0) (fun _ => rfl)
abbrev dstB3 : Memref sig .tc .vmem S72x14336 .bf16 := scB.slice (Rect.unit (s := S512x14336) ![216, 0] S72x14336.size inb_S512x14336_S72x14336_216_0) (fun _ => rfl)
abbrev dstB4 : Memref sig .tc .vmem S72x14336 .bf16 := scB.slice (Rect.unit (s := S512x14336) ![288, 0] S72x14336.size inb_S512x14336_S72x14336_288_0) (fun _ => rfl)
abbrev dstB5 : Memref sig .tc .vmem S72x14336 .bf16 := scB.slice (Rect.unit (s := S512x14336) ![360, 0] S72x14336.size inb_S512x14336_S72x14336_360_0) (fun _ => rfl)
/-- The rows under the windows. -/
abbrev padB : Memref sig .tc .vmem S80x14336 .bf16 := scB.slice (Rect.unit (s := S512x14336) ![432, 0] S80x14336.size inb_S512x14336_S80x14336_432_0) (fun _ => rfl)

/-- The elements of block `b`. -/
def blkB : Fin 7 → Finset S512x14336.Idx
  | 0 => dstB0.view.set
  | 1 => dstB1.view.set
  | 2 => dstB2.view.set
  | 3 => dstB3.view.set
  | 4 => dstB4.view.set
  | 5 => dstB5.view.set
  | 6 => padB.view.set

theorem mem_blkB (b : Fin 7) (y : S512x14336.Idx) : y ∈ blkB b ↔ min ((y 0).val / 72) 6 = b.val := by
  have h1 : (y 1).val < 14336 := (y 1).isLt
  have h0 : (y 0).val < 512 := (y 0).isLt
  have key : ∀ (o n : Nat) (inb), y ∈ (Rect.unit (s := S512x14336) ![o, 0] ![n, 14336] inb).set ↔ o ≤ (y 0).val ∧ (y 0).val < o + n := by
    intro o n inb
    rw [Rect.mem_set_unit]
    constructor
    · intro h; exact h 0
    · intro h a
      fin_cases a
      · exact h
      · exact ⟨Nat.zero_le _, by show (y 1).val < 0 + 14336; omega⟩
  have dec : ∀ (o n : Nat) (inb), y ∈ (View.slice (View.whole cc0_scratch1) (Rect.unit (s := S512x14336) ![o, 0] ![n, 14336] inb)).set ↔ o ≤ (y 0).val ∧ (y 0).val < o + n := by
    intro o n inb
    rw [View.set_slice_whole]
    exact key o n inb
  fin_cases b
  · refine (dec 0 72 _).trans ?_
    show _ ↔ _ = 0
    omega
  · refine (dec 72 72 _).trans ?_
    show _ ↔ _ = 1
    omega
  · refine (dec 144 72 _).trans ?_
    show _ ↔ _ = 2
    omega
  · refine (dec 216 72 _).trans ?_
    show _ ↔ _ = 3
    omega
  · refine (dec 288 72 _).trans ?_
    show _ ↔ _ = 4
    omega
  · refine (dec 360 72 _).trans ?_
    show _ ↔ _ = 5
    omega
  · refine (dec 432 80 _).trans ?_
    show _ ↔ _ = 6
    omega

theorem blkB_disjoint (b b' : Fin 7) (h : b ≠ b') : Disjoint (blkB b) (blkB b') := by
  rw [Finset.disjoint_left]
  intro y hy hy'
  exact h (Fin.ext (((mem_blkB b y).mp hy).symm.trans ((mem_blkB b' y).mp hy')))

theorem blkB_cover : Finset.univ.biUnion blkB = Finset.univ := by
  ext y
  simp only [Finset.mem_biUnion, Finset.mem_univ, true_and, iff_true]
  exact ⟨⟨min ((y 0).val / 72) 6, by omega⟩, (mem_blkB _ y).mpr rfl⟩

/-- The rows under the windows are what the windows leave of the buffer. -/
theorem padB_eq : padB.view.set = ((((((scB.view.set \ dstB0.view.set) \ dstB1.view.set) \ dstB2.view.set) \ dstB3.view.set) \ dstB4.view.set) \ dstB5.view.set) := by
  ext y
  have h0 : y ∈ dstB0.view.set ↔ min ((y 0).val / 72) 6 = 0 := mem_blkB 0 y
  have h1 : y ∈ dstB1.view.set ↔ min ((y 0).val / 72) 6 = 1 := mem_blkB 1 y
  have h2 : y ∈ dstB2.view.set ↔ min ((y 0).val / 72) 6 = 2 := mem_blkB 2 y
  have h3 : y ∈ dstB3.view.set ↔ min ((y 0).val / 72) 6 = 3 := mem_blkB 3 y
  have h4 : y ∈ dstB4.view.set ↔ min ((y 0).val / 72) 6 = 4 := mem_blkB 4 y
  have h5 : y ∈ dstB5.view.set ↔ min ((y 0).val / 72) 6 = 5 := mem_blkB 5 y
  have h6 : y ∈ padB.view.set ↔ min ((y 0).val / 72) 6 = 6 := mem_blkB 6 y
  have hu : y ∈ scB.view.set := by rw [show scB.view.set = Finset.univ from View.set_whole _]; exact Finset.mem_univ y
  simp only [Finset.mem_sdiff, h0, h1, h2, h3, h4, h5, h6, hu, true_and]
  omega

/-- The buffer whole is its seven blocks. -/
theorem carveB (c : Dev nD) (f : BufOf (F := F) c scB) :
    (pt c scB fullShare f : sProp 𝕄)
      = iprop((dstB0.view.loc (c : Thread nD τ) ↦[dstB0.view.set]{fullShare} f)
          ∗ (dstB1.view.loc (c : Thread nD τ) ↦[dstB1.view.set]{fullShare} f)
          ∗ (dstB2.view.loc (c : Thread nD τ) ↦[dstB2.view.set]{fullShare} f)
          ∗ (dstB3.view.loc (c : Thread nD τ) ↦[dstB3.view.set]{fullShare} f)
          ∗ (dstB4.view.loc (c : Thread nD τ) ↦[dstB4.view.set]{fullShare} f)
          ∗ (dstB5.view.loc (c : Thread nD τ) ↦[dstB5.view.set]{fullShare} f)
          ∗ (scB.view.loc (c : Thread nD τ) ↦[padB.view.set]{fullShare} f)) := by
  refine (Ring.pointsTo_blocks (ℓ := scB.view.loc (c : Thread nD τ)) blkB blkB_disjoint blkB_cover f).trans ?_
  rw [BI.bigSep_eq_bigSepL_of_eq [0, 1, 2, 3, 4, 5, 6] (by decide) (by decide)]
  rfl

/-! ## What the transfers leave there -/

section
variable (w : Fin 6 → BitVec 32) (hw : ∀ s, 0 ≤ (w s).toInt ∧ (w s).toInt < 832)

/-- Segment `s`'s rows of the pool. -/
abbrev rowsB (s : Fin 6) : Rect S900x14336 := Rect.unit (s := S900x14336) (k0_off2 (w s)) S72x14336.size (inbB (hw s))

/-- Where row `y` lies within its window. -/
def inWinB (y : S512x14336.Idx) : S72x14336.Idx := fun a => match a with
  | ⟨0, _⟩ => (⟨(y 0).val % 72, Nat.mod_lt _ (by decide)⟩ : Fin 72)
  | ⟨1, _⟩ => (⟨(y 1).val, (y 1).isLt⟩ : Fin 14336)

/-- The gathered rows: row `72 s + r` is the pool's row `r` of segment `s`'s window, and zero below the windows. -/
def gathB (p : S900x14336.Idx → Elt F .bf16) : S512x14336.Idx → Elt F .bf16 := fun y =>
  if h : (y 0).val < 432 then
    p ((rowsB w hw ⟨(y 0).val / 72, by omega⟩).emb (inWinB y))
  else (Scalar.ofBits .bf16 0x0000#16 : F .bf16)

theorem gathB_window (p : S900x14336.Idx → Elt F .bf16) (s : Fin 6) (x : S72x14336.Idx) (y : S512x14336.Idx)
    (h0 : (y 0).val = 72 * s.val + (x 0).val) (h1 : (y 1).val = (x 1).val) :
    gathB w hw p y = p ((rowsB w hw s).emb x) := by
  have hx : (x 0).val < 72 := (x 0).isLt
  have hs := s.isLt
  have e : ∀ (s' : Fin 6) (x' : S72x14336.Idx), s' = s → x' = x → p ((rowsB w hw s').emb x') = p ((rowsB w hw s).emb x) := by
    rintro _ _ rfl rfl; rfl
  unfold gathB
  rw [dif_pos (by omega)]
  refine e _ _ (Fin.ext (by show (y 0).val / 72 = s.val; omega)) ?_
  funext a
  match a with
  | ⟨0, _⟩ => exact Fin.ext (by show (y 0).val % 72 = (x 0).val; omega)
  | ⟨1, _⟩ => exact Fin.ext h1

theorem gathB_pad (p : S900x14336.Idx → Elt F .bf16) (y : S512x14336.Idx) (h0 : 432 ≤ (y 0).val) :
    gathB w hw p y = (Scalar.ofBits .bf16 0x0000#16 : F .bf16) := by
  unfold gathB; rw [dif_neg (by omega)]

/-- What the transfer of segment `s`'s rows leaves in its window is the gathered rows. -/
theorem landB (c : Dev nD) (p : BufOf (F := F) c hbB) (s : Fin 6) (n : ℕ) (hn : n = 72 * s.val) (inb) (f : BufOf (F := F) c scB) :
    ∀ i ∈ (scB.slice (Rect.unit (s := S512x14336) ![n, 0] S72x14336.size inb) (fun _ => rfl)).view.set,
    (scB.slice (Rect.unit (s := S512x14336) ![n, 0] S72x14336.size inb) (fun _ => rfl)).view.writes (Elt F) f
        [⟨Rect.whole _, ReadAs.same.apply ((hbB.slice (rowsB w hw s) (fun _ => rfl)).view.read (Elt F) p)⟩] i
      = gathB w hw p i := by
  subst hn
  intro i hi
  obtain ⟨x, -, rfl⟩ := Finset.mem_map.mp hi
  rw [← View.write_univ_eq_writes_whole, View.write_emb_of_mem _ _ (Finset.mem_univ _)]
  refine Eq.trans ?_ (gathB_window w hw p s x _ ?_ ?_).symm
  · rfl
  · show 72 * s.val + 1 * (x 0).val = _; omega
  · show 0 + 1 * (x 1).val = _; omega

/-- And the rows under the windows, which the kernel zero-fills. -/
theorem landB_pad (c : Dev nD) (p : BufOf (F := F) c hbB) (f : BufOf (F := F) c scB) :
    ∀ i ∈ padB.view.set,
    scB.view.writes (Elt F) f [⟨Rect.unit (s := S512x14336) ![432, 0] S80x14336.size inb_S512x14336_S80x14336_432_0, k0_pay3 (F := F)⟩] i
      = gathB w hw p i := by
  intro i hi
  obtain ⟨x, -, rfl⟩ := Finset.mem_map.mp hi
  rw [View.writes_singleton]
  refine (View.write_emb_of_mem (v := scB.view.slice (Rect.unit (s := S512x14336) ![432, 0] S80x14336.size inb_S512x14336_S80x14336_432_0)) _ _ (Finset.mem_univ x)).trans ?_
  refine Eq.trans ?_ (gathB_pad w hw p _ ?_).symm
  · rfl
  · show 432 ≤ 432 + 1 * (x 0).val; omega

end

end Cert.Kernel.Hand

end
-- ==== Proof.KB.First.lean ====
module

public import proofs.«01_k».proof.Proof.KB.CarveA
public import proofs.«01_k».proof.Proof.KB.CarveB

@[expose] public section

/-!
The kernel body's run at grid point 0: it reads each segment's adapter number and start row out of the tables, starts the
twelve transfers that gather the adapters' rows of either pool, zero-fills the rows under them, waits for all twelve, and
computes the masked low-rank activations and the first tile of the result.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)
    (fS : BufOf (F := F) c tbStart) (fR : BufOf (F := F) c tbRank) (fO : BufOf (F := F) c tbOff) (fD : BufOf (F := F) c tbAd)

/-- The adapters' numbers are below 11, wherever the table is read. -/
abbrev AdOK : Prop := ∀ (r : LoadRect S6) (x), 0 ≤ (View.readAt (Elt F) tbAd.view r fD x : BitVec 32).toInt ∧ (View.readAt (Elt F) tbAd.view r fD x : BitVec 32).toInt < 11
theorem inbAd (s : Fin 6) : ∀ a, (![s.val] : Fin 1 → Nat) a + S1.size a ≤ S6.size a := by revert s; decide

/-- Segment `s`'s adapter number, and that adapter's start row. -/
abbrev adW (s : Fin 6) : BitVec 32 := View.readAt (Elt F) tbAd.view (Rect.unit (s := S6) ![s.val] S1.size (inbAd s)).toLoadRect fD (Shape.Idx.first (numel1_S1.symm ▸ Nat.one_pos))
abbrev stW (hD : AdOK c fD) (s : Fin 6) : BitVec 32 := View.readAt (Elt F) tbStart.view (Rect.unit (s := S11) (k0_off1 (adW c fD s)) S1.size (inbT (hD _ _))).toLoadRect fS (Shape.Idx.first (numel1_S1.symm ▸ Nat.one_pos))

/-- The segments' adapters' start rows are below 832. -/
abbrev StOK (hD : AdOK c fD) : Prop := ∀ s : Fin 6, 0 ≤ (stW c fS fD hD s).toInt ∧ (stW c fS fD hD s).toInt < 832

variable (hD : AdOK c fD) (hS : StOK c fS fD hD)

include hS in
theorem stW_ok (s : Fin 6) : 0 ≤ (stW c fS fD hD s).toInt ∧ (stW c fS fD hD s).toInt < 832 := hS s

/-- The windows of the pools that segment `s` gathers. -/
abbrev srcA (s : Fin 6) : Memref sig .tc .hbm S72x4096 .bf16 := hbA.slice (rowsA (stW c fS fD hD) (stW_ok c fS fD hD hS) s) (fun _ => rfl)
abbrev srcB (s : Fin 6) : Memref sig .tc .hbm S72x14336 .bf16 := hbB.slice (rowsB (stW c fS fD hD) (stW_ok c fS fD hD hS) s) (fun _ => rfl)

/-- The contents gathered from either pool. -/
abbrev bufA (fA : BufOf (F := F) c hbA) : BufOf (F := F) c scA := gathA (stW c fS fD hD) (stW_ok c fS fD hD hS) fA
abbrev bufB (fB : BufOf (F := F) c hbB) : BufOf (F := F) c scB := gathB (stW c fS fD hD) (stW_ok c fS fD hD hS) fB

/-- One transfer's delivery: its window landed, its source slice back. -/
abbrev dlv {S : Shape} (dst : Memref sig .tc .vmem S .bf16) (src : Memref sig .tc .hbm S .bf16) (q : PosShare TreeShare)
    (fd : BufOf (F := F) c dst) (fs : BufOf (F := F) c src) : sProp 𝕄 :=
  iprop((dst.view.loc (c : Thread nD τ) ↦[dst.view.set]{fullShare} dst.view.writes (Elt F) fd [⟨Rect.whole _, ReadAs.same.apply (src.view.read (Elt F) fs)⟩])
    ∗ src.view.loc (c : Thread nD τ) ↦[src.view.set]{q} fs)

/-- The amounts, in units of the cell, and the deliveries, in the order the transfers are started. -/
abbrev amts : Fin 12 → ℕ := ![18432, 64512, 18432, 64512, 18432, 64512, 18432, 64512, 18432, 64512, 18432, 64512]
def deliv (q : Fin 6 → PosShare TreeShare) (fa : BufOf (F := F) c scA) (fb : BufOf (F := F) c scB) (fA : BufOf (F := F) c hbA) (fB : BufOf (F := F) c hbB) :
    Fin 12 → sProp 𝕄
  | 0 => dlv c dstA0 (srcA c fS fD hD hS 0) (q 0) fa fA
  | 1 => dlv c dstB0 (srcB c fS fD hD hS 0) (q 0) fb fB
  | 2 => dlv c dstA1 (srcA c fS fD hD hS 1) (q 1) fa fA
  | 3 => dlv c dstB1 (srcB c fS fD hD hS 1) (q 1) fb fB
  | 4 => dlv c dstA2 (srcA c fS fD hD hS 2) (q 2) fa fA
  | 5 => dlv c dstB2 (srcB c fS fD hD hS 2) (q 2) fb fB
  | 6 => dlv c dstA3 (srcA c fS fD hD hS 3) (q 3) fa fA
  | 7 => dlv c dstB3 (srcB c fS fD hD hS 3) (q 3) fb fB
  | 8 => dlv c dstA4 (srcA c fS fD hD hS 4) (q 4) fa fA
  | 9 => dlv c dstB4 (srcB c fS fD hD hS 4) (q 4) fb fB
  | 10 => dlv c dstA5 (srcA c fS fD hD hS 5) (q 5) fa fA
  | 11 => dlv c dstB5 (srcB c fS fD hD hS 5) (q 5) fb fB

instance deliv_storable (q : Fin 6 → PosShare TreeShare) (fa : BufOf (F := F) c scA) (fb : BufOf (F := F) c scB) (fA : BufOf (F := F) c hbA) (fB : BufOf (F := F) c hbB)
    (t : Fin 12) : Storable (upEmb : UEmb _ 𝕄) (deliv c fS fD hD hS q fa fb fA fB t) := by
  fin_cases t <;> simp only [deliv] <;> infer_instance

/-- The windows landed and the zeros stored: the buffer whole, at the gathered contents. -/
theorem joinA (fA : BufOf (F := F) c hbA) (fa : BufOf (F := F) c scA) :
    (iprop(
        (dstA0.view.loc (c : Thread nD τ) ↦[dstA0.view.set]{fullShare} dstA0.view.writes (Elt F) fa [⟨Rect.whole _, ReadAs.same.apply ((srcA c fS fD hD hS 0).view.read (Elt F) fA)⟩]) ∗
        (dstA1.view.loc (c : Thread nD τ) ↦[dstA1.view.set]{fullShare} dstA1.view.writes (Elt F) fa [⟨Rect.whole _, ReadAs.same.apply ((srcA c fS fD hD hS 1).view.read (Elt F) fA)⟩]) ∗
        (dstA2.view.loc (c : Thread nD τ) ↦[dstA2.view.set]{fullShare} dstA2.view.writes (Elt F) fa [⟨Rect.whole _, ReadAs.same.apply ((srcA c fS fD hD hS 2).view.read (Elt F) fA)⟩]) ∗
        (dstA3.view.loc (c : Thread nD τ) ↦[dstA3.view.set]{fullShare} dstA3.view.writes (Elt F) fa [⟨Rect.whole _, ReadAs.same.apply ((srcA c fS fD hD hS 3).view.read (Elt F) fA)⟩]) ∗
        (dstA4.view.loc (c : Thread nD τ) ↦[dstA4.view.set]{fullShare} dstA4.view.writes (Elt F) fa [⟨Rect.whole _, ReadAs.same.apply ((srcA c fS fD hD hS 4).view.read (Elt F) fA)⟩]) ∗
        (dstA5.view.loc (c : Thread nD τ) ↦[dstA5.view.set]{fullShare} dstA5.view.writes (Elt F) fa [⟨Rect.whole _, ReadAs.same.apply ((srcA c fS fD hD hS 5).view.read (Elt F) fA)⟩]) ∗
        (scA.view.loc (c : Thread nD τ) ↦[((((((scA.view.set \ dstA0.view.set) \ dstA1.view.set) \ dstA2.view.set) \ dstA3.view.set) \ dstA4.view.set) \ dstA5.view.set)]{fullShare}
          scA.view.writes (Elt F) fa [⟨Rect.unit (s := S512x4096) ![432, 0] S80x4096.size inb_S512x4096_S80x4096_432_0, k0_pay2 (F := F)⟩])) : sProp 𝕄)
      = pt c scA fullShare (bufA c fS fD hD hS fA) := by
  rw [carveA, ← padA_eq]
  refine congrArg₂ BIBase.sep (pointsTo_congr (landA (stW c fS fD hD) (stW_ok c fS fD hD hS) c fA 0 0 rfl inb_S512x4096_S72x4096_0_0 fa)) ?_
  refine congrArg₂ BIBase.sep (pointsTo_congr (landA (stW c fS fD hD) (stW_ok c fS fD hD hS) c fA 1 72 rfl inb_S512x4096_S72x4096_72_0 fa)) ?_
  refine congrArg₂ BIBase.sep (pointsTo_congr (landA (stW c fS fD hD) (stW_ok c fS fD hD hS) c fA 2 144 rfl inb_S512x4096_S72x4096_144_0 fa)) ?_
  refine congrArg₂ BIBase.sep (pointsTo_congr (landA (stW c fS fD hD) (stW_ok c fS fD hD hS) c fA 3 216 rfl inb_S512x4096_S72x4096_216_0 fa)) ?_
  refine congrArg₂ BIBase.sep (pointsTo_congr (landA (stW c fS fD hD) (stW_ok c fS fD hD hS) c fA 4 288 rfl inb_S512x4096_S72x4096_288_0 fa)) ?_
  refine congrArg₂ BIBase.sep (pointsTo_congr (landA (stW c fS fD hD) (stW_ok c fS fD hD hS) c fA 5 360 rfl inb_S512x4096_S72x4096_360_0 fa)) ?_
  exact pointsTo_congr (landA_pad (stW c fS fD hD) (stW_ok c fS fD hD hS) c fA fa)

/-- The windows landed and the zeros stored: the buffer whole, at the gathered contents. -/
theorem joinB (fB : BufOf (F := F) c hbB) (fb : BufOf (F := F) c scB) :
    (iprop(
        (dstB0.view.loc (c : Thread nD τ) ↦[dstB0.view.set]{fullShare} dstB0.view.writes (Elt F) fb [⟨Rect.whole _, ReadAs.same.apply ((srcB c fS fD hD hS 0).view.read (Elt F) fB)⟩]) ∗
        (dstB1.view.loc (c : Thread nD τ) ↦[dstB1.view.set]{fullShare} dstB1.view.writes (Elt F) fb [⟨Rect.whole _, ReadAs.same.apply ((srcB c fS fD hD hS 1).view.read (Elt F) fB)⟩]) ∗
        (dstB2.view.loc (c : Thread nD τ) ↦[dstB2.view.set]{fullShare} dstB2.view.writes (Elt F) fb [⟨Rect.whole _, ReadAs.same.apply ((srcB c fS fD hD hS 2).view.read (Elt F) fB)⟩]) ∗
        (dstB3.view.loc (c : Thread nD τ) ↦[dstB3.view.set]{fullShare} dstB3.view.writes (Elt F) fb [⟨Rect.whole _, ReadAs.same.apply ((srcB c fS fD hD hS 3).view.read (Elt F) fB)⟩]) ∗
        (dstB4.view.loc (c : Thread nD τ) ↦[dstB4.view.set]{fullShare} dstB4.view.writes (Elt F) fb [⟨Rect.whole _, ReadAs.same.apply ((srcB c fS fD hD hS 4).view.read (Elt F) fB)⟩]) ∗
        (dstB5.view.loc (c : Thread nD τ) ↦[dstB5.view.set]{fullShare} dstB5.view.writes (Elt F) fb [⟨Rect.whole _, ReadAs.same.apply ((srcB c fS fD hD hS 5).view.read (Elt F) fB)⟩]) ∗
        (scB.view.loc (c : Thread nD τ) ↦[((((((scB.view.set \ dstB0.view.set) \ dstB1.view.set) \ dstB2.view.set) \ dstB3.view.set) \ dstB4.view.set) \ dstB5.view.set)]{fullShare}
          scB.view.writes (Elt F) fb [⟨Rect.unit (s := S512x14336) ![432, 0] S80x14336.size inb_S512x14336_S80x14336_432_0, k0_pay3 (F := F)⟩])) : sProp 𝕄)
      = pt c scB fullShare (bufB c fS fD hD hS fB) := by
  rw [carveB, ← padB_eq]
  refine congrArg₂ BIBase.sep (pointsTo_congr (landB (stW c fS fD hD) (stW_ok c fS fD hD hS) c fB 0 0 rfl inb_S512x14336_S72x14336_0_0 fb)) ?_
  refine congrArg₂ BIBase.sep (pointsTo_congr (landB (stW c fS fD hD) (stW_ok c fS fD hD hS) c fB 1 72 rfl inb_S512x14336_S72x14336_72_0 fb)) ?_
  refine congrArg₂ BIBase.sep (pointsTo_congr (landB (stW c fS fD hD) (stW_ok c fS fD hD hS) c fB 2 144 rfl inb_S512x14336_S72x14336_144_0 fb)) ?_
  refine congrArg₂ BIBase.sep (pointsTo_congr (landB (stW c fS fD hD) (stW_ok c fS fD hD hS) c fB 3 216 rfl inb_S512x14336_S72x14336_216_0 fb)) ?_
  refine congrArg₂ BIBase.sep (pointsTo_congr (landB (stW c fS fD hD) (stW_ok c fS fD hD hS) c fB 4 288 rfl inb_S512x14336_S72x14336_288_0 fb)) ?_
  refine congrArg₂ BIBase.sep (pointsTo_congr (landB (stW c fS fD hD) (stW_ok c fS fD hD hS) c fB 5 360 rfl inb_S512x14336_S72x14336_360_0 fb)) ?_
  exact pointsTo_congr (landB_pad (stW c fS fD hD) (stW_ok c fS fD hD hS) c fB fb)

variable (i : grid0.Coords) (hi : k0_cond1 i = 1#1)
    (qS qR qO qA : PosShare TreeShare) (q : Fin 6 → PosShare TreeShare)
    (arg5 : Memref sig .tc .smem S11 .f32) (harg5 : arg5.IsWhole) (arg6 : Memref sig .tc .vmem S128x4096 .bf16) (harg6 : arg6.IsWhole)
    (arg7 : Memref sig .tc .vmem S512x512 .i32) (harg7 : arg7.IsWhole) (arg8 : Memref sig .tc .vmem S32x512 .bf16) (harg8 : arg8.IsWhole)
    (arg9 : Memref sig .tc .vmem S32x512 .bf16) (harg9 : arg9.IsWhole) (arg12 : Memref sig .tc .vmem S128x512 .bf16) (harg12 : arg12.IsWhole)
    (arg13 : Memref sig .tc .vmem S128x64 .bf16) (harg13 : arg13.IsWhole)
    (f5 : BufOf (F := F) c arg5)
    (f6 : BufOf (F := F) c arg6) (f7 : BufOf (F := F) c arg7) (f8 : BufOf (F := F) c arg8) (f9 : BufOf (F := F) c arg9)
    (fA : BufOf (F := F) c hbA) (fB : BufOf (F := F) c hbB)

/-- What the run neither changes: the tables, the staged operands, the pools. -/
abbrev keeps : sProp 𝕄 :=
  iprop(pt c tbStart qS fS ∗ pt c tbRank qR fR ∗ pt c tbOff qO fO ∗ pt c tbAd qA fD ∗ pt c arg5 fullShare f5 ∗ pt c arg6 fullShare f6
    ∗ pt c arg7 fullShare f7 ∗ pt c arg8 fullShare f8 ∗ pt c arg9 fullShare f9)
abbrev pools : sProp 𝕄 :=
  iprop(pt c hbA (q 0) fA
    ∗ pt c hbA (q 1) fA
    ∗ pt c hbA (q 2) fA
    ∗ pt c hbA (q 3) fA
    ∗ pt c hbA (q 4) fA
    ∗ pt c hbA (q 5) fA
    ∗ pt c hbB (q 0) fB
    ∗ pt c hbB (q 1) fB
    ∗ pt c hbB (q 2) fB
    ∗ pt c hbB (q 3) fB
    ∗ pt c hbB (q 4) fB
    ∗ pt c hbB (q 5) fB)

def firstRun :
    { L : List (View.Piece (Elt F) S128x512 .bf16) × List (View.Piece (Elt F) S128x64 .bf16) × List (View.Piece (Elt F) S128x512 .bf16) //
      ∀ (f12 : BufOf (F := F) c arg12) (f13 : BufOf (F := F) c arg13) (fa : BufOf (F := F) c scA) (fb : BufOf (F := F) c scB) (fH : BufOf (F := F) c scH)
        (W : _) (K : PUnit → sProp 𝕄),
        iprop(keeps c fS fR fO fD qS qR qO qA arg5 arg6 arg7 arg8 arg9 f5 f6 f7 f8 f9 ∗ pools c q fA fB
            ∗ pt c arg12 fullShare f12 ∗ pt c arg13 fullShare f13 ∗ pt c scA fullShare fa ∗ pt c scB fullShare fb ∗ pt c scH fullShare fH
            ∗ semVal ((c : Thread nD τ), SemLoc.dma 11) 0 ∗ owes (c : Thread nD τ) 0 W
            ∗ (iprop(keeps c fS fR fO fD qS qR qO qA arg5 arg6 arg7 arg8 arg9 f5 f6 f7 f8 f9 ∗ pools c q fA fB
                ∗ (arg12.view.loc (c : Thread nD τ) ↦{fullShare} arg12.view.writes (Elt F) f12 L.1)
                ∗ (arg13.view.loc (c : Thread nD τ) ↦{fullShare} arg13.view.writes (Elt F) f13 L.2.1)
                ∗ pt c scA fullShare (bufA c fS fD hD hS fA) ∗ pt c scB fullShare (bufB c fS fD hD hS fB)
                ∗ (scH.view.loc (c : Thread nD τ) ↦{fullShare} scH.view.writes (Elt F) fH L.2.2)
                ∗ semVal ((c : Thread nD τ), SemLoc.dma 11) 0 ∗ (∃ W', owes (c : Thread nD τ) 0 W')) -∗ K ⟨⟩))
          ⊢ wp frame (wpE (defs₀ (F := F)) Variants.none c none) Set.univ
              (cc0_slora_u4 i tbStart (Memref.isWhole_whole _) tbRank (Memref.isWhole_whole _) tbOff (Memref.isWhole_whole _)
                tbAd (Memref.isWhole_whole _) arg5 harg5 arg6 harg6 arg7 harg7 arg8 harg8 arg9 harg9
                hbA (Memref.isWhole_whole _) hbB (Memref.isWhole_whole _) arg12 harg12 arg13 harg13
                scA (Memref.isWhole_whole _) scB (Memref.isWhole_whole _) scH (Memref.isWhole_whole _) cc0_scratch3) K } := by
  refine ⟨⟨?_, ?_, ?_⟩, fun f12 f13 fa fb fH W K => ?run⟩
  case run =>
    simp only [cc0_slora_u4_eq_skeleton]; unfold cc0_slora_u4_skel
    rw [carveA, carveB, padA_eq, padB_eq]
    iintro ⟨⟨HtS, HtR, HtO, HtD, H5, H6, H7, H8, H9⟩, ⟨HA0, HA1, HA2, HA3, HA4, HA5, HB0, HB1, HB2, HB3, HB4, HB5⟩, H12, H13, ⟨Ha0, Ha1, Ha2, Ha3, Ha4, Ha5, Hap⟩, ⟨Hb0, Hb1, Hb2, Hb3, Hb4, Hb5, Hbp⟩, HH, Hq, HW, Hk⟩
    imod (Transfers.mixedBatch_alloc' (Lvl := ℕ) (countersEmb (U := Pipeline.UD sig nD τ)) (c : Thread nD τ) () amts
      (deliv c fS fD hD hS q fa fb fA fB) (sm := SemLoc.dma 11) (E := Set.univ)) $$ Hq with HM
    unfold deliv
    sl_exec_parts (disch := first | exact hi | exact chk1 _ (hD _ _) | exact chk3 _ (hD _ _) | exact chk5 _ (hD _ _) | exact chk7 _ (hD _ _) | exact chk9 _ (hD _ _) | exact chk11 _ (hD _ _) | exact chk13 _ (hD _ _) | exact chk15 _ (hD _ _) | exact chk16 _ (hD _ _) | exact chk18 _ (hD _ _) | exact chk19 _ (hD _ _) | exact chk21 _ (hD _ _) | exact chk22 _ (hD _ _) | exact chk24 _ (hD _ _) | exact chk25 _ (hD _ _) | exact chk27 _ (hD _ _) | exact chk28 _ (hD _ _) | exact chk30 _ (hD _ _) | ((with_reducible refine chk2 _ ?_); exact hS 0) | ((with_reducible refine chk4 _ ?_); exact hS 1) | ((with_reducible refine chk6 _ ?_); exact hS 2) | ((with_reducible refine chk8 _ ?_); exact hS 3) | ((with_reducible refine chk10 _ ?_); exact hS 4) | ((with_reducible refine chk12 _ ?_); exact hS 5) | ((with_reducible refine chk14 _ ?_); exact hS 0) | ((with_reducible refine chk17 _ ?_); exact hS 1) | ((with_reducible refine chk20 _ ?_); exact hS 2) | ((with_reducible refine chk23 _ ?_); exact hS 3) | ((with_reducible refine chk26 _ ?_); exact hS 4) | ((with_reducible refine chk29 _ ?_); exact hS 5))
    ihave Ha := (Entails.of_eq (joinA c fS fD hD hS fA fa)) $$ [HM_dst0 HM_dst2 HM_dst4 HM_dst6 HM_dst8 HM_dst10 Hap]
    · isplitl [HM_dst0]; · iexact HM_dst0
      isplitl [HM_dst2]; · iexact HM_dst2
      isplitl [HM_dst4]; · iexact HM_dst4
      isplitl [HM_dst6]; · iexact HM_dst6
      isplitl [HM_dst8]; · iexact HM_dst8
      isplitl [HM_dst10]; · iexact HM_dst10
      iexact Hap
    ihave Hb := (Entails.of_eq (joinB c fS fD hD hS fB fb)) $$ [HM_dst1 HM_dst3 HM_dst5 HM_dst7 HM_dst9 HM_dst11 Hbp]
    · isplitl [HM_dst1]; · iexact HM_dst1
      isplitl [HM_dst3]; · iexact HM_dst3
      isplitl [HM_dst5]; · iexact HM_dst5
      isplitl [HM_dst7]; · iexact HM_dst7
      isplitl [HM_dst9]; · iexact HM_dst9
      isplitl [HM_dst11]; · iexact HM_dst11
      iexact Hbp
    sl_exec_parts (disch := first | exact hi | exact chk1 _ (hD _ _) | exact chk3 _ (hD _ _) | exact chk5 _ (hD _ _) | exact chk7 _ (hD _ _) | exact chk9 _ (hD _ _) | exact chk11 _ (hD _ _) | exact chk13 _ (hD _ _) | exact chk15 _ (hD _ _) | exact chk16 _ (hD _ _) | exact chk18 _ (hD _ _) | exact chk19 _ (hD _ _) | exact chk21 _ (hD _ _) | exact chk22 _ (hD _ _) | exact chk24 _ (hD _ _) | exact chk25 _ (hD _ _) | exact chk27 _ (hD _ _) | exact chk28 _ (hD _ _) | exact chk30 _ (hD _ _) | ((with_reducible refine chk2 _ ?_); exact hS 0) | ((with_reducible refine chk4 _ ?_); exact hS 1) | ((with_reducible refine chk6 _ ?_); exact hS 2) | ((with_reducible refine chk8 _ ?_); exact hS 3) | ((with_reducible refine chk10 _ ?_); exact hS 4) | ((with_reducible refine chk12 _ ?_); exact hS 5) | ((with_reducible refine chk14 _ ?_); exact hS 0) | ((with_reducible refine chk17 _ ?_); exact hS 1) | ((with_reducible refine chk20 _ ?_); exact hS 2) | ((with_reducible refine chk23 _ ?_); exact hS 3) | ((with_reducible refine chk26 _ ?_); exact hS 4) | ((with_reducible refine chk29 _ ?_); exact hS 5))
    sl_step
    iapply Hk
    isplitl [HtS HtR HtO HtD H5 H6 H7 H8 H9]
    · isplitl [HtS]; · iexact HtS
      isplitl [HtR]; · iexact HtR
      isplitl [HtO]; · iexact HtO
      isplitl [HtD]; · iexact HtD
      isplitl [H5]; · iexact H5
      isplitl [H6]; · iexact H6
      isplitl [H7]; · iexact H7
      isplitl [H8]; · iexact H8
      iexact H9
    isplitl [HA0 HA1 HA2 HA3 HA4 HA5 HB0 HB1 HB2 HB3 HB4 HB5]
    · isplitl [HA0]; · iexact HA0
      isplitl [HA1]; · iexact HA1
      isplitl [HA2]; · iexact HA2
      isplitl [HA3]; · iexact HA3
      isplitl [HA4]; · iexact HA4
      isplitl [HA5]; · iexact HA5
      isplitl [HB0]; · iexact HB0
      isplitl [HB1]; · iexact HB1
      isplitl [HB2]; · iexact HB2
      isplitl [HB3]; · iexact HB3
      isplitl [HB4]; · iexact HB4
      iexact HB5
    isplitl [H12]; · iexact H12
    isplitl [H13]; · iexact H13
    isplitl [Ha]; · iexact Ha
    isplitl [Hb]; · iexact Hb
    isplitl [HH]; · iexact HH
    isplitl [HM]; · iexact HM
    iexists _; iexact HW

end Cert.Kernel.Hand

end
-- ==== Proof.KB.Later.lean ====
/-
  The body at a grid point past the first: it computes one tile of the result from the point's blocks of the quantised
  weights and what the scratch buffers hold, and writes nothing but that tile.
-/
module

public import proofs.«01_k».proof.Proof.KB.Common

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The body's run where the grid point is not the first. -/
def laterRun (c : Dev nD) (i : grid0.Coords) (hi : ¬ k0_cond1 i = 1#1)
    (arg5 : Memref sig .tc .smem S11 .f32) (harg5 : arg5.IsWhole) (arg6 : Memref sig .tc .vmem S128x4096 .bf16) (harg6 : arg6.IsWhole)
    (arg7 : Memref sig .tc .vmem S512x512 .i32) (harg7 : arg7.IsWhole) (arg8 : Memref sig .tc .vmem S32x512 .bf16) (harg8 : arg8.IsWhole)
    (arg9 : Memref sig .tc .vmem S32x512 .bf16) (harg9 : arg9.IsWhole) (arg12 : Memref sig .tc .vmem S128x512 .bf16) (harg12 : arg12.IsWhole)
    (arg13 : Memref sig .tc .vmem S128x64 .bf16) (harg13 : arg13.IsWhole)
    (f6 : BufOf (F := F) c arg6) (f7 : BufOf (F := F) c arg7) (f8 : BufOf (F := F) c arg8) (f9 : BufOf (F := F) c arg9)
    (fB : BufOf (F := F) c scB) (fH : BufOf (F := F) c scH) :
    { L : List (View.Piece (Elt F) S128x512 .bf16) //
      ∀ (f12 : BufOf (F := F) c arg12) (K : PUnit → sProp 𝕄),
        iprop(pt c arg6 fullShare f6 ∗ pt c arg7 fullShare f7 ∗ pt c arg8 fullShare f8 ∗ pt c arg9 fullShare f9
            ∗ pt c arg12 fullShare f12 ∗ pt c scB fullShare fB ∗ pt c scH fullShare fH
            ∗ (iprop(pt c arg6 fullShare f6 ∗ pt c arg7 fullShare f7 ∗ pt c arg8 fullShare f8 ∗ pt c arg9 fullShare f9
                ∗ (arg12.view.loc (c : Thread nD τ) ↦{fullShare} arg12.view.writes (Elt F) f12 L)
                ∗ pt c scB fullShare fB ∗ pt c scH fullShare fH) -∗ K ⟨⟩))
          ⊢ wp frame (wpE (defs₀ (F := F)) Variants.none c none) Set.univ
              (cc0_slora_u4 i tbStart (Memref.isWhole_whole _) tbRank (Memref.isWhole_whole _) tbOff (Memref.isWhole_whole _)
                tbAd (Memref.isWhole_whole _) arg5 harg5 arg6 harg6 arg7 harg7 arg8 harg8 arg9 harg9
                hbA (Memref.isWhole_whole _) hbB (Memref.isWhole_whole _) arg12 harg12 arg13 harg13
                scA (Memref.isWhole_whole _) scB (Memref.isWhole_whole _) scH (Memref.isWhole_whole _) cc0_scratch3) K } := by
  refine ⟨?_, fun f12 K => ?run⟩
  case run =>
    simp only [cc0_slora_u4_eq_skeleton]; unfold cc0_slora_u4_skel
    iintro ⟨H6, H7, H8, H9, H12, HB, HH, Hk⟩
    sl_exec_parts (disch := exact hi)
    sl_step
    iapply Hk
    isplitl [H6]; · iexact H6
    isplitl [H7]; · iexact H7
    isplitl [H8]; · iexact H8
    isplitl [H9]; · iexact H9
    isplitl [H12]; · iexact H12
    isplitl [HB]; · iexact HB
    iexact HH

end Cert.Kernel.Hand

end
-- ==== Proof.KB.Data.lean ====
/-
  The proof data of the region: what each window's buffer holds when the body has run at a point, and the invariant
  between points: from the second point on, the rows gathered from the second pool and the masked low-rank activations.
-/
module

public import proofs.«01_k».proof.Proof.KB.Region
public import proofs.«01_k».proof.Proof.KB.First
public import proofs.«01_k».proof.Proof.KB.Later
public import Idealize.ShloMosaic.Lib.LaneScatter.Own

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- A whole memref owned at `X` is its buffer at the contents that read `X`, and back. -/
theorem owns_pt (c : Dev nD) {sp : Space} {S : Shape} {e : EltTy} (M : Memref sig .tc sp S e) (h : M.IsWhole) (X : S.Idx → Elt F e) :
    (owns (c : Thread nD τ) M fullShare X : sProp 𝕄) ⊢ pt c M fullShare (h.unread X) := by
  refine (LaneScatter.owns_raw (c : Thread nD τ) M h X).trans ?_
  unfold LaneScatter.raw pt
  rw [h.set_eq_univ]
theorem pt_owns (c : Dev nD) {sp : Space} {S : Shape} {e : EltTy} (M : Memref sig .tc sp S e) (h : M.IsWhole) (f : BufOf (F := F) c M) (X : S.Idx → Elt F e)
    (hx : M.view.read (Elt F) f = X) : pt c M fullShare f ⊢ (owns (c : Thread nD τ) M fullShare X : sProp 𝕄) := by
  refine BIBase.Entails.trans ?_ (LaneScatter.raw_owns (c : Thread nD τ) M hx)
  unfold LaneScatter.raw pt
  rw [h.set_eq_univ]

variable (m : (ℓ : Loc nD τ sig) → Buf (Elt F) ℓ)

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The windows' current buffers. -/
abbrev ms0 (t : Fin (cfgM m).N) : Memref sig .tc .smem S11 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S128x4096 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S512x512 .i32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S32x512 .bf16 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S32x512 .bf16 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S128x512 .bf16 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S128x64 .bf16 := spec0_6.stage ((cfgM m).slots t 6)
abbrev hs6 (t : Fin (cfgM m).N) : (ms6 m t).IsWhole := hstage0_6 (((cfgM m).slots t 6).cast nbuf0_6)

/-- The first point. -/
def t0 : Fin (cfgM m).N := ⟨0, lt_of_lt_of_eq (by decide : 0 < 28) N_0.symm⟩
theorem hi0 : k0_cond1 (grid0.coords (t0 m)) = 1#1 := (cond_iff (t0 m)).mpr rfl

/-- Every adapter number in the table of segments, and every start row, is in range on every core. -/
structure TabOKAt (c : Dev nD) : Prop where
  ad : AdOK c (V m c main_arg10 : BufOf (F := F) c tbAd)
  st : StOK c (V m c main_arg6 : BufOf (F := F) c tbStart) (V m c main_arg10) ad
abbrev TabOK : Prop := ∀ c : Dev nD, TabOKAt m c

variable (H : TabOK m)

/-- The run at the first point, on the first point's blocks; its results' lists of writes. -/
abbrev firstW (c : Dev nD) : List (View.Piece (Elt F) S128x512 .bf16) × List (View.Piece (Elt F) S128x64 .bf16) × List (View.Piece (Elt F) S128x512 .bf16) :=
  (firstRun c (V m c main_arg6) (V m c main_arg7) (V m c main_arg9) (V m c main_arg10) (H c).1 (H c).2 (grid0.coords (t0 m)) (hi0 m)
    fullShare.right fullShare.right fullShare.right fullShare.right (fun s => Transfers.shareTok fullShare 6 s)
    (ms0 m (t0 m)) (hs0 m (t0 m)) (ms1 m (t0 m)) (hs1 m (t0 m)) (ms2 m (t0 m)) (hs2 m (t0 m)) (ms3 m (t0 m)) (hs3 m (t0 m)) (ms4 m (t0 m)) (hs4 m (t0 m))
    (ms5 m (t0 m)) (hs5 m (t0 m)) (ms6 m (t0 m)) (hs6 m (t0 m))
    ((hs0 m (t0 m)).unread (iblk m c 0 (t0 m))) ((hs1 m (t0 m)).unread (iblk m c 1 (t0 m))) ((hs2 m (t0 m)).unread (iblk m c 2 (t0 m)))
    ((hs3 m (t0 m)).unread (iblk m c 3 (t0 m))) ((hs4 m (t0 m)).unread (iblk m c 4 (t0 m))) (V m c main_arg4) (V m c main_arg5)).1

/-- A fixed buffer of each result's shape, through which what a list of writes leaves is stated. -/
abbrev VY : View sig .tc .vmem S128x512 .bf16 := scH.view
abbrev VL : View sig .tc .vmem S128x64 .bf16 := (Memref.whole cc0_stg6_0 : Memref sig .tc .vmem S128x64 .bf16).view

/-- The first tile of the result, the low-rank activations, and the masked ones kept for the later points. -/
def firstY (c : Dev nD) : Vec F S128x512 .bf16 := VY.read (Elt F) (VY.writes (Elt F) VY.junk (firstW m H c).1)
def loraH (c : Dev nD) : Vec F S128x64 .bf16 := VL.read (Elt F) (VL.writes (Elt F) VL.junk (firstW m H c).2.1)
def maskH (c : Dev nD) : Vec F S128x512 .bf16 := VY.read (Elt F) (VY.writes (Elt F) VY.junk (firstW m H c).2.2)

/-- What the invariant keeps from the first point on: the second pool's gathered rows, the masked activations. -/
abbrev keptB (c : Dev nD) : BufOf (F := F) c scB := bufB c (V m c main_arg6) (V m c main_arg10) (H c).1 (H c).2 (V m c main_arg5)
abbrev keptH (c : Dev nD) : BufOf (F := F) c scH := (Memref.isWhole_whole cc0_scratch2).unread (maskH m H c)

/-- The run at a later point, its list of writes. -/
abbrev laterW (c : Dev nD) (t : Fin (cfgM m).N) (ht : t.val ≠ 0) : List (View.Piece (Elt F) S128x512 .bf16) :=
  (laterRun c (grid0.coords t) (fun h => ht ((cond_iff t).mp h)) (ms0 m t) (hs0 m t) (ms1 m t) (hs1 m t) (ms2 m t) (hs2 m t) (ms3 m t) (hs3 m t) (ms4 m t) (hs4 m t)
    (ms5 m t) (hs5 m t) (ms6 m t) (hs6 m t)
    ((hs1 m t).unread (iblk m c 1 t)) ((hs2 m t).unread (iblk m c 2 t)) ((hs3 m t).unread (iblk m c 3 t)) ((hs4 m t).unread (iblk m c 4 t))
    (keptB m H c) (keptH m H c)).1

/-- The result's tile at point `t`. -/
def tileY (c : Dev nD) (t : Fin (cfgM m).N) : Vec F S128x512 .bf16 :=
  if ht : t.val = 0 then firstY m H c else VY.read (Elt F) (VY.writes (Elt F) VY.junk (laterW m H c t ht))

/-- The invariant before position `n`: at first what the region hands the body; then the scratch at its contents. -/
def inv (c : Dev nD) (n : ℕ) : sProp 𝕄 :=
  if n = 0 then iprop(Pipeline.ΦD osem0 spec0 H0 (V m) c ∗ Pipeline.ΦT pre0 (tbl m) c)
  else iprop((∃ f, pt c scA fullShare f) ∗ pt c scB fullShare (keptB m H c) ∗ pt c scH fullShare (keptH m H c) ∗ (∃ r, prngReg c r)
    ∗ semVal ((c : Thread nD τ), SemLoc.dma 11) 0 ∗ pt c hbA fullShare (V m c main_arg4) ∗ pt c hbB fullShare (V m c main_arg5)
    ∗ Pipeline.ΦT pre0 (tbl m) c)

/-- The proof data. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileY m H c t
    | ⟨6, _⟩ => loraH m H c
  Φ t := inv m H c t.val
  q _ := fullShare
  owed _ := 0

theorem A_eq (c : Dev nD) (w : Fin (cfgM m).W) : (dats m H 0 c).A w = V m c (Pipeline.arrRef spec0 w) := by dsimp only [dats]
theorem after0 (c : Dev nD) (t : Fin (cfgM m).N) : (dats m H 0 c).after 0 t = iblk m c 0 t := rfl
theorem after1 (c : Dev nD) (t : Fin (cfgM m).N) : (dats m H 0 c).after 1 t = iblk m c 1 t := rfl
theorem after2 (c : Dev nD) (t : Fin (cfgM m).N) : (dats m H 0 c).after 2 t = iblk m c 2 t := rfl
theorem after3 (c : Dev nD) (t : Fin (cfgM m).N) : (dats m H 0 c).after 3 t = iblk m c 3 t := rfl
theorem after4 (c : Dev nD) (t : Fin (cfgM m).N) : (dats m H 0 c).after 4 t = iblk m c 4 t := rfl
theorem after5 (c : Dev nD) (t : Fin (cfgM m).N) : (dats m H 0 c).after 5 t = tileY m H c t := rfl
theorem after6 (c : Dev nD) (t : Fin (cfgM m).N) : (dats m H 0 c).after 6 t = loraH m H c := rfl

/-- An input window's buffer holds its block at every point, fetched there or not. -/
theorem before0 (c : Dev nD) (t : Fin (cfgM m).N) (d) : (dats m H 0 c).before 0 t d = iblk m c 0 t :=
  ((dats m H 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m H 0 c).before 1 t d = iblk m c 1 t :=
  ((dats m H 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m H 0 c).before 2 t d = iblk m c 2 t :=
  ((dats m H 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgM m).N) (d) : (dats m H 0 c).before 3 t d = iblk m c 3 t :=
  ((dats m H 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfgM m).N) (d) : (dats m H 0 c).before 4 t d = iblk m c 4 t :=
  ((dats m H 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- Past the first point the low-rank activations' buffer holds what the first point left. -/
theorem before6 (c : Dev nD) (t : Fin (cfgM m).N) (ht : t.val ≠ 0) (d) : (dats m H 0 c).before 6 t d = loraH m H c := by
  rw [(dats m H 0 c).before_out_traj 6 rfl (fun _ _ => rfl) (fun t _ _ _ => by rw [after6, after6]) t.val t rfl d, fresh6 m t.val t.isLt.le,
    if_neg, after6]
  have := t.isLt.trans_eq (show (cfgM m).N = 28 from N_0)
  simp only [Bool.or_eq_true, decide_eq_true_eq]; omega

end Cert.Kernel.Hand

end
-- ==== Proof.KB.Body.lean ====
/-
  The body obligation: at the first point by the first point's run, at a later point by the later points' run.
-/
module

public import proofs.«01_k».proof.Proof.KB.Data

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (H : TabOK m)

/-- The body as the region calls it at a point. -/
abbrev bodyAt (t : Fin (cfgM m).N) : Prog (TpuEff nD τ sig (Elt F) Λ₀ .tc) PUnit :=
  cc0_slora_u4 (grid0.coords t) tbStart (Memref.isWhole_whole _) tbRank (Memref.isWhole_whole _) tbOff (Memref.isWhole_whole _)
    tbAd (Memref.isWhole_whole _) (ms0 m t) (hs0 m t) (ms1 m t) (hs1 m t) (ms2 m t) (hs2 m t) (ms3 m t) (hs3 m t) (ms4 m t) (hs4 m t)
    hbA (Memref.isWhole_whole _) hbB (Memref.isWhole_whole _) (ms5 m t) (hs5 m t) (ms6 m t) (hs6 m t)
    scA (Memref.isWhole_whole _) scB (Memref.isWhole_whole _) scH (Memref.isWhole_whole _) cc0_scratch3

/-- What the body is handed and hands back, the windows one by one; the low-rank activations' window last. -/
def bodyPre (c : Dev nD) (t : Fin (cfgM m).N) : sProp 𝕄 :=
  iprop((dats m H 0 c).Φ t.castSucc ∗ (dats m H 0 c).owesAt () t.castSucc
    ∗ (∃ d, owns (c : Thread nD τ) (ms0 m t) fullShare ((dats m H 0 c).before 0 t d))
    ∗ (∃ d, owns (c : Thread nD τ) (ms1 m t) fullShare ((dats m H 0 c).before 1 t d))
    ∗ (∃ d, owns (c : Thread nD τ) (ms2 m t) fullShare ((dats m H 0 c).before 2 t d))
    ∗ (∃ d, owns (c : Thread nD τ) (ms3 m t) fullShare ((dats m H 0 c).before 3 t d))
    ∗ (∃ d, owns (c : Thread nD τ) (ms4 m t) fullShare ((dats m H 0 c).before 4 t d))
    ∗ (∃ d, owns (c : Thread nD τ) (ms5 m t) fullShare ((dats m H 0 c).before 5 t d))
    ∗ (∃ d, owns (c : Thread nD τ) (ms6 m t) fullShare ((dats m H 0 c).before 6 t d)))
def bodyPost (c : Dev nD) (t : Fin (cfgM m).N) : sProp 𝕄 :=
  iprop((dats m H 0 c).Φ t.succ ∗ (dats m H 0 c).owesAt () t.succ
    ∗ owns (c : Thread nD τ) (ms0 m t) fullShare (iblk m c 0 t)
    ∗ owns (c : Thread nD τ) (ms1 m t) fullShare (iblk m c 1 t)
    ∗ owns (c : Thread nD τ) (ms2 m t) fullShare (iblk m c 2 t)
    ∗ owns (c : Thread nD τ) (ms3 m t) fullShare (iblk m c 3 t)
    ∗ owns (c : Thread nD τ) (ms4 m t) fullShare (iblk m c 4 t)
    ∗ owns (c : Thread nD τ) (ms5 m t) fullShare (tileY m H c t)
    ∗ owns (c : Thread nD τ) (ms6 m t) fullShare (loraH m H c))

/-- A list of writes that tiles a buffer leaves what it leaves in any other. -/
theorem owns_writes (c : Dev nD) {S : Shape} (M : Memref sig .tc .vmem S .bf16) (h : M.IsWhole) (v : View sig .tc .vmem S .bf16) (f : BufOf (F := F) c M)
    (L : List (View.Piece (Elt F) S .bf16)) (hL : ∀ y, ∃ p ∈ L, y ∈ p.1.set) :
    (M.view.loc (c : Thread nD τ) ↦{fullShare} M.view.writes (Elt F) f L : sProp 𝕄)
      ⊢ owns (c : Thread nD τ) M fullShare (v.read (Elt F) (v.writes (Elt F) v.junk L)) :=
  pt_owns c M h _ _ (View.read_writes_of_cover _ _ _ _ _ hL)

theorem cover_y (c : Dev nD) (y) : ∃ p ∈ (firstW m H c).1, y ∈ p.1.set := View.cover_of_tiledL (firstW m H c).1 S128x512.size (by sl_kernel_rfl) y
theorem cover_l (c : Dev nD) (y) : ∃ p ∈ (firstW m H c).2.1, y ∈ p.1.set := View.cover_of_tiledL (firstW m H c).2.1 S128x64.size (by sl_kernel_rfl) y
theorem cover_h (c : Dev nD) (y) : ∃ p ∈ (firstW m H c).2.2, y ∈ p.1.set := View.cover_of_tiledL (firstW m H c).2.2 S128x512.size (by sl_kernel_rfl) y
theorem cover_t (c : Dev nD) (t) (ht) (y) : ∃ p ∈ laterW m H c t ht, y ∈ p.1.set := View.cover_of_tiledL (laterW m H c t ht) S128x512.size (by sl_kernel_rfl) y

/-- A later point. -/
theorem sound_later (c : Dev nD) (t : Fin (cfgM m).N) (ht : t.val ≠ 0) :
    bodyPre m H c t ⊢ wp frame (wpE (defs₀ (F := F)) Variants.none c none) Set.univ (bodyAt m t) (fun _ => bodyPost m H c t) := by
  unfold bodyPre bodyPost bodyAt
  rw [show (dats m H 0 c).Φ t.castSucc = inv m H c t.val from rfl, show (dats m H 0 c).Φ t.succ = inv m H c (t.val + 1) from rfl]
  unfold inv
  rw [if_neg ht, if_neg (Nat.succ_ne_zero _)]
  unfold Dat.owesAt Pipeline.owesWithin
  rw [show (dats m H 0 c).owed t.castSucc = 0 from rfl, show (dats m H 0 c).owed t.succ = 0 from rfl]
  simp only [before0, before1, before2, before3, before4, before6 m H c t ht]
  unfold tileY
  rw [dif_neg ht]
  iintro ⟨⟨HA, HB, HH, Hg, Hq, HpA, HpB, HT⟩, ⟨%W, -, HW⟩, ⟨%d0, H0⟩, ⟨%d1, H1⟩, ⟨%d2, H2⟩, ⟨%d3, H3⟩, ⟨%d4, H4⟩, ⟨%d5, H5⟩, ⟨%d6, H6⟩⟩
  ihave H1 := (owns_pt c (ms1 m t) (hs1 m t) (iblk m c 1 t)) $$ H1
  ihave H2 := (owns_pt c (ms2 m t) (hs2 m t) (iblk m c 2 t)) $$ H2
  ihave H3 := (owns_pt c (ms3 m t) (hs3 m t) (iblk m c 3 t)) $$ H3
  ihave H4 := (owns_pt c (ms4 m t) (hs4 m t) (iblk m c 4 t)) $$ H4
  ihave H5 := (owns_pt c (ms5 m t) (hs5 m t) ((dats m H 0 c).before 5 t d5)) $$ H5
  iapply ((laterRun c (grid0.coords t) (fun h => ht ((cond_iff t).mp h)) (ms0 m t) (hs0 m t) (ms1 m t) (hs1 m t) (ms2 m t) (hs2 m t) (ms3 m t) (hs3 m t) (ms4 m t) (hs4 m t)
    (ms5 m t) (hs5 m t) (ms6 m t) (hs6 m t)
    ((hs1 m t).unread (iblk m c 1 t)) ((hs2 m t).unread (iblk m c 2 t)) ((hs3 m t).unread (iblk m c 3 t)) ((hs4 m t).unread (iblk m c 4 t))
    (keptB m H c) (keptH m H c)).2 _ _)
  isplitl [H1]; · iexact H1
  isplitl [H2]; · iexact H2
  isplitl [H3]; · iexact H3
  isplitl [H4]; · iexact H4
  isplitl [H5]; · iexact H5
  isplitl [HB]; · iexact HB
  isplitl [HH]; · iexact HH
  iintro ⟨H1, H2, H3, H4, H5, HB, HH⟩
  isplitl [HA HB HH Hg Hq HpA HpB HT]
  · isplitl [HA]; · iexact HA
    isplitl [HB]; · iexact HB
    isplitl [HH]; · iexact HH
    isplitl [Hg]; · iexact Hg
    isplitl [Hq]; · iexact Hq
    isplitl [HpA]; · iexact HpA
    isplitl [HpB]; · iexact HpB
    iexact HT
  isplitl [HW]
  · iexists W; isplitr; · ipureintro; exact fun _ _ => Or.inl trivial
    iexact HW
  isplitl [H0]; · iexact H0
  isplitl [H1]; · iapply (pt_owns c (ms1 m t) (hs1 m t) ((hs1 m t).unread (iblk m c 1 t)) (iblk m c 1 t) ((hs1 m t).read_unread _)) $$ H1
  isplitl [H2]; · iapply (pt_owns c (ms2 m t) (hs2 m t) ((hs2 m t).unread (iblk m c 2 t)) (iblk m c 2 t) ((hs2 m t).read_unread _)) $$ H2
  isplitl [H3]; · iapply (pt_owns c (ms3 m t) (hs3 m t) ((hs3 m t).unread (iblk m c 3 t)) (iblk m c 3 t) ((hs3 m t).read_unread _)) $$ H3
  isplitl [H4]; · iapply (pt_owns c (ms4 m t) (hs4 m t) ((hs4 m t).unread (iblk m c 4 t)) (iblk m c 4 t) ((hs4 m t).read_unread _)) $$ H4
  isplitl [H5]; · iapply (owns_writes c (ms5 m t) (hs5 m t) VY _ _ (cover_t m H c t ht)) $$ H5
  iexact H6

/-- A pool held whole is what remains of it beside six read shares, one for each segment's transfer. -/
theorem toks_eq (c : Dev nD) {sp : Space} {S : Shape} {e : EltTy} (M : Memref sig .tc sp S e) (f : BufOf (F := F) c M) :
    (pt c M fullShare f : sProp 𝕄) ⊣⊢ iprop(pt c M (Transfers.shareDrop fullShare 6) f
      ∗ pt c M (Transfers.shareTok fullShare 6 0) f ∗ pt c M (Transfers.shareTok fullShare 6 1) f ∗ pt c M (Transfers.shareTok fullShare 6 2) f
      ∗ pt c M (Transfers.shareTok fullShare 6 3) f ∗ pt c M (Transfers.shareTok fullShare 6 4) f ∗ pt c M (Transfers.shareTok fullShare 6 5) f) := by
  have h := Transfers.pointsTo_toks (Ix := Unit) (Name := ℕ) (U := Pipeline.UD sig nD τ) (Lvl := ℕ) (ℓ := M.view.loc (c : Thread nD τ)) (S := Finset.univ) (f := f) fullShare 6
  rw [bigSep_univ_eq_bigSepL [(0 : Fin 6), 1, 2, 3, 4, 5] (by decide) (by decide)] at h
  exact h

/-- The kept activations are what the first point's writes leave in their buffer, whatever it held. -/
theorem keptH_eq (c : Dev nD) (f : BufOf (F := F) c scH) : scH.view.writes (Elt F) f (firstW m H c).2.2 = keptH m H c :=
  (Memref.isWhole_whole cc0_scratch2).eq_unread (View.read_writes_of_cover _ _ _ _ _ (cover_h m H c))

/-- The first point. -/
theorem sound_first (c : Dev nD) :
    bodyPre m H c (t0 m) ⊢ wp frame (wpE (defs₀ (F := F)) Variants.none c none) Set.univ (bodyAt m (t0 m)) (fun _ => bodyPost m H c (t0 m)) := by
  unfold bodyPre bodyPost bodyAt
  rw [show (dats m H 0 c).Φ (t0 m).castSucc = inv m H c 0 from rfl, show (dats m H 0 c).Φ (t0 m).succ = inv m H c 1 from rfl]
  unfold inv
  rw [if_pos rfl, if_neg (Nat.succ_ne_zero _), Pipeline.ΦD_eq, scopedRest0_eq, ownSems0_eq, poolPts_eq, tables_eq]
  unfold Dat.owesAt Pipeline.owesWithin
  rw [show (dats m H 0 c).owed (t0 m).castSucc = 0 from rfl, show (dats m H 0 c).owed (t0 m).succ = 0 from rfl]
  simp only [before0, before1, before2, before3, before4]
  unfold tileY
  rw [dif_pos (show (t0 m).val = 0 from rfl)]
  iintro ⟨⟨⟨⟨⟨%fa, HA⟩, ⟨%fb, HB⟩, ⟨%fh, HH⟩⟩, Hg, Hq, HpA, HpB⟩, HtS, HtR, HtO, HtD⟩, ⟨%W, -, HW⟩, ⟨%d0, H0⟩, ⟨%d1, H1⟩, ⟨%d2, H2⟩, ⟨%d3, H3⟩, ⟨%d4, H4⟩, ⟨%d5, H5⟩, ⟨%d6, H6⟩⟩
  ihave H0 := (owns_pt c (ms0 m (t0 m)) (hs0 m (t0 m)) (iblk m c 0 (t0 m))) $$ H0
  ihave H1 := (owns_pt c (ms1 m (t0 m)) (hs1 m (t0 m)) (iblk m c 1 (t0 m))) $$ H1
  ihave H2 := (owns_pt c (ms2 m (t0 m)) (hs2 m (t0 m)) (iblk m c 2 (t0 m))) $$ H2
  ihave H3 := (owns_pt c (ms3 m (t0 m)) (hs3 m (t0 m)) (iblk m c 3 (t0 m))) $$ H3
  ihave H4 := (owns_pt c (ms4 m (t0 m)) (hs4 m (t0 m)) (iblk m c 4 (t0 m))) $$ H4
  ihave H5 := (owns_pt c (ms5 m (t0 m)) (hs5 m (t0 m)) ((dats m H 0 c).before 5 (t0 m) d5)) $$ H5
  ihave H6 := (owns_pt c (ms6 m (t0 m)) (hs6 m (t0 m)) ((dats m H 0 c).before 6 (t0 m) d6)) $$ H6
  ihave HpA := (toks_eq c hbA (V m c main_arg4)).1 $$ HpA
  ihave HpB := (toks_eq c hbB (V m c main_arg5)).1 $$ HpB
  icases HpA with ⟨HpA, HA0, HA1, HA2, HA3, HA4, HA5⟩
  icases HpB with ⟨HpB, HB0, HB1, HB2, HB3, HB4, HB5⟩
  iapply ((firstRun c (V m c main_arg6) (V m c main_arg7) (V m c main_arg9) (V m c main_arg10) (H c).1 (H c).2 (grid0.coords (t0 m)) (hi0 m)
    fullShare.right fullShare.right fullShare.right fullShare.right (fun s => Transfers.shareTok fullShare 6 s)
    (ms0 m (t0 m)) (hs0 m (t0 m)) (ms1 m (t0 m)) (hs1 m (t0 m)) (ms2 m (t0 m)) (hs2 m (t0 m)) (ms3 m (t0 m)) (hs3 m (t0 m)) (ms4 m (t0 m)) (hs4 m (t0 m))
    (ms5 m (t0 m)) (hs5 m (t0 m)) (ms6 m (t0 m)) (hs6 m (t0 m))
    ((hs0 m (t0 m)).unread (iblk m c 0 (t0 m))) ((hs1 m (t0 m)).unread (iblk m c 1 (t0 m))) ((hs2 m (t0 m)).unread (iblk m c 2 (t0 m)))
    ((hs3 m (t0 m)).unread (iblk m c 3 (t0 m))) ((hs4 m (t0 m)).unread (iblk m c 4 (t0 m))) (V m c main_arg4) (V m c main_arg5)).2 _ _ fa fb fh W _)
  isplitl [HtS HtR HtO HtD H0 H1 H2 H3 H4]
  · isplitl [HtS]; · iexact HtS
    isplitl [HtR]; · iexact HtR
    isplitl [HtO]; · iexact HtO
    isplitl [HtD]; · iexact HtD
    isplitl [H0]; · iexact H0
    isplitl [H1]; · iexact H1
    isplitl [H2]; · iexact H2
    isplitl [H3]; · iexact H3
    iexact H4
  isplitl [HA0 HA1 HA2 HA3 HA4 HA5 HB0 HB1 HB2 HB3 HB4 HB5]
  · isplitl [HA0]; · iexact HA0
    isplitl [HA1]; · iexact HA1
    isplitl [HA2]; · iexact HA2
    isplitl [HA3]; · iexact HA3
    isplitl [HA4]; · iexact HA4
    isplitl [HA5]; · iexact HA5
    isplitl [HB0]; · iexact HB0
    isplitl [HB1]; · iexact HB1
    isplitl [HB2]; · iexact HB2
    isplitl [HB3]; · iexact HB3
    isplitl [HB4]; · iexact HB4
    iexact HB5
  isplitl [H5]; · iexact H5
  isplitl [H6]; · iexact H6
  isplitl [HA]; · iexact HA
  isplitl [HB]; · iexact HB
  isplitl [HH]; · iexact HH
  isplitl [Hq]; · iexact Hq
  isplitl [HW]; · iexact HW
  iintro ⟨⟨HtS, HtR, HtO, HtD, H0, H1, H2, H3, H4⟩, ⟨HA0, HA1, HA2, HA3, HA4, HA5, HB0, HB1, HB2, HB3, HB4, HB5⟩, H5, H6, HA, HB, HH, Hq, ⟨%W', HW⟩⟩
  ihave HpA := (toks_eq c hbA (V m c main_arg4)).2 $$ [HpA HA0 HA1 HA2 HA3 HA4 HA5]
  · isplitl [HpA]; · iexact HpA
    isplitl [HA0]; · iexact HA0
    isplitl [HA1]; · iexact HA1
    isplitl [HA2]; · iexact HA2
    isplitl [HA3]; · iexact HA3
    isplitl [HA4]; · iexact HA4
    iexact HA5
  ihave HpB := (toks_eq c hbB (V m c main_arg5)).2 $$ [HpB HB0 HB1 HB2 HB3 HB4 HB5]
  · isplitl [HpB]; · iexact HpB
    isplitl [HB0]; · iexact HB0
    isplitl [HB1]; · iexact HB1
    isplitl [HB2]; · iexact HB2
    isplitl [HB3]; · iexact HB3
    isplitl [HB4]; · iexact HB4
    iexact HB5
  ihave HH := (Entails.of_eq (congrArg (fun g => (pt c scH fullShare g : sProp 𝕄)) (keptH_eq m H c fh))) $$ HH
  isplitl [HA HB HH Hg Hq HpA HpB HtS HtR HtO HtD]
  · isplitl [HA]; · iexists _; iexact HA
    isplitl [HB]; · iexact HB
    isplitl [HH]; · iexact HH
    isplitl [Hg]; · iexact Hg
    isplitl [Hq]; · iexact Hq
    isplitl [HpA]; · iexact HpA
    isplitl [HpB]; · iexact HpB
    isplitl [HtS]; · iexact HtS
    isplitl [HtR]; · iexact HtR
    isplitl [HtO]; · iexact HtO
    iexact HtD
  isplitl [HW]
  · iexists W'; isplitr; · ipureintro; exact fun _ _ => Or.inl trivial
    iexact HW
  isplitl [H0]; · iapply (pt_owns c (ms0 m (t0 m)) (hs0 m (t0 m)) ((hs0 m (t0 m)).unread (iblk m c 0 (t0 m))) (iblk m c 0 (t0 m)) ((hs0 m (t0 m)).read_unread _)) $$ H0
  isplitl [H1]; · iapply (pt_owns c (ms1 m (t0 m)) (hs1 m (t0 m)) ((hs1 m (t0 m)).unread (iblk m c 1 (t0 m))) (iblk m c 1 (t0 m)) ((hs1 m (t0 m)).read_unread _)) $$ H1
  isplitl [H2]; · iapply (pt_owns c (ms2 m (t0 m)) (hs2 m (t0 m)) ((hs2 m (t0 m)).unread (iblk m c 2 (t0 m))) (iblk m c 2 (t0 m)) ((hs2 m (t0 m)).read_unread _)) $$ H2
  isplitl [H3]; · iapply (pt_owns c (ms3 m (t0 m)) (hs3 m (t0 m)) ((hs3 m (t0 m)).unread (iblk m c 3 (t0 m))) (iblk m c 3 (t0 m)) ((hs3 m (t0 m)).read_unread _)) $$ H3
  isplitl [H4]; · iapply (pt_owns c (ms4 m (t0 m)) (hs4 m (t0 m)) ((hs4 m (t0 m)).unread (iblk m c 4 (t0 m))) (iblk m c 4 (t0 m)) ((hs4 m (t0 m)).read_unread _)) $$ H4
  isplitl [H5]; · iapply (owns_writes c (ms5 m (t0 m)) (hs5 m (t0 m)) VY _ _ (cover_y m H c)) $$ H5
  iapply (owns_writes c (ms6 m (t0 m)) (hs6 m (t0 m)) VL _ _ (cover_l m H c)) $$ H6

theorem sound_body (c : Dev nD) (t : Fin (cfgM m).N) :
    bodyPre m H c t ⊢ wp frame (wpE (defs₀ (F := F)) Variants.none c none) Set.univ (bodyAt m t) (fun _ => bodyPost m H c t) := by
  by_cases ht : t.val = 0
  · obtain rfl : t = t0 m := Fin.ext ht
    exact sound_first m H c
  · exact sound_later m H c t ht

theorem defs₀_row (t : Fin (cfgM m).N) :
    defs₀ (F := F) .tc (cfgM m).body ((cfgM m).bodyArgs t ((cfgM m).slots t)) = bodyAt m t := by
  unfold defs₀; rw [Defs.onTc_tc]

/-- The low-rank activations' window as the obligation asks for it at a point: where it is idle, as it was found. -/
theorem post6 (c : Dev nD) (t : Fin (cfgM m).N) :
    (owns (c : Thread nD τ) (ms6 m t) fullShare (loraH m H c) : sProp 𝕄)
      ⊢ match (cfgM m).idle 6 ((cfgM m).grid.coords t) with
        | true =>
          match ((cfgM m).win 6).flush t with
          | false => iprop(∃ d, owns (c : Thread nD τ) (((cfgM m).win 6).stage ((cfgM m).slots t 6)) fullShare ((dats m H 0 c).before 6 t d))
          | true => owns (c : Thread nD τ) (((cfgM m).win 6).stage ((cfgM m).slots t 6)) fullShare ((dats m H 0 c).after 6 t)
        | false => owns (c : Thread nD τ) (((cfgM m).win 6).stage ((cfgM m).slots t 6)) fullShare ((dats m H 0 c).after 6 t) := by
  rw [idle6]
  by_cases ht : t.val = 0
  · rw [decide_eq_false (by simp [ht])]
    exact .rfl
  · rw [decide_eq_true (by simpa using ht)]
    cases ((cfgM m).win 6).flush t
    · dsimp only
      simp only [before6 m H c t ht]
      iintro H; iexists (loraH m H c); iexact H
    · exact .rfl

theorem body_obligation (c : Dev nD) : BodyObligation (dats m H 0 c) (defs₀ (F := F)) Variants.none () Set.univ := fun t => by
  rw [bigSep_W0, bigSep_W0, defs₀_row]
  exact triple_restated (sound_body m H c t) rfl .rfl fun _ => by
    unfold bodyPost
    refine sep_mono .rfl (sep_mono .rfl (sep_mono .rfl (sep_mono .rfl (sep_mono .rfl (sep_mono .rfl (sep_mono .rfl (sep_mono .rfl ?_)))))))
    exact post6 m H c t

end Cert.Kernel.Hand

end
-- ==== Proof.KB.Run.lean ====
/-
  The whole program, run: from any launch whose tables are in range it ends with every semaphore zero, the arrays at what
  the write-backs left, every other buffer at the last line's contents — so the eleven arguments as they were.
-/
module

public import proofs.«01_k».proof.Proof.KB.Body

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (H : TabOK m)

/-- What the run ends in: the arrays at the write-backs' contents, every other buffer at the last line's. -/
abbrev EndsIn (r : PUnit × MemSt nD τ sig (Elt F)) : Prop :=
  Pipeline.FramePost (Pipeline.pin pcfgs (fun _ => adm m)) (dats m H) (0 : Fin 1)
    (Pipeline.afterTail pcfgs (fun _ => adm m) (dats m H) (0 : Fin 1) (V0 m) [hostOps1]) r

theorem inv_end (c : Dev nD) : inv m H c (cfgM m).N ⊢ Pipeline.ΦD osem0 spec0 H0 (V m) c := by
  rw [show (cfgM m).N = 28 from N_0]
  unfold inv
  rw [if_neg (by decide), Pipeline.ΦD_eq, scopedRest0_eq, ownSems0_eq, poolPts_eq]
  iintro ⟨HA, HB, HH, HP, HS, Ha, Hb, -⟩
  isplitl [HA HB HH]
  · isplitl [HA]; · iexact HA
    isplitl [HB]; · iexists _; iexact HB
    iexists _; iexact HH
  isplitl [HP]; · iexact HP
  isplitl [HS]; · iexact HS
  isplitl [Ha]; · iexact Ha
  iexact Hb

set_option backward.isDefEq.respectTransparency.types false in
theorem run_main : θ_run defs (onTc (τ := τ) main) ⟨m, fun _ => 0, ρ⟩ (fun r => EndsIn m H r ∧ r.2.sem = fun _ => 0) :=
  Pipeline.θ_run_frameP_dma_around pcfgs (fun _ => adm m) (dats m H) (0 : Fin 1) launch0 osem0 defs₀ Variants.none ownSemFacts0 H0 H0_sub m ρ main
    (hbody := fun c => (body_obligation m H c).loose)
    (hshare := fun c => (dats m H 0 c).share_full fun _ => rfl)
    (howed := fun _ _ => rfl) (V₀ := V0 m) (opss := [hostOps1]) (hsub := sfx_but) (hfresh := sfx_fresh) (hkeep := sfx_keeps)
    (hmain := hmain m Variants.none) (hA := A_eq m H) (hpf := V_pre m)
    (hin := fun c => by
      show _ ⊢ inv m H c 0
      unfold inv; rw [if_pos rfl])
    (hout := fun c => inv_end m H c)
    (Q' := fun r => EndsIn m H r ∧ r.2.sem = fun _ => 0)
    (hQ' := fun _ h => h)

/-- A buffer that is no array of the region and not the last line's result ends at its launch contents. -/
theorem tail_arg (c : Dev nD) (b : Ref sig .tc) (h0 : b ≠ main_v0) (h2 : b ≠ main_v2) (hw : ∀ w, Pipeline.arrRef spec0 w ≠ b) :
    Pipeline.afterTail pcfgs (fun _ => adm m) (dats m H) (0 : Fin 1) (V0 m) [hostOps1] c b = m ((c : Thread nD τ).loc b) := by
  unfold Pipeline.afterTail
  rw [StableHlo.after_of_forall_not_mem (b := Proc.devRef .tc b) _ _ (by
      simp only [List.flatten_cons, List.flatten_nil, List.append_nil, List.mem_singleton]
      rintro op rfl
      simp only [StableHlo.reshape_writes, Finset.mem_singleton]
      exact StableHlo.devRef_ne_of_ne h2),
    Pipeline.withArrays_of_ne _ c (V0 m c) _ b hw]
  exact V_arg m c b h0

/-- An input window's array ends at its launch contents. -/
theorem arr_arg (c : Dev nD) (w : Fin (cfgM m).W) (hin : ((cfgM m).win w).isOut = false) :
    (dats m H 0 c).arrAt w (cfgM m).N = V m c (Pipeline.arrRef spec0 w) :=
  ((dats m H 0 c).arrAt_in w hin _).trans (A_eq m H c w)

theorem rest_arg {r} (h : EndsIn m H r) (c : Dev nD) (b : Ref sig .tc) (hb : b ∈ Pipeline.restRefs sig spec0) (h0 : b ≠ main_v0) (h2 : b ≠ main_v2)
    (hw : ∀ w, Pipeline.arrRef spec0 w ≠ b) : r.2.mem ((c : Thread nD τ).loc b) = m ((c : Thread nD τ).loc b) :=
  ((h c).2 b hb).trans (tail_arg m H c b h0 h2 hw)

/-- The eleven arguments end as they were. -/
theorem args_kept {r} (h : EndsIn m H r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10) :=
  ⟨rest_arg m H h c main_arg0 (Pipeline.mem_restRefs_of main_arg0 (by decide) (by decide)) (by decide) (by decide) (by decide),
   ((h c).1 2).trans ((arr_arg m H c 2 rfl).trans (V_arg m c main_arg1 (by decide))),
   ((h c).1 3).trans ((arr_arg m H c 3 rfl).trans (V_arg m c main_arg2 (by decide))),
   ((h c).1 4).trans ((arr_arg m H c 4 rfl).trans (V_arg m c main_arg3 (by decide))),
   rest_arg m H h c main_arg4 (Pipeline.mem_restRefs_of main_arg4 (by decide) (by decide)) (by decide) (by decide) (by decide),
   rest_arg m H h c main_arg5 (Pipeline.mem_restRefs_of main_arg5 (by decide) (by decide)) (by decide) (by decide) (by decide),
   rest_arg m H h c main_arg6 (Pipeline.mem_restRefs_of main_arg6 (by decide) (by decide)) (by decide) (by decide) (by decide),
   rest_arg m H h c main_arg7 (Pipeline.mem_restRefs_of main_arg7 (by decide) (by decide)) (by decide) (by decide) (by decide),
   ((h c).1 0).trans ((arr_arg m H c 0 rfl).trans (V_arg m c main_arg8 (by decide))),
   rest_arg m H h c main_arg9 (Pipeline.mem_restRefs_of main_arg9 (by decide) (by decide)) (by decide) (by decide) (by decide),
   rest_arg m H h c main_arg10 (Pipeline.mem_restRefs_of main_arg10 (by decide) (by decide)) (by decide) (by decide) (by decide)⟩

end Cert.Kernel.Hand

end
-- ==== Proof.KB.Frame.lean ====
/-
  The kernel's frame from its precondition.
-/
module

public import proofs.«01_k».proof.Proof.KB.Run
public import proofs.«01_k».proof.Proof.Pre

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section
variable {m} {c : Dev nD} {st rk : IVec S11 32} {off : IVec S7 32} {ad : IVec S6 32}

/-- A segment's start row as read is the table's, at the segment's adapter. -/
theorem stW_row (h : Cert.Tables.Good st rk off ad) (hD : AdOK (F := F) c ad) (s : Fin 6) :
    stW (F := F) c st ad hD s = st (ValueIdx.ix1 (Cert.Tables.row ad s)) := by
  have ea : adW (F := F) c ad s = ad (ValueIdx.ix1 s) := by
    refine congrArg ad (funext fun ax => Fin.ext ?_)
    match ax with
    | ⟨0, _⟩ => show s.val + 1 * 0 = s.val; omega
  refine congrArg st (funext fun ax => Fin.ext ?_)
  match ax with
  | ⟨0, _⟩ =>
    show (adW (F := F) c ad s).toNat + 1 * 0 = min (ad (ValueIdx.ix1 s)).toInt.toNat 10
    rw [ea]
    have h0 := h.ad_nonneg (ValueIdx.ix1 s)
    have h1 := h.ad_lt (ValueIdx.ix1 s)
    rw [BitVec.toInt_eq_toNat_cond] at *
    split at h0 <;> split <;> omega

theorem tabOKAt (h : Cert.Tables.Good st rk off ad) : ∃ hD : AdOK (F := F) c ad, StOK (F := F) c st ad hD := by
  have hD : AdOK (F := F) c ad := fun r x => ⟨h.ad_nonneg _, h.ad_lt _⟩
  exact ⟨hD, fun s => by rw [stW_row h hD s]; exact ⟨h.st_nonneg s, h.st_lt s⟩⟩
end

/-- The tables in range make every read of them in range. -/
theorem tabOK (h : ∀ c : Dev nD, Cert.Tables.Good (m ((c : Thread nD τ).loc main_arg6)) (m ((c : Thread nD τ).loc main_arg7))
    (m ((c : Thread nD τ).loc main_arg9)) (m ((c : Thread nD τ).loc main_arg10))) : TabOK m := fun c => by
  have h := h c
  rw [← V_arg m c main_arg10 (by decide), ← V_arg m c main_arg6 (by decide)] at h
  obtain ⟨hD, hS⟩ := tabOKAt (F := F) (c := c) h
  exact ⟨hD, hS⟩

theorem frame (H : TabOK m) : θ_run defs (onTc (τ := τ) main) ⟨m, fun _ => 0, ρ⟩ (fun r => (∀ c : Dev nD,
      r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)) ∧ r.2.sem = fun _ => 0) :=
  (θ_run defs _ _).mono (fun _ h => ⟨fun c => args_kept m H h.1 c, h.2⟩) (run_main m ρ H)

end Cert.Kernel.Hand

end
-- ==== Proof.Frames.lean ====
/-
  The three frames: the kernel at bits and at the ideal instance, from the precondition; the reference from its run (it has
  no semaphore).
-/
module

public import proofs.«01_k».proof.Defs
public import proofs.«01_k».proof.Proof.KI.Frame
public import proofs.«01_k».proof.Proof.KB.Frame
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

theorem good_bits (m : (ℓ : Loc Cert.Kernel.nD Cert.Kernel.τ Cert.Kernel.sig) → Buf (Elt Bits) ℓ) (h : Cert.Pre_Kernel m) (c : Dev Cert.Kernel.nD) :
    Cert.Tables.Good (m ((c : Thread Cert.Kernel.nD Cert.Kernel.τ).loc Cert.Kernel.main_arg6)) (m ((c : Thread Cert.Kernel.nD Cert.Kernel.τ).loc Cert.Kernel.main_arg7))
      (m ((c : Thread Cert.Kernel.nD Cert.Kernel.τ).loc Cert.Kernel.main_arg9)) (m ((c : Thread Cert.Kernel.nD Cert.Kernel.τ).loc Cert.Kernel.main_arg10)) :=
  Cert.Tables.good _ _ _ _ _ _ _ _ _ _ _ (h c)

theorem good_ideal (m : (ℓ : Loc Cert.KernelIdeal.nD Cert.KernelIdeal.τ Cert.KernelIdeal.sig) → Buf (Elt Ideal) ℓ) (h : Cert.Pre_KernelIdeal m) (c : Dev Cert.KernelIdeal.nD) :
    Cert.Tables.Good (m ((c : Thread Cert.KernelIdeal.nD Cert.KernelIdeal.τ).loc Cert.KernelIdeal.main_arg6)) (m ((c : Thread Cert.KernelIdeal.nD Cert.KernelIdeal.τ).loc Cert.KernelIdeal.main_arg7))
      (m ((c : Thread Cert.KernelIdeal.nD Cert.KernelIdeal.τ).loc Cert.KernelIdeal.main_arg9)) (m ((c : Thread Cert.KernelIdeal.nD Cert.KernelIdeal.τ).loc Cert.KernelIdeal.main_arg10)) :=
  Cert.Tables.good _ _ _ _ _ _ _ _ _ _ _ (h c)

theorem frame_bits : Cert.quiescent_Kernel := fun m g h =>
  Cert.Kernel.Hand.frame m g (Cert.Kernel.Hand.tabOK m (good_bits m h))

theorem frame_ideal : Cert.quiescent_KernelIdeal := fun m g h =>
  Cert.KernelIdeal.Hand.frame m g (Cert.KernelIdeal.Hand.tabOK m (good_ideal m h))

theorem frame_reference : Cert.quiescent_ReferenceIdeal := fun m g _ =>
  (θ_run _ _ _).mono (fun r h => ⟨fun c => (h c).2.2, sem_eq_zero_of_no_sems rfl r.2⟩) (Cert.ReferenceIdeal.Value.run m g)

end Cert.Proof

end
-- ==== Proof.KI.Tile.lean ====
/-
  One tile of the result as a plain expression. The kernel takes the quantised weights sixteen packed rows at a time,
  unpacks them, subtracts the zero point and multiplies by the scale; two such groups make a block of 256 rows, which is
  multiplied by its 256 columns of the input and added to what was there. The low-rank product is added at the end.
-/
module

public import proofs.«01_k».proof.Proof.KI.Later

@[expose] public section

noncomputable section

namespace Cert.KernelIdeal.Hand

open Cert.KernelIdeal Cert.KernelIdeal.Gen
open Idealize.ShloMosaic Idealize.ShloMosaic.TcCoe

variable {F : FTy → Type} [FloatOps F]

theorem inbW (g : Fin 32) : ∀ a, (![16 * g.val, 0] : Fin 2 → Nat) a + S16x512.size a ≤ S512x512.size a := by
  intro a; fin_cases a
  · show 16 * g.val + 16 ≤ 512; omega
  · show 0 + 512 ≤ 512; omega

theorem inbS (g : Fin 32) : ∀ a, (![g.val, 0] : Fin 2 → Nat) a + S1x512.size a ≤ S32x512.size a := by
  intro a; fin_cases a
  · show g.val + 1 ≤ 32; omega
  · show 0 + 512 ≤ 512; omega

theorem inbX (k : Fin 16) : ∀ a, (![0, 256 * k.val] : Fin 2 → Nat) a + S128x256.size a ≤ S128x4096.size a := by
  intro a; fin_cases a
  · show 0 + 128 ≤ 128; omega
  · show 256 * k.val + 256 ≤ 4096; omega

section
variable (c : Dev nD)
    (arg6 : Memref sig .tc .vmem S128x4096 .bf16) (arg7 : Memref sig .tc .vmem S512x512 .i32)
    (arg8 : Memref sig .tc .vmem S32x512 .bf16) (arg9 : Memref sig .tc .vmem S32x512 .bf16)
    (f6 : BufOf (F := F) c arg6) (f7 : BufOf (F := F) c arg7) (f8 : BufOf (F := F) c arg8) (f9 : BufOf (F := F) c arg9)

/-- The 128 unpacked and scaled rows of group `g`. -/
def wq (g : Fin 32) : FVec F S128x512 .bf16 :=
  k0_pay35 (View.readAt (Elt F) arg7.view (Rect.unit (s := S512x512) ![16 * g.val, 0] S16x512.size (inbW g)).toLoadRect f7)
    (View.readAt (Elt F) arg9.view (Rect.unit (s := S32x512) ![g.val, 0] S1x512.size (inbS g)).toLoadRect f9)
    (View.readAt (Elt F) arg8.view (Rect.unit (s := S32x512) ![g.val, 0] S1x512.size (inbS g)).toLoadRect f8)

/-- Adding the product over block `k` of 256 input columns. -/
def stp (acc : FVec F S128x512 .f32) (k : Fin 16) : FVec F S128x512 .f32 :=
  addf acc (matmul dot_S128x256_S256x512_S128x512_1_0_0_1_n_n none
    (shapeCast S128x256 (View.readAt (Elt F) arg6.view (Rect.unit (s := S128x4096) ![0, 256 * k.val] S128x256.size (inbX k)).toLoadRect f6) shapeCasts_S128x256_S128x256)
    (concatenate S256x512 0 [⟨S128x512, wq c arg7 arg8 arg9 f7 f8 f9 ⟨2 * k.val, by omega⟩⟩,
      ⟨S128x512, wq c arg7 arg8 arg9 f7 f8 f9 ⟨2 * k.val + 1, by omega⟩⟩] concatenates_S128x512_S128x512_S256x512_d0)
    (constant S128x512 .f32 0x00000000#32))

/-- The sum over the first `n` blocks. -/
def accN : (n : ℕ) → n ≤ 16 → FVec F S128x512 .f32
  | 0, _ => k0_pay34
  | n + 1, h => stp c arg6 arg7 arg8 arg9 f6 f7 f8 f9 (accN n (by omega)) ⟨n, by omega⟩

/-- The whole tile: the sum over the blocks plus the low-rank product. -/
def tileV (b : Vec F S512x512 .bf16) (hb : Vec F S128x512 .bf16) : FVec F S128x512 .f32 :=
  addf (accN c arg6 arg7 arg8 arg9 f6 f7 f8 f9 16 le_rfl)
    (matmul dot_S128x512_S512x512_S128x512_1_0_0_1_n_n none hb b (constant S128x512 .f32 0x00000000#32))

theorem later_tile (i : grid0.Coords) (fB : BufOf (F := F) c scB) (fH : BufOf (F := F) c scH) :
    laterRun.sl.r_61 c i arg6 arg7 arg8 arg9 f6 f7 f8 f9 fB fH = tileV c arg6 arg7 arg8 arg9 f6 f7 f8 f9
      (View.readAt (Elt F) scB.view (Rect.unit (s := S512x14336) (k0_off47 i) S512x512.size (k0_off47_inb i)).toLoadRect fB)
      (View.readAt (Elt F) scH.view (Rect.unit (s := S128x512) ![0, 0] S128x512.size inb_S128x512_S128x512_0_0).toLoadRect fH) := rfl

end
end Cert.KernelIdeal.Hand

end
-- ==== Proof.KI.Segs.lean ====
/-
  The first grid point's adapter selection as a plain expression: over the six segments in turn, which token rows the
  segment owns, which of the gathered rows are its adapter's, and where in the gathered rows its adapter begins.
-/
module

public import proofs.«01_k».proof.Proof.KI.First
public import proofs.«01_k».proof.Proof.KI.Tile

@[expose] public section

noncomputable section

namespace Cert.KernelIdeal.Hand

open Cert.KernelIdeal Cert.KernelIdeal.Gen
open Idealize.ShloMosaic Idealize.ShloMosaic.TcCoe

variable {F : FTy → Type} [FloatOps F]

/-- Row and column numbers of the two masks. -/
abbrev rowI : IVec S128x512 32 := iota .tc S128x512 32 [0] iota_S128x512_d0_w32
abbrev colI : IVec S128x512 32 := iota .tc S128x512 32 [1] iota_S128x512_d1_w32
abbrev rselI : IVec S512x64 32 := iota .tc S512x64 32 [1] iota_S512x64_d1_w32
abbrev cselI : IVec S512x64 32 := iota .tc S512x64 32 [0] iota_S512x64_d0_w32

/-- Where in the gathered rows the adapter of segment `s`, which starts at pool row `st`, begins. -/
def c0W (s : ℕ) (st : BitVec 32) : BitVec 32 := Scalar.addi (BitVec.ofNat 32 (72 * s)) (Scalar.subi st (k0_mult1 st))

/-- One segment's step of the three masks. -/
def scalStep (prev : FVec F S128x512 .f32) (lo hi : BitVec 32) (sc : F .f32) : FVec F S128x512 .f32 :=
  select (andi (cmpi .sge rowI (broadcast S128x512 lo)) (cmpi .slt rowI (broadcast S128x512 hi))) (broadcast S128x512 sc) prev
def liveStep (prev : FVec F S128x512 .f32) (lo hi c0 rk : BitVec 32) : FVec F S128x512 .f32 :=
  select (andi (andi (andi (cmpi .sge rowI (broadcast S128x512 lo)) (cmpi .slt rowI (broadcast S128x512 hi)))
      (cmpi .sge colI (broadcast S128x512 c0))) (cmpi .slt colI (broadcast S128x512 (Scalar.addi c0 rk))))
    (broadcast S128x512 (Scalar.ofBits .f32 0x3F800000#32)) prev
def pickStep (prev : FVec F S512x64 .f32) (c0 rk : BitVec 32) : FVec F S512x64 .f32 :=
  select (andi (cmpi .eq (subi cselI (broadcast S512x64 c0)) rselI) (cmpi .slt rselI (broadcast S512x64 rk)))
    (broadcast S512x64 (Scalar.ofBits .f32 0x3F800000#32)) prev

section
variable (st rk : Fin 6 → BitVec 32) (off : Fin 7 → BitVec 32) (sc : Fin 6 → F .f32)

/-- The three masks after the first `n` segments. -/
def scalN : (n : ℕ) → n ≤ 6 → FVec F S128x512 .f32
  | 0, _ => k0_pay5
  | n + 1, h => scalStep (scalN n (by omega)) (off ⟨n, by omega⟩) (off ⟨n + 1, by omega⟩) (sc ⟨n, by omega⟩)
def liveN : (n : ℕ) → n ≤ 6 → FVec F S128x512 .f32
  | 0, _ => k0_pay6
  | n + 1, h => liveStep (liveN n (by omega)) (off ⟨n, by omega⟩) (off ⟨n + 1, by omega⟩) (c0W n (st ⟨n, by omega⟩)) (rk ⟨n, by omega⟩)
def pickN : (n : ℕ) → n ≤ 6 → FVec F S512x64 .f32
  | 0, _ => k0_pay7
  | n + 1, h => pickStep (pickN n (by omega)) (c0W n (st ⟨n, by omega⟩)) (rk ⟨n, by omega⟩)

/-- The masked activations, over the gathered rows. -/
def hbV (x : Vec F S128x4096 .bf16) (a : Vec F S512x4096 .bf16) : FVec F S128x512 .bf16 :=
  truncf .bf16 (select (cmpf .ogt (liveN (F := F) st rk off 6 le_rfl) (broadcast S128x512 (Scalar.ofBits .f32 0x00000000#32)))
    (mulf (k0_pay4 x a) (scalN off sc 6 le_rfl)) (broadcast S128x512 (Scalar.ofBits .f32 0x00000000#32))) bitsLt_bf16_f32
end

section
variable (c : Dev nD)
    (fS : BufOf (F := F) c tbStart) (fR : BufOf (F := F) c tbRank) (fO : BufOf (F := F) c tbOff) (fD : BufOf (F := F) c tbAd)
    (hD : AdOK c fD) (hS : StOK c fS fD hD)
variable (i : grid0.Coords) (hi : k0_cond1 i = 1#1)
    (arg5 : Memref sig .tc .smem S11 .f32) (arg6 : Memref sig .tc .vmem S128x4096 .bf16)
    (arg7 : Memref sig .tc .vmem S512x512 .i32) (arg8 : Memref sig .tc .vmem S32x512 .bf16) (arg9 : Memref sig .tc .vmem S32x512 .bf16)
    (f5 : BufOf (F := F) c arg5)
    (f6 : BufOf (F := F) c arg6) (f7 : BufOf (F := F) c arg7) (f8 : BufOf (F := F) c arg8) (f9 : BufOf (F := F) c arg9)
    (fA : BufOf (F := F) c hbA) (fB : BufOf (F := F) c hbB)

theorem inbO (s : Fin 7) : ∀ a, (![s.val] : Fin 1 → Nat) a + S1.size a ≤ S7.size a := by revert s; decide

/-- Segment `s`'s bounds, and its adapter's rank and scaling. -/
abbrev offW (s : Fin 7) : BitVec 32 := View.readAt (Elt F) tbOff.view (Rect.unit (s := S7) ![s.val] S1.size (inbO s)).toLoadRect fO (Shape.Idx.first (numel1_S1.symm ▸ Nat.one_pos))
abbrev rkW (s : Fin 6) : BitVec 32 := View.readAt (Elt F) tbRank.view (Rect.unit (s := S11) (k0_off1 (adW c fD s)) S1.size (inbT (hD _ _))).toLoadRect fR (Shape.Idx.first (numel1_S1.symm ▸ Nat.one_pos))
abbrev scW (s : Fin 6) : F .f32 := View.readAt (Elt F) arg5.view (Rect.unit (s := S11) (k0_off1 (adW c fD s)) S1.size (inbT (hD _ _))).toLoadRect f5 (Shape.Idx.first (numel1_S1.symm ▸ Nat.one_pos))

theorem first_scal : firstRun.sl.r_59 c fO fD hD i hi arg5 f5 = scalN (offW c fO) (scW c fD hD arg5 f5) 5 (by omega) := rfl
theorem first_live : firstRun.sl.r_60 c fS fR fO fD hD i hi = liveN (stW c fS fD hD) (rkW c fR fD hD) (offW c fO) 5 (by omega) := rfl
theorem first_pick : firstRun.sl.r_66 c fS fR fD hD i hi = pickN (F := F) (stW c fS fD hD) (rkW c fR fD hD) 6 (by omega) := rfl

/-- The masked activations the first point computes. -/
abbrev hbW : FVec F S128x512 .bf16 :=
  hbV (stW c fS fD hD) (rkW c fR fD hD) (offW c fO) (scW c fD hD arg5 f5)
    (View.readAt (Elt F) arg6.view (Rect.unit (s := S128x4096) ![0, 0] S128x4096.size inb_S128x4096_S128x4096_0_0).toLoadRect f6)
    (View.readAt (Elt F) scA.view (Rect.unit (s := S512x4096) ![0, 0] S512x4096.size inb_S512x4096_S512x4096_0_0).toLoadRect (bufA c fS fD hD hS fA))

theorem first_hb : firstRun.sl.r_67 c fS fR fO fD hD hS i hi arg5 arg6 f5 f6 fA = hbW c fS fR fO fD hD hS arg5 arg6 f5 f6 fA := rfl

/-- The whole tile's value, from the blocks, the gathered rows of the second pool and the masked activations. -/
theorem first_tile : firstRun.sl.r_130 c fS fR fO fD hD hS i hi arg5 arg6 arg7 arg8 arg9 f5 f6 f7 f8 f9 fA fB =
    tileV c arg6 arg7 arg8 arg9 f6 f7 f8 f9
      (View.readAt (Elt F) scB.view (Rect.unit (s := S512x14336) (k0_off47 i) S512x512.size (k0_off47_inb i)).toLoadRect (bufB c fS fD hD hS fB))
      (firstRun.sl.v1144 c fS fR fO fD hD hS i hi arg5 arg6 f5 f6 fA) := rfl
end
end Cert.KernelIdeal.Hand

end
-- ==== Proof.Deq.lean ====
/-
  Unpacking, in words shared by the kernel and the reference: field `j` of a word is its bits `4 j` to `4 j + 3`, whichever
  of the two shifts reads it; a weight is the field less the zero point, times the scale.
-/
module

public import Idealize.ShloMosaic.PureOps.Ideal.Laws
public import Idealize.ShloMosaic.Lib.ValueIdx

@[expose] public section

noncomputable section

namespace Cert.Deq

open Idealize.ShloMosaic

/-- Field `j` of a word. -/
def nib (w : BitVec 32) (j : ℕ) : BitVec 32 := (w >>> (4 * j)) &&& 15#32

theorem nib_shrui (w : BitVec 32) (j : ℕ) (hj : j < 8) (a : BitVec 32) (ha : a = BitVec.ofNat 32 (4 * j)) :
    IntOp.andi (IntOp.shrui .vector w a) 15#32 = nib w j := by
  have e : a.toNat = 4 * j := by subst ha; rw [BitVec.toNat_ofNat]; omega
  unfold IntOp.shrui nib
  rw [if_pos (by omega)]
  show (w >>> a) &&& 15#32 = _
  rw [BitVec.ushiftRight_eq', e]

theorem high_zero : ∀ k : Fin 32, ¬ k.val < 4 → (15#32)[k.val] = false := by decide

theorem nib_shrsi (w : BitVec 32) (j : ℕ) (hj : j < 8) (a : BitVec 32) (ha : a = BitVec.ofNat 32 (4 * j)) :
    IntOp.andi (IntOp.shrsi .host w a) 15#32 = nib w j := by
  have e : a.toNat = 4 * j := by subst ha; rw [BitVec.toNat_ofNat]; omega
  unfold IntOp.shrsi nib
  rw [if_pos (by omega)]
  show (w.sshiftRight' a) &&& 15#32 = _
  rw [BitVec.sshiftRight_eq', e]
  ext i hi
  simp only [BitVec.getElem_and, BitVec.getElem_sshiftRight, BitVec.getElem_ushiftRight]
  by_cases h4 : i < 4
  · rw [dif_pos (by omega), ← BitVec.getLsbD_eq_getElem]
  · have : (15#32)[i] = false := high_zero ⟨i, hi⟩ h4
    rw [this]; simp

/-- A weight: the field less the zero point, times the scale. -/
def deq (w : BitVec 32) (j : ℕ) (z s : EReal) : EReal := ((FloatOps.sitofp .bf16 (nib w j) : Ideal .bf16) - z) * s

end Cert.Deq

end
-- ==== Proof.KI.Sum.lean ====
/-
  One tile at an entry, with exact arithmetic: the sum over all 4096 input channels of input times weight, plus the
  low-rank product.
-/
module

public import proofs.«01_k».proof.Proof.KI.Tile
public import proofs.«01_k».proof.Proof.Deq
public import Idealize.ShloMosaic.Lib.MatmulPlain
public import Idealize.ShloMosaic.Lib.WholeRead
public import Idealize.ShloMosaic.Lib.ValueLayout
public import Idealize.ShloMosaic.Lib.WordCmp

@[expose] public section

noncomputable section

namespace Cert.KernelIdeal.Hand

open Cert.KernelIdeal Cert.KernelIdeal.Gen Cert.Deq
open Idealize.ShloMosaic Idealize.ShloMosaic.TcCoe Idealize.ShloMosaic.ValueIdx

/-- The amount each row's words are shifted by, as the kernel computes it from the row number. -/
def shiftOf (v : BitVec 32) : BitVec 32 :=
  let v12 := IntOp.remsi .vector v (Scalar.select (Scalar.cmpi .eq 8#32 0#32) 1#32 8#32)
  let v20 := IntOp.xori (IntOp.cmpi .slt v12 0#32) (Scalar.cmpi .slt (Scalar.select (Scalar.cmpi .eq 8#32 0#32) 1#32 8#32) 0#32)
  IntOp.muli 4#32 (Scalar.select (IntOp.andi v20 (IntOp.cmpi .ne v12 0#32)) (IntOp.addi v12 (Scalar.select (Scalar.cmpi .eq 8#32 0#32) 1#32 8#32)) v12)

theorem shiftOf_eq : ∀ r : Fin 128, shiftOf (BitVec.ofNat 32 r.val) = BitVec.ofNat 32 (4 * (r.val % 8)) := by decide +kernel

theorem words_apply (w : Vec Ideal S16x512 .i32) (r : Fin 128) (n : Fin 512) :
    (shapeCast S128x512 (broadcastTo S16x8x512 (shapeCast S16x1x512 w shapeCasts_S16x512_S16x1x512) broadcasts_S16x1x512_S16x8x512) shapeCasts_S16x8x512_S128x512) (ix2 r n)
      = w (ix2 (⟨r.val / 8, by omega⟩ : Fin 16) n) := by
  rw [shapeCast_apply _ _ (ix2 r n) (ix3 (⟨r.val / 8, by omega⟩ : Fin 16) (⟨r.val % 8, by omega⟩ : Fin 8) n) (by
    rw [Shape.rowMajor_val_three, Shape.rowMajor_val_two]
    show (r.val / 8 * 8 + r.val % 8) * 512 + n.val = r.val * 512 + n.val
    omega)]
  rw [broadcastTo_apply _ _ _ (ix3 (⟨r.val / 8, by omega⟩ : Fin 16) (0 : Fin 1) n) (by
    intro a
    match a with
    | ⟨0, _⟩ => rfl
    | ⟨1, _⟩ => rfl
    | ⟨2, _⟩ => rfl)]
  rw [shapeCast_apply _ _ _ (ix2 (⟨r.val / 8, by omega⟩ : Fin 16) n) (by
    rw [Shape.rowMajor_val_three, Shape.rowMajor_val_two]
    show r.val / 8 * 512 + n.val = (r.val / 8 * 1 + 0) * 512 + n.val
    omega)]

/-- The words' rows, each eight times over. -/
abbrev wordsV (w : IVec S16x512 32) : IVec S128x512 32 :=
  shapeCast S128x512 (broadcastTo S16x8x512 (shapeCast S16x1x512 w shapeCasts_S16x512_S16x1x512) broadcasts_S16x1x512_S16x8x512) shapeCasts_S16x8x512_S128x512

theorem iota_row (j : S128x512.Idx) : iota .tc S128x512 32 [0] iota_S128x512_d0_w32 j = BitVec.ofNat 32 (j 0).val := by
  unfold iota; simp

theorem pay35_eq {F : FTy → Type} [FloatOps F] (w : Vec F S16x512 .i32) (z s : Vec F S1x512 .bf16) :
    k0_pay35 w z s = mulf (subf (sitofp .bf16 (andi (shrui (wordsV w) (fun j => shiftOf (iota .tc S128x512 32 [0] iota_S128x512_d0_w32 j))) (broadcast S128x512 15#32)))
      (broadcastTo S128x512 z broadcasts_S1x512_S128x512)) (broadcastTo S128x512 s broadcasts_S1x512_S128x512) := by
  unfold k0_pay35
  rfl

theorem pay35_apply (w : Vec Ideal S16x512 .i32) (z s : Vec Ideal S1x512 .bf16) (r : Fin 128) (n : Fin 512) :
    k0_pay35 w z s (ix2 r n) = deq (w (ix2 (⟨r.val / 8, by omega⟩ : Fin 16) n)) (r.val % 8) (z (ix2 (0 : Fin 1) n)) (s (ix2 (0 : Fin 1) n)) := by
  rw [pay35_eq, mulf_apply, subf_apply, sitofp_apply]
  rw [show (broadcastTo S128x512 z broadcasts_S1x512_S128x512) (ix2 r n) = z (ix2 (0 : Fin 1) n) from broadcastTo_1b_ab_apply z broadcasts_S1x512_S128x512 r n,
    show (broadcastTo S128x512 s broadcasts_S1x512_S128x512) (ix2 r n) = s (ix2 (0 : Fin 1) n) from broadcastTo_1b_ab_apply s broadcasts_S1x512_S128x512 r n]
  unfold deq
  have e : andi (shrui (wordsV w) (fun j => shiftOf (iota .tc S128x512 32 [0] iota_S128x512_d0_w32 j))) (broadcast S128x512 15#32) (ix2 r n)
      = nib (w (ix2 (⟨r.val / 8, by omega⟩ : Fin 16) n)) (r.val % 8) := by
    show IntOp.andi (IntOp.shrui .vector (wordsV w (ix2 r n)) (shiftOf (iota .tc S128x512 32 [0] iota_S128x512_d0_w32 (ix2 r n)))) 15#32 = _
    rw [iota_row, show wordsV w (ix2 r n) = _ from words_apply w r n]
    exact nib_shrui _ (r.val % 8) (by omega) _ (shiftOf_eq r)
  rw [e]

section
variable (c : Dev nD)
    (arg6 : Memref sig .tc .vmem S128x4096 .bf16) (h6 : arg6.IsWhole) (arg7 : Memref sig .tc .vmem S512x512 .i32) (h7 : arg7.IsWhole)
    (arg8 : Memref sig .tc .vmem S32x512 .bf16) (h8 : arg8.IsWhole) (arg9 : Memref sig .tc .vmem S32x512 .bf16) (h9 : arg9.IsWhole)
    (X : Vec Ideal S128x4096 .bf16) (W : Vec Ideal S512x512 .i32) (S Z : Vec Ideal S32x512 .bf16)

/-- The weight of input channel `d` in column `n` of the tile. -/
def wAt (W : Vec Ideal S512x512 .i32) (S Z : Vec Ideal S32x512 .bf16) (d : Fin 4096) (n : Fin 512) : EReal :=
  deq (W (ix2 (⟨d.val / 8, by omega⟩ : Fin 512) n)) (d.val % 8) (Z (ix2 (⟨d.val / 128, by omega⟩ : Fin 32) n)) (S (ix2 (⟨d.val / 128, by omega⟩ : Fin 32) n))

theorem wq_apply (g : Fin 32) (r : Fin 128) (n : Fin 512) :
    wq c arg7 arg8 arg9 (h7.unread W) (h8.unread S) (h9.unread Z) g (ix2 r n) = wAt W S Z ⟨128 * g.val + r.val, by omega⟩ n := by
  unfold wq
  rw [pay35_apply]
  rw [h7.readAt_unread, h8.readAt_unread, h9.readAt_unread]
  unfold wAt
  have e1 : (128 * g.val + r.val) % 8 = r.val % 8 := by omega
  have e0 : (Rect.unit (s := S512x512) ![16 * g.val, 0] S16x512.size (inbW g)).toLoadRect.idx (ix2 (⟨r.val / 8, by omega⟩ : Fin 16) n)
      = ix2 (⟨(128 * g.val + r.val) / 8, by omega⟩ : Fin 512) n := by
    funext a; apply Fin.ext
    match a with
    | ⟨0, _⟩ => show 16 * g.val + 1 * (r.val / 8) = (128 * g.val + r.val) / 8; omega
    | ⟨1, _⟩ => show 0 + 1 * n.val = n.val; omega
  have e2 : (Rect.unit (s := S32x512) ![g.val, 0] S1x512.size (inbS g)).toLoadRect.idx (ix2 (0 : Fin 1) n)
      = ix2 (⟨(128 * g.val + r.val) / 128, by omega⟩ : Fin 32) n := by
    funext a; apply Fin.ext
    match a with
    | ⟨0, _⟩ => show g.val + 1 * 0 = (128 * g.val + r.val) / 128; omega
    | ⟨1, _⟩ => show 0 + 1 * n.val = n.val; omega
  rw [e0, e2, e1]

/-- The term of input channel `d`, zero past the last. -/
def term (t : Fin 128) (n : Fin 512) (d : ℕ) : EReal :=
  if h : d < 4096 then X (ix2 t ⟨d, h⟩) * wAt W S Z ⟨d, h⟩ n else 0

theorem stp_apply (acc : FVec Ideal S128x512 .f32) (k : Fin 16) (t : Fin 128) (n : Fin 512) :
    stp c arg6 arg7 arg8 arg9 (h6.unread X) (h7.unread W) (h8.unread S) (h9.unread Z) acc k (ix2 t n)
      = acc (ix2 t n) + ∑ k' ∈ Finset.range 256, term X W S Z t n (256 * k.val + k') := by
  unfold stp
  rw [addf_apply]
  refine congrArg (acc (ix2 t n) + ·) ?_
  refine (Ideal.matmul_plain_apply none _ _ _ t n).trans ?_
  rw [show (constant (F := Ideal) S128x512 .f32 0x00000000#32) (ix2 t n) = 0 from Ideal.ofBits_zero_f32, zero_add, Finset.sum_range]
  refine Finset.sum_congr rfl fun k' _ => ?_
  unfold term
  rw [dif_pos (show 256 * k.val + k'.val < 4096 by omega)]
  refine congrArg₂ (· * ·) ?_ ?_
  · refine (congrFun (shapeCast_self _ _) _).trans ?_
    rw [h6.readAt_unread]
    refine congrArg X (funext fun a => Fin.ext ?_)
    match a with
    | ⟨0, _⟩ => show 0 + 1 * t.val = t.val; omega
    | ⟨1, _⟩ => show 256 * k.val + 1 * k'.val = 256 * k.val + k'.val; omega
  · by_cases hk : k'.val < 128
    · refine (concatenate_pair_apply_left (t := S256x512) (s₁ := S128x512) (s₂ := S128x512) (0 : Fin 2) _ _ _ (ix2 k' n) rfl (ix2 (⟨k'.val, hk⟩ : Fin 128) n) (fun b => by
        match b with
        | ⟨0, _⟩ => rfl
        | ⟨1, _⟩ => rfl)).trans ?_
      rw [wq_apply]
      exact congrArg (fun d => wAt W S Z d n) (Fin.ext (by show 128 * (2 * k.val) + k'.val = 256 * k.val + k'.val; omega))
    · refine (concatenate_pair_apply_right (t := S256x512) (s₁ := S128x512) (s₂ := S128x512) (0 : Fin 2) _ _ _ (ix2 k' n) rfl rfl (ix2 (⟨k'.val - 128, by omega⟩ : Fin 128) n) (fun b hb => by
        match b with
        | ⟨0, _⟩ => exact absurd rfl hb
        | ⟨1, _⟩ => rfl) (by show k'.val - 128 + 128 = k'.val; omega)).trans ?_
      rw [wq_apply]
      exact congrArg (fun d => wAt W S Z d n) (Fin.ext (by show 128 * (2 * k.val + 1) + (k'.val - 128) = 256 * k.val + k'.val; omega))

theorem accN_apply (t : Fin 128) (n : Fin 512) : ∀ (k : ℕ) (hk : k ≤ 16),
    accN c arg6 arg7 arg8 arg9 (h6.unread X) (h7.unread W) (h8.unread S) (h9.unread Z) k hk (ix2 t n)
      = ∑ d ∈ Finset.range (256 * k), term X W S Z t n d
  | 0, _ => Ideal.ofBits_zero_f32
  | k + 1, hk => by
    rw [accN, stp_apply, accN_apply t n k (by omega), Nat.mul_succ, Finset.sum_range_add]

/-- **A tile's entry.** -/
theorem tileV_apply (b : Vec Ideal S512x512 .bf16) (hb : Vec Ideal S128x512 .bf16) (t : Fin 128) (n : Fin 512) :
    tileV c arg6 arg7 arg8 arg9 (h6.unread X) (h7.unread W) (h8.unread S) (h9.unread Z) b hb (ix2 t n)
      = (∑ d : Fin 4096, X (ix2 t d) * wAt W S Z d n) + ∑ j : Fin 512, hb (ix2 t j) * b (ix2 j n) := by
  unfold tileV
  rw [addf_apply, accN_apply]
  refine congrArg₂ (· + ·) ?_ ?_
  · rw [Finset.sum_range]
    refine Finset.sum_congr rfl fun d _ => ?_
    exact dif_pos d.isLt
  · refine (Ideal.matmul_plain_apply none _ _ _ t n).trans ?_
    rw [show (constant (F := Ideal) S128x512 .f32 0x00000000#32) (ix2 t n) = 0 from Ideal.ofBits_zero_f32, zero_add]
end

end Cert.KernelIdeal.Hand

end
-- ==== Proof.Lora.lean ====
/-
  The low-rank part as mathematics. A token row lies in at most one segment; its activations are the row's products with
  the adapter's rank-many rows of the first pool, times the adapter's scaling; the result adds their products with the
  adapter's rows of the second pool. The kernel keeps six windows of gathered rows side by side and sums over all of them,
  masked; here that sum is brought down to the one window of the row's own segment.
-/
module

public import Idealize.ShloMosaic.PureOps.Ideal.Laws

@[expose] public section

noncomputable section

namespace Cert.Lora

open Classical

variable (st rk : Fin 6 → BitVec 32) (off : Fin 7 → BitVec 32) (sc : Fin 6 → EReal)
    (X : Fin 128 → Fin 4096 → EReal) (PA : ℕ → Fin 4096 → EReal) (PB : ℕ → Fin 14336 → EReal)

/-- Token row `t` lies in segment `s`. -/
def Seg (t : Fin 128) (s : Fin 6) : Prop := (off s.castSucc).toInt ≤ (t.val : ℤ) ∧ (t.val : ℤ) < (off s.succ).toInt

/-- What the tables are asked for. -/
structure Ok : Prop where
  st_lt : ∀ s, (st s).toNat < 832
  rk_le : ∀ s, (rk s).toInt ≤ 64
  mono : ∀ s : Fin 6, (off s.castSucc).toInt ≤ (off s.succ).toInt

/-- The activation of row `t` for rank `r`, were it in segment `s`. -/
def act (t : Fin 128) (s : Fin 6) (r : ℕ) : EReal :=
  if (r : ℤ) < (rk s).toInt then (∑ k, X t k * PA ((st s).toNat + r) k) * sc s else 0

/-- The activations. -/
def lora (t : Fin 128) (r : ℕ) : EReal := ∑ s, if Seg off t s then act st rk sc X PA t s r else 0

/-- What the adapters add. -/
def delta (t : Fin 128) (n : Fin 14336) : EReal :=
  ∑ s, if Seg off t s then ∑ r : Fin 64, act st rk sc X PA t s r.val * PB ((st s).toNat + r.val) n else 0

variable {st rk off sc X PA PB}

theorem Ok.le (h : Ok st rk off) : ∀ a b : Fin 7, a ≤ b → (off a).toInt ≤ (off b).toInt := by
  have m := Fin.monotone_iff_le_succ (f := fun i => (off i).toInt) |>.mpr h.mono
  exact fun a b hab => m hab

theorem Ok.unique (h : Ok st rk off) {t : Fin 128} {s s' : Fin 6} (hs : Seg off t s) (hs' : Seg off t s') : s = s' := by
  rcases lt_trichotomy s s' with hl | rfl | hl
  · have := h.le s.succ s'.castSucc (by rw [Fin.le_def]; simpa using hl)
    have := hs.2; have := hs'.1; omega
  · rfl
  · have := h.le s'.succ s.castSucc (by rw [Fin.le_def]; simpa using hl)
    have := hs'.2; have := hs.1; omega

/-- A sum over the segments that own the row. -/
theorem sum_seg {M : Type*} [AddCommMonoid M] (h : Ok st rk off) {t : Fin 128} {s : Fin 6} (hs : Seg off t s) (f : Fin 6 → M) :
    (∑ s, if Seg off t s then f s else 0) = f s := by
  rw [Finset.sum_eq_single s (fun s' _ hne => if_neg fun hs' => hne (h.unique hs' hs)) (fun hn => absurd (Finset.mem_univ s) hn), if_pos hs]

theorem sum_none {M : Type*} [AddCommMonoid M] {t : Fin 128} (hs : ∀ s, ¬ Seg off t s) (f : Fin 6 → M) :
    (∑ s, if Seg off t s then f s else 0) = 0 :=
  Finset.sum_eq_zero fun s _ => if_neg (hs s)

/-- Where segment `s`'s adapter begins in the gathered rows. -/
def c0 (st : Fin 6 → BitVec 32) (s : Fin 6) : ℕ := 72 * s.val + (st s).toNat % 8

section
variable {hb : Fin 128 → Fin 512 → EReal} {pick : Fin 512 → Fin 64 → EReal} {aB : Fin 512 → Fin 4096 → EReal} {bB : Fin 512 → Fin 14336 → EReal}
    (h : Ok st rk off)
    (hhb : ∀ t j s, Seg off t s → hb t j = if c0 st s ≤ j.val ∧ (j.val : ℤ) < (c0 st s : ℤ) + (rk s).toInt then (∑ k, X t k * aB j k) * sc s else 0)
    (hhb0 : ∀ t j, (∀ s, ¬ Seg off t s) → hb t j = 0)
    (haB : ∀ (s : Fin 6) (r : Fin 64) (j : Fin 512) (k), j.val = c0 st s + r.val → aB j k = PA ((st s).toNat + r.val) k)
    (hbB : ∀ (s : Fin 6) (r : Fin 64) (j : Fin 512) (n), j.val = c0 st s + r.val → bB j n = PB ((st s).toNat + r.val) n)
    (hpick : ∀ j r, pick j r = if ∃ s, j.val = c0 st s + r.val ∧ (r.val : ℤ) < (rk s).toInt then 1 else 0)

theorem c0_le (s : Fin 6) : c0 st s ≤ 367 := by unfold c0; omega

/-- Column `r` of segment `s`'s window. -/
def col (st : Fin 6 → BitVec 32) (s : Fin 6) (r : Fin 64) : Fin 512 := ⟨c0 st s + r.val, by have := c0_le (st := st) s; omega⟩

include hhb haB in
theorem hb_col {t : Fin 128} {s : Fin 6} (hs : Seg off t s) (r : Fin 64) : hb t (col st s r) = act st rk sc X PA t s r.val := by
  rw [hhb t _ s hs]
  unfold act
  have e : (c0 st s ≤ (col st s r).val ∧ ((col st s r).val : ℤ) < (c0 st s : ℤ) + (rk s).toInt) ↔ (r.val : ℤ) < (rk s).toInt := by
    show c0 st s ≤ c0 st s + r.val ∧ ((c0 st s + r.val : ℕ) : ℤ) < _ ↔ _
    push_cast; omega
  simp only [e]
  refine if_congr Iff.rfl ?_ rfl
  refine congrArg (· * sc s) (Finset.sum_congr rfl fun k _ => ?_)
  rw [haB s r _ k rfl]

include h hhb in
/-- Off the segment's window the masked activations vanish. -/
theorem hb_off {t : Fin 128} {s : Fin 6} (hs : Seg off t s) (j : Fin 512) (hj : ∀ r : Fin 64, j ≠ col st s r) : hb t j = 0 := by
  rw [hhb t _ s hs]
  refine if_neg fun hc => ?_
  have hr := h.rk_le s
  exact hj ⟨j.val - c0 st s, by omega⟩ (Fin.ext (by show j.val = c0 st s + (j.val - c0 st s); omega))

theorem col_inj (s : Fin 6) : Function.Injective (col st s) := fun a b e => by
  have : c0 st s + a.val = c0 st s + b.val := congrArg Fin.val e
  exact Fin.ext (by omega)

include h hhb in
/-- A sum over all gathered rows is the sum over the segment's. -/
theorem sum_col {t : Fin 128} {s : Fin 6} (hs : Seg off t s) (g : Fin 512 → EReal) :
    ∑ j, hb t j * g j = ∑ r, hb t (col st s r) * g (col st s r) := by
  symm
  refine Finset.sum_of_injOn (col st s) (fun a _ b _ e => col_inj s e) (fun _ _ => Finset.mem_coe.mpr (Finset.mem_univ _)) (fun j _ hj => ?_) (fun _ _ => rfl)
  rw [hb_off h hhb hs j (fun r e => hj ⟨r, Finset.mem_coe.mpr (Finset.mem_univ _), e.symm⟩), zero_mul]

include h hhb hhb0 haB hpick in
theorem sum_pick (t : Fin 128) (r : Fin 64) : ∑ j, hb t j * pick j r = lora st rk off sc X PA t r.val := by
  unfold lora
  by_cases hs : ∃ s, Seg off t s
  · obtain ⟨s, hs⟩ := hs
    rw [sum_seg h hs, sum_col h hhb hs, Finset.sum_eq_single r]
    · rw [hb_col hhb haB hs, hpick]
      by_cases hr : (r.val : ℤ) < (rk s).toInt
      · rw [if_pos ⟨s, rfl, hr⟩, mul_one]
      · unfold act; rw [if_neg hr, zero_mul]
    · intro q _ hq
      rw [hpick, if_neg, mul_zero]
      rintro ⟨s', e, -⟩
      have e : c0 st s + q.val = c0 st s' + r.val := e
      have hss : s = s' := by unfold c0 at e; exact Fin.ext (by omega)
      subst hss
      exact hq (Fin.ext (by omega))
    · exact fun hn => absurd (Finset.mem_univ r) hn
  · have hs : ∀ s, ¬ Seg off t s := fun s h => hs ⟨s, h⟩
    rw [sum_none hs]
    exact Finset.sum_eq_zero fun j _ => by rw [hhb0 t j hs, zero_mul]

include h hhb hhb0 haB hbB in
theorem sum_delta (t : Fin 128) (n : Fin 14336) : ∑ j, hb t j * bB j n = delta st rk off sc X PA PB t n := by
  unfold delta
  by_cases hs : ∃ s, Seg off t s
  · obtain ⟨s, hs⟩ := hs
    rw [sum_seg h hs, sum_col h hhb hs]
    refine Finset.sum_congr rfl fun r _ => ?_
    rw [hb_col hhb haB hs, hbB s r _ n rfl]
  · have hs : ∀ s, ¬ Seg off t s := fun s h => hs ⟨s, h⟩
    rw [sum_none hs]
    exact Finset.sum_eq_zero fun j _ => by rw [hhb0 t j hs, zero_mul]
end

end Cert.Lora

end
-- ==== Proof.KI.Mask.lean ====
/-
  The first grid point's masks at an entry, with exact arithmetic: which row scaling, whether the gathered row is live for
  the token row, and which rank a gathered row stands for; and from them the masked activations and what they add up to.
-/
module

public import proofs.«01_k».proof.Proof.KI.Segs
public import proofs.«01_k».proof.Proof.Lora
public import Idealize.ShloMosaic.Lib.MatmulPlain
public import Idealize.ShloMosaic.Lib.IdealHost
public import Idealize.ShloMosaic.Lib.ValueIdx
public import Idealize.ShloMosaic.Lib.WordCmp
public import Idealize.ShloMosaic.Lib.Affine
public import Idealize.ShloMosaic.Lib.Pipeline.Value

@[expose] public section

noncomputable section

namespace Cert.KernelIdeal.Hand

open Cert.KernelIdeal Cert.KernelIdeal.Gen Cert.Lora
open Idealize.ShloMosaic Idealize.ShloMosaic.TcCoe Idealize.ShloMosaic.ValueIdx
open Classical

theorem toInt_small {n : ℕ} (h : n < 2 ^ 31) : (BitVec.ofNat 32 n).toInt = n := by
  rw [BitVec.toInt_eq_toNat_cond, BitVec.toNat_ofNat, Nat.mod_eq_of_lt (by omega), if_pos (by omega)]

theorem rowI_apply (j : S128x512.Idx) : rowI j = BitVec.ofNat 32 (j 0).val := by unfold rowI iota; simp
theorem colI_apply (j : S128x512.Idx) : colI j = BitVec.ofNat 32 (j 1).val := by unfold colI iota; simp
theorem rselI_apply (j : S512x64.Idx) : rselI j = BitVec.ofNat 32 (j 1).val := by unfold rselI iota; simp
theorem cselI_apply (j : S512x64.Idx) : cselI j = BitVec.ofNat 32 (j 0).val := by unfold cselI iota; simp

theorem scal_select {α : Type} (c : BitVec 1) (a b : α) (p : Prop) [Decidable p] (h : c = 1#1 ↔ p) : Scalar.select c a b = if p then a else b := by
  unfold Scalar.select
  exact if_congr h rfl rfl

theorem c0W_toNat (s : Fin 6) {v : BitVec 32} (h : v.toNat < 832) : (c0W s.val v).toNat = 72 * s.val + v.toNat % 8 := by
  have hi : 0 ≤ v.toInt ∧ v.toInt < 832 := by rw [BitVec.toInt_eq_toNat_cond]; split <;> omega
  have e := mult_eq hi
  show (BitVec.ofNat 32 (72 * s.val) + (v - k0_mult1 v)).toNat = _
  have hs := s.isLt
  rw [BitVec.toNat_add, BitVec.toNat_sub, BitVec.toNat_ofNat, e]
  omega

theorem c0W_toInt (s : Fin 6) {v : BitVec 32} (h : v.toNat < 832) : (c0W s.val v).toInt = ((72 * s.val + v.toNat % 8 : ℕ) : ℤ) := by
  have hs := s.isLt
  rw [BitVec.toInt_eq_toNat_cond, c0W_toNat s h, if_pos (by omega)]

theorem scalStep_apply (prev : FVec Ideal S128x512 .f32) (lo hi : BitVec 32) (sc : Ideal .f32) (t : Fin 128) (j : Fin 512) :
    scalStep prev lo hi sc (ix2 t j) = if lo.toInt ≤ (t.val : ℤ) ∧ (t.val : ℤ) < hi.toInt then sc else prev (ix2 t j) := by
  refine scal_select _ _ _ _ ?_
  show IntOp.andi (IntOp.cmpi .sge (rowI (ix2 t j)) lo) (IntOp.cmpi .slt (rowI (ix2 t j)) hi) = 1#1 ↔ _
  rw [IntOp.andi_eq_one, IntOp.cmpi_sge, IntOp.cmpi_slt, rowI_apply, show ((ix2 t j : S128x512.Idx) 0).val = t.val from rfl, toInt_small (by omega)]

theorem liveStep_apply (prev : FVec Ideal S128x512 .f32) (lo hi c0 rk : BitVec 32) (h0 : c0.toNat ≤ 500) (hr : rk.toInt ≤ 64) (t : Fin 128) (j : Fin 512) :
    liveStep prev lo hi c0 rk (ix2 t j)
      = if (lo.toInt ≤ (t.val : ℤ) ∧ (t.val : ℤ) < hi.toInt) ∧ c0.toNat ≤ j.val ∧ (j.val : ℤ) < c0.toNat + rk.toInt then (1 : EReal) else prev (ix2 t j) := by
  refine (scal_select _ _ _ _ ?_).trans (if_congr Iff.rfl Ideal.ofBits_one_f32 rfl)
  show IntOp.andi (IntOp.andi (IntOp.andi (IntOp.cmpi .sge (rowI (ix2 t j)) lo) (IntOp.cmpi .slt (rowI (ix2 t j)) hi))
    (IntOp.cmpi .sge (colI (ix2 t j)) c0)) (IntOp.cmpi .slt (colI (ix2 t j)) (c0 + rk)) = 1#1 ↔ _
  have e0 : c0.toInt = c0.toNat := by rw [BitVec.toInt_eq_toNat_cond, if_pos (by omega)]
  have e1 : (c0 + rk).toInt = c0.toNat + rk.toInt := by
    rw [BitVec.toInt_add, e0]
    have := BitVec.le_toInt rk
    exact Int.bmod_eq_of_le (by omega) (by omega)
  rw [IntOp.andi_eq_one, IntOp.andi_eq_one, IntOp.andi_eq_one, IntOp.cmpi_sge, IntOp.cmpi_slt, IntOp.cmpi_sge, IntOp.cmpi_slt, rowI_apply, colI_apply,
    show ((ix2 t j : S128x512.Idx) 0).val = t.val from rfl, show ((ix2 t j : S128x512.Idx) 1).val = j.val from rfl, toInt_small (by omega), toInt_small (by omega), e0, e1]
  omega

theorem pickStep_apply (prev : FVec Ideal S512x64 .f32) (c0 rk : BitVec 32) (h0 : c0.toNat ≤ 500) (j : Fin 512) (r : Fin 64) :
    pickStep prev c0 rk (ix2 j r) = if j.val = c0.toNat + r.val ∧ (r.val : ℤ) < rk.toInt then (1 : EReal) else prev (ix2 j r) := by
  refine (scal_select _ _ _ _ ?_).trans (if_congr Iff.rfl Ideal.ofBits_one_f32 rfl)
  show IntOp.andi (IntOp.cmpi .eq (cselI (ix2 j r) - c0) (rselI (ix2 j r))) (IntOp.cmpi .slt (rselI (ix2 j r)) rk) = 1#1 ↔ _
  rw [IntOp.andi_eq_one, IntOp.cmpi_eq, IntOp.cmpi_slt, rselI_apply, cselI_apply,
    show ((ix2 j r : S512x64.Idx) 0).val = j.val from rfl, show ((ix2 j r : S512x64.Idx) 1).val = r.val from rfl, toInt_small (by omega)]
  refine and_congr_left' ⟨fun e => ?_, fun e => ?_⟩
  · have e := congrArg BitVec.toNat e
    rw [BitVec.toNat_sub, BitVec.toNat_ofNat, BitVec.toNat_ofNat] at e
    omega
  · apply BitVec.eq_of_toNat_eq
    rw [BitVec.toNat_sub, BitVec.toNat_ofNat, BitVec.toNat_ofNat]
    omega

section
variable (st rk : Fin 6 → BitVec 32) (off : Fin 7 → BitVec 32) (sc : Fin 6 → Ideal .f32) (h : Ok st rk off)

include h in
theorem scalN_seg {t : Fin 128} {s : Fin 6} (hs : Seg off t s) (j : Fin 512) : ∀ (n : ℕ) (hn : n ≤ 6), s.val < n →
    scalN off sc n hn (ix2 t j) = sc s
  | n + 1, hn, hl => by
    rw [scalN, scalStep_apply]
    by_cases e : s.val = n
    · obtain rfl : s = ⟨n, hn⟩ := Fin.ext e
      exact if_pos hs
    · rw [if_neg, scalN_seg hs j n (by omega) (by omega)]
      intro hs'
      exact e (congrArg Fin.val (h.unique hs (s' := ⟨n, by omega⟩) hs'))

include h in
theorem liveN_apply (t : Fin 128) (j : Fin 512) : ∀ (n : ℕ) (hn : n ≤ 6),
    liveN (F := Ideal) st rk off n hn (ix2 t j)
      = if ∃ s : Fin 6, s.val < n ∧ Seg off t s ∧ c0 st s ≤ j.val ∧ (j.val : ℤ) < (c0 st s : ℤ) + (rk s).toInt then (1 : EReal) else 0
  | 0, _ => by
    rw [if_neg (by rintro ⟨s, hs, -⟩; omega)]
    exact Ideal.ofBits_zero_f32
  | n + 1, hn => by
    have e : (c0W n (st ⟨n, by omega⟩)).toNat = c0 st ⟨n, by omega⟩ := c0W_toNat ⟨n, by omega⟩ (h.st_lt ⟨n, by omega⟩)
    have hle := c0_le (st := st) ⟨n, by omega⟩
    rw [liveN, liveStep_apply _ _ _ _ _ (by omega) (h.rk_le _), liveN_apply t j n (by omega), e]
    by_cases hc : Seg off t ⟨n, by omega⟩ ∧ c0 st ⟨n, by omega⟩ ≤ j.val ∧ (j.val : ℤ) < (c0 st ⟨n, by omega⟩ : ℤ) + (rk ⟨n, by omega⟩).toInt
    · exact (if_pos hc).trans (if_pos ⟨_, by show n < n + 1; omega, hc⟩).symm
    · refine (if_neg hc).trans ?_
      refine if_congr ⟨fun ⟨s, hl, hs⟩ => ⟨s, by omega, hs⟩, fun ⟨s, hl, hs⟩ => ⟨s, ?_, hs⟩⟩ rfl rfl
      by_contra hn'
      obtain rfl : s = ⟨n, hn⟩ := Fin.ext (by show s.val = n; omega)
      exact hc hs

include h in
theorem pickN_apply (j : Fin 512) (r : Fin 64) : ∀ (n : ℕ) (hn : n ≤ 6),
    pickN (F := Ideal) st rk n hn (ix2 j r)
      = if ∃ s : Fin 6, s.val < n ∧ j.val = c0 st s + r.val ∧ (r.val : ℤ) < (rk s).toInt then (1 : EReal) else 0
  | 0, _ => by
    rw [if_neg (by rintro ⟨s, hs, -⟩; omega)]
    exact Ideal.ofBits_zero_f32
  | n + 1, hn => by
    have e : (c0W n (st ⟨n, by omega⟩)).toNat = c0 st ⟨n, by omega⟩ := c0W_toNat ⟨n, by omega⟩ (h.st_lt ⟨n, by omega⟩)
    have hle := c0_le (st := st) ⟨n, by omega⟩
    rw [pickN, pickStep_apply _ _ _ (by omega), pickN_apply j r n (by omega), e]
    by_cases hc : j.val = c0 st ⟨n, by omega⟩ + r.val ∧ (r.val : ℤ) < (rk ⟨n, by omega⟩).toInt
    · exact (if_pos hc).trans (if_pos ⟨_, by show n < n + 1; omega, hc⟩).symm
    · refine (if_neg hc).trans ?_
      refine if_congr ⟨fun ⟨s, hl, hs⟩ => ⟨s, by omega, hs⟩, fun ⟨s, hl, hs⟩ => ⟨s, ?_, hs⟩⟩ rfl rfl
      by_contra hn'
      obtain rfl : s = ⟨n, hn⟩ := Fin.ext (by show s.val = n; omega)
      exact hc hs

theorem pick_full (j : Fin 512) (r : Fin 64) (h : Ok st rk off) : pickN (F := Ideal) st rk 6 le_rfl (ix2 j r)
      = if ∃ s : Fin 6, j.val = c0 st s + r.val ∧ (r.val : ℤ) < (rk s).toInt then (1 : EReal) else 0 := by
  rw [pickN_apply st rk off h]
  exact if_congr ⟨fun ⟨s, _, hs⟩ => ⟨s, hs⟩, fun ⟨s, hs⟩ => ⟨s, s.isLt, hs⟩⟩ rfl rfl

variable (x : Vec Ideal S128x4096 .bf16) (a : Vec Ideal S512x4096 .bf16)

theorem pay4_apply (t : Fin 128) (j : Fin 512) : k0_pay4 x a (ix2 t j) = ∑ k : Fin 4096, x (ix2 t k) * a (ix2 j k) := by
  unfold k0_pay4
  refine (Ideal.matmul_transposedRhs_apply none _ _ _ t j).trans ?_
  rw [show (constant (F := Ideal) S128x512 .f32 0x00000000#32) (ix2 t j) = 0 from Ideal.ofBits_zero_f32, zero_add]
  refine Finset.sum_congr rfl fun k _ => ?_
  exact congrArg (· * a (ix2 j k)) (congrFun (shapeCast_self _ _) _)

theorem hbV_raw (t : Fin 128) (j : Fin 512) : hbV st rk off sc x a (ix2 t j)
    = if (0 : EReal) < liveN (F := Ideal) st rk off 6 le_rfl (ix2 t j) then k0_pay4 x a (ix2 t j) * scalN off sc 6 le_rfl (ix2 t j) else (0 : EReal) := by
  refine (scal_select _ _ _ ((0 : EReal) < liveN (F := Ideal) st rk off 6 le_rfl (ix2 t j)) ?_).trans (if_congr Iff.rfl rfl Ideal.ofBits_zero_f32)
  show Ideal.cmp .ogt (liveN (F := Ideal) st rk off 6 le_rfl (ix2 t j)) (Ideal.ofBits .f32 0x00000000#32) = 1#1 ↔ _
  rw [Ideal.ofBits_zero_f32]
  show BitVec.ofBool (decide _) = 1#1 ↔ _
  by_cases hl : (0 : EReal) < liveN (F := Ideal) st rk off 6 le_rfl (ix2 t j)
  · exact iff_of_true (congrArg BitVec.ofBool (decide_eq_true hl)) hl
  · exact iff_of_false (fun e => absurd ((congrArg BitVec.ofBool (decide_eq_false hl)).symm.trans e) (by decide : ¬ BitVec.ofBool false = 1#1)) hl

include h in
theorem hbV_seg {t : Fin 128} {s : Fin 6} (hs : Seg off t s) (j : Fin 512) : hbV st rk off sc x a (ix2 t j)
    = if c0 st s ≤ j.val ∧ (j.val : ℤ) < (c0 st s : ℤ) + (rk s).toInt then (∑ k, x (ix2 t k) * a (ix2 j k)) * sc s else (0 : EReal) := by
  rw [hbV_raw, liveN_apply st rk off h, scalN_seg st rk off sc h hs j 6 le_rfl s.isLt, pay4_apply]
  by_cases hc : c0 st s ≤ j.val ∧ (j.val : ℤ) < (c0 st s : ℤ) + (rk s).toInt
  · rw [if_pos hc, if_pos (c := ∃ _, _) ⟨s, s.isLt, hs, hc⟩, if_pos zero_lt_one]
  · rw [if_neg hc, if_neg (c := ∃ _, _), if_neg (lt_irrefl _)]
    rintro ⟨s', -, hs', hc'⟩
    obtain rfl := h.unique hs hs'
    exact hc hc'

include h in
theorem hbV_none {t : Fin 128} (hs : ∀ s, ¬ Seg off t s) (j : Fin 512) : hbV st rk off sc x a (ix2 t j) = (0 : EReal) := by
  rw [hbV_raw, liveN_apply st rk off h, if_neg (c := ∃ _, _), if_neg (lt_irrefl _)]
  rintro ⟨s', -, hs', -⟩
  exact hs s' hs'

theorem pay33_apply (hb : FVec Ideal S128x512 .bf16) (pick : FVec Ideal S512x64 .f32) (t : Fin 128) (r : Fin 64) :
    k0_pay33 pick hb (ix2 t r) = ∑ j : Fin 512, hb (ix2 t j) * pick (ix2 j r) := by
  unfold k0_pay33
  refine (Ideal.matmul_plain_apply none _ _ _ t r).trans ?_
  rw [show (constant (F := Ideal) S128x64 .f32 0x00000000#32) (ix2 t r) = 0 from Ideal.ofBits_zero_f32, zero_add]
  rfl

end

end Cert.KernelIdeal.Hand

end
-- ==== Proof.Spec.lean ====
/-
  What both programs compute, as functions of the eleven arguments, entry by entry, in exact arithmetic.
-/
module

public import proofs.«01_k».proof.Proof.Deq
public import proofs.«01_k».proof.Proof.Lora
public import proofs.«01_k».proof.Proof.Pre
public import Idealize.ShloMosaic.Lib.ValueIdx

@[expose] public section

noncomputable section

namespace Cert.Spec

open Idealize.ShloMosaic Idealize.ShloMosaic.ValueIdx Cert.Deq Cert.Lora

/-- The arguments. -/
structure Args where
  a0 : FVec Ideal ⟨3, ![1, 128, 4096]⟩ .bf16
  a1 : IVec ⟨2, ![512, 14336]⟩ 32
  a2 : FVec Ideal ⟨2, ![32, 14336]⟩ .bf16
  a3 : FVec Ideal ⟨2, ![32, 14336]⟩ .bf16
  a4 : FVec Ideal ⟨2, ![900, 4096]⟩ .bf16
  a5 : FVec Ideal ⟨2, ![900, 14336]⟩ .bf16
  a6 : IVec ⟨1, ![11]⟩ 32
  a7 : IVec ⟨1, ![11]⟩ 32
  a8 : FVec Ideal ⟨1, ![11]⟩ .f32
  a9 : IVec ⟨1, ![7]⟩ 32
  a10 : IVec ⟨1, ![6]⟩ 32

namespace Args
variable (A : Args)

/-- Segment `s`'s entry of a table of the adapters. -/
def at_ {α : Type} (tab : Shape.Idx ⟨1, ![11]⟩ → α) (s : Fin 6) : α := tab (ix1 (⟨min (A.a10 (ix1 s)).toInt.toNat 10, by omega⟩ : Fin 11))
def st : Fin 6 → BitVec 32 := A.at_ A.a6
def rk : Fin 6 → BitVec 32 := A.at_ A.a7
def sc : Fin 6 → EReal := A.at_ A.a8
def off (i : Fin 7) : BitVec 32 := A.a9 (ix1 i)
def X (t : Fin 128) (k : Fin 4096) : EReal := A.a0 (ix3 (0 : Fin 1) t k)
def PA (i : ℕ) (k : Fin 4096) : EReal := if h : i < 900 then A.a4 (ix2 (⟨i, h⟩ : Fin 900) k) else 0
def PB (i : ℕ) (n : Fin 14336) : EReal := if h : i < 900 then A.a5 (ix2 (⟨i, h⟩ : Fin 900) n) else 0

/-- The weight of input channel `d` for output channel `n`. -/
def wt (d : Fin 4096) (n : Fin 14336) : EReal :=
  deq (A.a1 (ix2 (⟨d.val / 8, by omega⟩ : Fin 512) n)) (d.val % 8) (A.a3 (ix2 (⟨d.val / 128, by omega⟩ : Fin 32) n)) (A.a2 (ix2 (⟨d.val / 128, by omega⟩ : Fin 32) n))

/-- The two results. -/
def lh (t : Fin 128) (r : Fin 64) : EReal := lora A.st A.rk A.off A.sc A.X A.PA t r.val
def y (t : Fin 128) (n : Fin 14336) : EReal := (∑ d : Fin 4096, A.X t d * A.wt d n) + delta A.st A.rk A.off A.sc A.X A.PA A.PB t n

abbrev Good : Prop := Cert.Tables.Good A.a6 A.a7 A.a9 A.a10

variable {A} (h : A.Good)
include h

theorem ad_eq (s : Fin 6) : (A.a10 (ix1 s)).toInt = (A.a10 (ix1 s)).toNat ∧ (A.a10 (ix1 s)).toNat < 11 := by
  have h0 := h.ad_nonneg (ix1 s)
  have h1 := h.ad_lt (ix1 s)
  rw [BitVec.toInt_eq_toNat_cond] at *
  split at h0 <;> omega

theorem at_eq {α : Type} (tab : Shape.Idx ⟨1, ![11]⟩ → α) (s : Fin 6) : A.at_ tab s = tab (ix1 (⟨(A.a10 (ix1 s)).toNat, (ad_eq h s).2⟩ : Fin 11)) := by
  unfold at_
  have := ad_eq h s
  exact congrArg (fun i => tab (ix1 i)) (Fin.ext (by show min (A.a10 (ix1 s)).toInt.toNat 10 = (A.a10 (ix1 s)).toNat; omega))

theorem ok : Ok A.st A.rk A.off where
  st_lt s := by
    have h0 : 0 ≤ (A.a6 (ix1 (⟨min (A.a10 (ix1 s)).toInt.toNat 10, by omega⟩ : Fin 11))).toInt := h.st_nonneg s
    have h1 : (A.a6 (ix1 (⟨min (A.a10 (ix1 s)).toInt.toNat 10, by omega⟩ : Fin 11))).toInt < 832 := h.st_lt s
    show (A.a6 (ix1 (⟨min (A.a10 (ix1 s)).toInt.toNat 10, by omega⟩ : Fin 11))).toNat < 832
    rw [BitVec.toInt_eq_toNat_cond] at h0 h1
    split at h0 <;> omega
  rk_le s := h.rk_le s
  mono s := by
    have := h.off_mono (ix1 s)
    refine le_of_eq_of_le ?_ (this.trans_eq ?_)
    · refine congrArg BitVec.toInt (congrArg A.a9 (funext fun a => ?_))
      match a with
      | ⟨0, _⟩ => exact Fin.ext (by show s.val = 0 + s.val; omega)
    · refine congrArg BitVec.toInt (congrArg A.a9 (funext fun a => ?_))
      match a with
      | ⟨0, _⟩ => exact Fin.ext (by show 1 + s.val = s.val + 1; omega)

end Args

end Cert.Spec

end
-- ==== Proof.KI.Blocks.lean ====
/-
  The region's inputs at an entry: each window's block as the argument's entries, the words read off the tables as the
  segments' adapters' entries, and the gathered rows as rows of the pools.
-/
module

public import proofs.«01_k».proof.Proof.KI.Data
public import proofs.«01_k».proof.Proof.KI.Segs
public import proofs.«01_k».proof.Proof.KI.Sum
public import proofs.«01_k».proof.Proof.KI.Mask
public import proofs.«01_k».proof.Proof.Spec

@[expose] public section

noncomputable section

namespace Cert.KernelIdeal.Hand

open Cert.KernelIdeal Cert.KernelIdeal.Gen Cert.Spec
open Idealize.ShloMosaic Idealize.ShloMosaic.TcCoe Idealize.ShloMosaic.ValueIdx
open Idealize.ShloMosaic.Pipeline (Dat Cfg Window cellOf)

variable (m : (ℓ : Loc nD τ sig) → Buf (Elt Ideal) ℓ)

/-- The arguments on core `c`. -/
def args (c : Dev nD) : Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)

theorem lt_N (t : Fin (cfgM m).N) : t.val < 28 := t.isLt.trans_eq (show (cfgM m).N = 28 from N_0)

theorem idx1 (t : Fin (cfgM m).N) : ((cfgM m).win 1).index t = ![0, 0] := (by decide +kernel : ∀ t : Fin grid0.N, cc0_transform_1 (grid0.coords t) = ![0, 0]) t
theorem idx2 (t : Fin (cfgM m).N) : ((cfgM m).win 2).index t = ![0, t.val] := (by decide +kernel : ∀ t : Fin grid0.N, cc0_transform_2 (grid0.coords t) = ![0, t.val]) t
theorem idx3 (t : Fin (cfgM m).N) : ((cfgM m).win 3).index t = ![0, t.val] := (by decide +kernel : ∀ t : Fin grid0.N, cc0_transform_3 (grid0.coords t) = ![0, t.val]) t
theorem idx4 (t : Fin (cfgM m).N) : ((cfgM m).win 4).index t = ![0, t.val] := (by decide +kernel : ∀ t : Fin grid0.N, cc0_transform_4 (grid0.coords t) = ![0, t.val]) t
theorem idx5 (t : Fin (cfgM m).N) : ((cfgM m).win 5).index t = ![0, t.val] := (by decide +kernel : ∀ t : Fin grid0.N, cc0_transform_7 (grid0.coords t) = ![0, t.val]) t
theorem off47 (t : Fin (cfgM m).N) : k0_off47 (grid0.coords t) = ![0, 512 * t.val] := (by decide +kernel : ∀ t : Fin grid0.N, k0_off47 (grid0.coords t) = ![0, 512 * t.val]) t

/-- Output channel `n` of tile `t`. -/
def chan (t : Fin (cfgM m).N) (n : Fin 512) : Fin 14336 := ⟨512 * t.val + n.val, by have := lt_N m t; omega⟩

theorem V_x (c : Dev nD) (a : Fin 128) (k : Fin 4096) : (V m c main_v0 : Vec Ideal S128x4096 .bf16) (ix2 a k) = (args m c).X a k := by
  have e : V m c main_v0 = fun i => shapeCast S128x4096 (m ((c : Thread nD τ).loc main_arg0)) shapeCasts_S1x128x4096_S128x4096 i := by
    unfold V V0
    simp only [List.flatten_cons, List.flatten_nil, List.append_nil]
    rw [hostOps0, StableHlo.after_cons, StableHlo.after_nil, StableHlo.reshape_result]
    rfl
  rw [e]
  refine shapeCast_apply _ _ (ix2 a k) (ix3 (0 : Fin 1) a k) ?_
  rw [Shape.rowMajor_val_three, Shape.rowMajor_val_two]
  show (0 * 128 + a.val) * 4096 + k.val = a.val * 4096 + k.val
  omega

theorem iblk1_apply (c : Dev nD) (t : Fin (cfgM m).N) (a : Fin 128) (k : Fin 4096) :
    (iblk m c 1 t : Vec Ideal S128x4096 .bf16) (ix2 a k) = (args m c).X a k := by
  rw [← V_x m c a k]
  refine congrArg (V m c main_v0) (funext fun ax => Fin.ext ?_)
  match ax with
  | ⟨0, h0⟩ =>
    refine (Window.rect_emb_val ((cfgM m).win 1) t (ix2 a k) ⟨0, h0⟩).trans ?_
    rw [idx1]; show 0 * 128 + a.val = a.val; omega
  | ⟨1, h1⟩ =>
    refine (Window.rect_emb_val ((cfgM m).win 1) t (ix2 a k) ⟨1, h1⟩).trans ?_
    rw [idx1]; show 0 * 4096 + k.val = k.val; omega

theorem iblk2_apply (c : Dev nD) (t : Fin (cfgM m).N) (a : Fin 512) (n : Fin 512) :
    (iblk m c 2 t : Vec Ideal S512x512 .i32) (ix2 a n) = (args m c).a1 (ix2 a (chan m t n)) := by
  refine (congrArg (V m c main_arg1) (?_ : _ = (ix2 a (chan m t n) : S512x14336.Idx))).trans (congrFun (V_arg m c main_arg1 (by decide)) _)
  funext ax; apply Fin.ext
  match ax with
  | ⟨0, h0⟩ =>
    refine (Window.rect_emb_val ((cfgM m).win 2) t (ix2 a n) ⟨0, h0⟩).trans ?_
    rw [idx2]; show 0 * 512 + a.val = a.val; omega
  | ⟨1, h1⟩ =>
    refine (Window.rect_emb_val ((cfgM m).win 2) t (ix2 a n) ⟨1, h1⟩).trans ?_
    rw [idx2]; show t.val * 512 + n.val = 512 * t.val + n.val; omega

theorem iblk3_apply (c : Dev nD) (t : Fin (cfgM m).N) (a : Fin 32) (n : Fin 512) :
    (iblk m c 3 t : Vec Ideal S32x512 .bf16) (ix2 a n) = (args m c).a2 (ix2 a (chan m t n)) := by
  refine (congrArg (V m c main_arg2) (?_ : _ = (ix2 a (chan m t n) : S32x14336.Idx))).trans (congrFun (V_arg m c main_arg2 (by decide)) _)
  funext ax; apply Fin.ext
  match ax with
  | ⟨0, h0⟩ =>
    refine (Window.rect_emb_val ((cfgM m).win 3) t (ix2 a n) ⟨0, h0⟩).trans ?_
    rw [idx3]; show 0 * 32 + a.val = a.val; omega
  | ⟨1, h1⟩ =>
    refine (Window.rect_emb_val ((cfgM m).win 3) t (ix2 a n) ⟨1, h1⟩).trans ?_
    rw [idx3]; show t.val * 512 + n.val = 512 * t.val + n.val; omega

theorem iblk4_apply (c : Dev nD) (t : Fin (cfgM m).N) (a : Fin 32) (n : Fin 512) :
    (iblk m c 4 t : Vec Ideal S32x512 .bf16) (ix2 a n) = (args m c).a3 (ix2 a (chan m t n)) := by
  refine (congrArg (V m c main_arg3) (?_ : _ = (ix2 a (chan m t n) : S32x14336.Idx))).trans (congrFun (V_arg m c main_arg3 (by decide)) _)
  funext ax; apply Fin.ext
  match ax with
  | ⟨0, h0⟩ =>
    refine (Window.rect_emb_val ((cfgM m).win 4) t (ix2 a n) ⟨0, h0⟩).trans ?_
    rw [idx4]; show 0 * 32 + a.val = a.val; omega
  | ⟨1, h1⟩ =>
    refine (Window.rect_emb_val ((cfgM m).win 4) t (ix2 a n) ⟨1, h1⟩).trans ?_
    rw [idx4]; show t.val * 512 + n.val = 512 * t.val + n.val; omega

theorem wAt_eq (c : Dev nD) (t : Fin (cfgM m).N) (d : Fin 4096) (n : Fin 512) :
    wAt (iblk m c 2 t) (iblk m c 3 t) (iblk m c 4 t) d n = (args m c).wt d (chan m t n) := by
  unfold wAt Args.wt
  rw [iblk2_apply, iblk3_apply, iblk4_apply]

section
variable (H : TabOK m) (c : Dev nD) (hG : (args m c).Good)

theorem adW_eq (s : Fin 6) : adW c (V m c main_arg10 : BufOf (F := Ideal) c tbAd) s = (args m c).a10 (ix1 s) := by
  refine (congrArg (V m c main_arg10) (?_ : _ = (ix1 s : S6.Idx))).trans (congrFun (V_arg m c main_arg10 (by decide)) _)
  funext ax; apply Fin.ext
  match ax with
  | ⟨0, _⟩ => show s.val + 1 * 0 = s.val; omega

include hG
theorem stW_eq (hD) : stW c (V m c main_arg6 : BufOf (F := Ideal) c tbStart) (V m c main_arg10) hD = (args m c).st := by
  funext s
  refine Eq.trans ?_ (Args.at_eq hG (args m c).a6 s).symm
  refine (congrArg (V m c main_arg6) (?_ : _ = (ix1 ⟨((args m c).a10 (ix1 s)).toNat, (Args.ad_eq hG s).2⟩ : S11.Idx))).trans (congrFun (V_arg m c main_arg6 (by decide)) _)
  funext ax; apply Fin.ext
  match ax with
  | ⟨0, _⟩ => show (adW c (V m c main_arg10 : BufOf (F := Ideal) c tbAd) s).toNat + 1 * 0 = _; rw [adW_eq]; rfl

theorem rkW_eq (hD) : rkW c (V m c main_arg7 : BufOf (F := Ideal) c tbRank) (V m c main_arg10) hD = (args m c).rk := by
  funext s
  refine Eq.trans ?_ (Args.at_eq hG (args m c).a7 s).symm
  refine (congrArg (V m c main_arg7) (?_ : _ = (ix1 ⟨((args m c).a10 (ix1 s)).toNat, (Args.ad_eq hG s).2⟩ : S11.Idx))).trans (congrFun (V_arg m c main_arg7 (by decide)) _)
  funext ax; apply Fin.ext
  match ax with
  | ⟨0, _⟩ => show (adW c (V m c main_arg10 : BufOf (F := Ideal) c tbAd) s).toNat + 1 * 0 = _; rw [adW_eq]; rfl

omit hG in
theorem offW_eq : offW c (V m c main_arg9 : BufOf (F := Ideal) c tbOff) = (args m c).off := by
  funext s
  refine (congrArg (V m c main_arg9) (?_ : _ = (ix1 s : S7.Idx))).trans (congrFun (V_arg m c main_arg9 (by decide)) _)
  funext ax; apply Fin.ext
  match ax with
  | ⟨0, _⟩ => show s.val + 1 * 0 = s.val; omega

omit hG in
theorem iblk0_apply (t : Fin (cfgM m).N) (i : Fin 11) : (iblk m c 0 t : Vec Ideal S11 .f32) (ix1 i) = (args m c).a8 (ix1 i) := by
  refine (congrArg (V m c main_arg8) (?_ : _ = (ix1 i : S11.Idx))).trans (congrFun (V_arg m c main_arg8 (by decide)) _)
  funext ax; apply Fin.ext
  match ax with
  | ⟨0, h0⟩ =>
    refine (Window.rect_emb_val ((cfgM m).win 0) t (ix1 i) ⟨0, h0⟩).trans ?_
    rw [show ((cfgM m).win 0).index t = ![0] from (by decide +kernel : ∀ t : Fin grid0.N, cc0_transform_0 (grid0.coords t) = ![0]) t]
    show 0 * 11 + i.val = i.val; omega

theorem scW_eq (hD) (t : Fin (cfgM m).N) : scW c (V m c main_arg10 : BufOf (F := Ideal) c tbAd) hD (ms0 m t) ((hs0 m t).unread (iblk m c 0 t)) = (args m c).sc := by
  funext s
  refine Eq.trans ?_ (Args.at_eq hG (args m c).a8 s).symm
  refine ((hs0 m t).readAt_unread _ _ _).trans ?_
  refine Eq.trans (congrArg (iblk m c 0 t : Vec Ideal S11 .f32) (?_ : _ = (ix1 ⟨((args m c).a10 (ix1 s)).toNat, (Args.ad_eq hG s).2⟩ : S11.Idx))) (iblk0_apply m c t _)
  funext ax; apply Fin.ext
  match ax with
  | ⟨0, _⟩ => show (adW c (V m c main_arg10 : BufOf (F := Ideal) c tbAd) s).toNat + 1 * 0 = _; rw [adW_eq]; rfl
end

section
variable (w : Fin 6 → BitVec 32) (hw : ∀ s, 0 ≤ (w s).toInt ∧ (w s).toInt < 832)

theorem gathA_apply (p : S900x4096.Idx → EReal) (s : Fin 6) (r : Fin 64) (j : Fin 512) (k : Fin 4096) (hj : j.val = Cert.Lora.c0 w s + r.val) :
    gathA (F := Ideal) w hw p (ix2 j k) = if h : (w s).toNat + r.val < 900 then p (ix2 (⟨(w s).toNat + r.val, h⟩ : Fin 900) k) else 0 := by
  have hl := toNat_lt_of_range (n := 832) (hw s)
  rw [dif_pos (by omega)]
  unfold Cert.Lora.c0 at hj
  refine (gathA_window (F := Ideal) w hw p s (ix2 (⟨(w s).toNat % 8 + r.val, by omega⟩ : Fin 72) k) (ix2 j k) ?_ rfl).trans (congrArg p ?_)
  · show j.val = 72 * s.val + ((w s).toNat % 8 + r.val); omega
  · funext ax; apply Fin.ext
    match ax with
    | ⟨0, _⟩ =>
      show (k0_mult1 (w s)).toNat + 1 * ((w s).toNat % 8 + r.val) = (w s).toNat + r.val
      rw [mult_eq (hw s)]; omega
    | ⟨1, _⟩ => show 0 + 1 * k.val = k.val; omega

theorem gathB_apply (p : S900x14336.Idx → EReal) (s : Fin 6) (r : Fin 64) (j : Fin 512) (k : Fin 14336) (hj : j.val = Cert.Lora.c0 w s + r.val) :
    gathB (F := Ideal) w hw p (ix2 j k) = if h : (w s).toNat + r.val < 900 then p (ix2 (⟨(w s).toNat + r.val, h⟩ : Fin 900) k) else 0 := by
  have hl := toNat_lt_of_range (n := 832) (hw s)
  rw [dif_pos (by omega)]
  unfold Cert.Lora.c0 at hj
  refine (gathB_window (F := Ideal) w hw p s (ix2 (⟨(w s).toNat % 8 + r.val, by omega⟩ : Fin 72) k) (ix2 j k) ?_ rfl).trans (congrArg p ?_)
  · show j.val = 72 * s.val + ((w s).toNat % 8 + r.val); omega
  · funext ax; apply Fin.ext
    match ax with
    | ⟨0, _⟩ =>
      show (k0_mult1 (w s)).toNat + 1 * ((w s).toNat % 8 + r.val) = (w s).toNat + r.val
      rw [mult_eq (hw s)]; omega
    | ⟨1, _⟩ => show 0 + 1 * k.val = k.val; omega
end

end Cert.KernelIdeal.Hand

end
-- ==== Proof.KI.Vals.lean ====
/-
  What the body leaves, at an entry: the low-rank activations of the first point, and every point's tile.
-/
module

public import proofs.«01_k».proof.Proof.KI.Blocks
public import Idealize.ShloMosaic.Lib.VecWindow
public import Idealize.ShloMosaic.Lib.WholeRead
public import Idealize.ShloMosaic.Lib.Pipeline.Value

@[expose] public section

noncomputable section

namespace Cert.KernelIdeal.Hand

open Cert.KernelIdeal Cert.KernelIdeal.Gen Cert.Spec Cert.Lora
open Idealize.ShloMosaic Idealize.ShloMosaic.TcCoe Idealize.ShloMosaic.ValueIdx
open Idealize.ShloMosaic.Pipeline (Dat Cfg Window cellOf)

section
variable {F : FTy → Type} [FloatOps F]
variable (m : (ℓ : Loc nD τ sig) → Buf (Elt F) ℓ) (H : TabOK m) (c : Dev nD)

/-- The masked activations of the first point, and what it picks of them. -/
def hbOf : FVec F S128x512 .bf16 :=
  hbW c (V m c main_arg6) (V m c main_arg7) (V m c main_arg9) (V m c main_arg10) (H c).1 (H c).2 (ms0 m (t0 m)) (ms1 m (t0 m))
    ((hs0 m (t0 m)).unread (iblk m c 0 (t0 m))) ((hs1 m (t0 m)).unread (iblk m c 1 (t0 m))) (V m c main_arg4)
def pickOf : FVec F S512x64 .f32 :=
  pickN (stW c (V m c main_arg6 : BufOf (F := F) c tbStart) (V m c main_arg10) (H c).1) (rkW c (V m c main_arg7 : BufOf (F := F) c tbRank) (V m c main_arg10) (H c).1) 6 le_rfl

theorem r68_eq : firstRun.sl.r_68 c (V m c main_arg6) (V m c main_arg7) (V m c main_arg9) (V m c main_arg10) (H c).1 (H c).2 (grid0.coords (t0 m)) (hi0 m) (ms0 m (t0 m)) (ms1 m (t0 m))
    ((hs0 m (t0 m)).unread (iblk m c 0 (t0 m))) ((hs1 m (t0 m)).unread (iblk m c 1 (t0 m))) (V m c main_arg4) = hbOf m H c := by
  unfold firstRun.sl.r_68 k0_pay32
  exact shapeCast_self (hbOf m H c) _

theorem maskH_eq : maskH m H c = hbOf m H c :=
  Eq.trans (View.read_writes_full VY VY.junk _ _ _) (r68_eq m H c)

theorem loraH_eq : loraH m H c = k0_pay33 (pickOf m H c) (hbOf m H c) := by
  refine Eq.trans (View.read_writes_full VL VL.junk _ _ _) ?_
  rfl

/-- The gathered rows of the second pool that tile `t` uses. -/
def tileB (t : Fin (cfgM m).N) : Vec F S512x512 .bf16 :=
  View.readAt (Elt F) scB.view (Rect.unit (s := S512x14336) (k0_off47 (grid0.coords t)) S512x512.size (k0_off47_inb (grid0.coords t))).toLoadRect (keptB m H c)

theorem firstY_eq : firstY m H c = k0_pay1 (tileV c (ms1 m (t0 m)) (ms2 m (t0 m)) (ms3 m (t0 m)) (ms4 m (t0 m)) ((hs1 m (t0 m)).unread (iblk m c 1 (t0 m))) ((hs2 m (t0 m)).unread (iblk m c 2 (t0 m)))
    ((hs3 m (t0 m)).unread (iblk m c 3 (t0 m))) ((hs4 m (t0 m)).unread (iblk m c 4 (t0 m))) (tileB m H c (t0 m)) (hbOf m H c)) := by
  refine Eq.trans (View.read_writes_full VY VY.junk _ _ _) ?_
  refine congrArg k0_pay1 ((first_tile c _ _ _ _ _ _ _ _ _ _ _ _ _ _ _ _ _ _ _ _).trans ?_)
  refine congrArg (tileV c _ _ _ _ _ _ _ _ _) ?_
  exact (View.readCov_full _ _ _ _ _).trans (r68_eq m H c)

theorem laterY_eq (t : Fin (cfgM m).N) (ht : t.val ≠ 0) : tileY m H c t = k0_pay1 (tileV c (ms1 m t) (ms2 m t) (ms3 m t) (ms4 m t) ((hs1 m t).unread (iblk m c 1 t)) ((hs2 m t).unread (iblk m c 2 t))
    ((hs3 m t).unread (iblk m c 3 t)) ((hs4 m t).unread (iblk m c 4 t)) (tileB m H c t) (hbOf m H c)) := by
  rw [tileY, dif_neg ht]
  refine Eq.trans (View.read_writes_full VY VY.junk _ _ _) ?_
  refine congrArg k0_pay1 ((later_tile c _ _ _ _ _ _ _ _ _ _ _).trans ?_)
  refine congrArg (tileV c _ _ _ _ _ _ _ _ _) ?_
  refine (View.readAt_full _ _ _).trans ?_
  exact ((Memref.isWhole_whole cc0_scratch2).read_unread (maskH m H c)).trans (maskH_eq m H c)

theorem tileY_eq (t : Fin (cfgM m).N) : tileY m H c t = k0_pay1 (tileV c (ms1 m t) (ms2 m t) (ms3 m t) (ms4 m t) ((hs1 m t).unread (iblk m c 1 t)) ((hs2 m t).unread (iblk m c 2 t))
    ((hs3 m t).unread (iblk m c 3 t)) ((hs4 m t).unread (iblk m c 4 t)) (tileB m H c t) (hbOf m H c)) := by
  by_cases ht : t.val = 0
  · obtain rfl : t = t0 m := Fin.ext ht
    rw [tileY, dif_pos ht]
    exact firstY_eq m H c
  · exact laterY_eq m H c t ht
end

section
variable (m : (ℓ : Loc nD τ sig) → Buf (Elt Ideal) ℓ) (H : TabOK m) (c : Dev nD) (hG : (args m c).Good)
include hG

/-- The input's rows, and the gathered rows of the first pool. -/
def xOf : Vec Ideal S128x4096 .bf16 := iblk m c 1 (t0 m)
def rowsA' : Vec Ideal S512x4096 .bf16 :=
  View.readAt (Elt Ideal) scA.view (Rect.unit (s := S512x4096) ![0, 0] S512x4096.size inb_S512x4096_S512x4096_0_0).toLoadRect
    (bufA c (V m c main_arg6) (V m c main_arg10) (H c).1 (H c).2 (V m c main_arg4))

omit hG in
theorem rowsA'_eq (j : Fin 512) (k : Fin 4096) : rowsA' m H c (ix2 j k)
    = gathA (F := Ideal) (stW c (V m c main_arg6) (V m c main_arg10) (H c).1) (stW_ok c (V m c main_arg6) (V m c main_arg10) (H c).1 (H c).2) (V m c main_arg4) (ix2 j k) :=
  congrFun (View.readAt_full (Val := Elt Ideal) scA.view (bufA c (V m c main_arg6) (V m c main_arg10) (H c).1 (H c).2 (V m c main_arg4)) _) (ix2 j k)

theorem hbOf_eq : hbOf m H c = hbV (args m c).st (args m c).rk (args m c).off (args m c).sc (xOf m c) (rowsA' m H c) := by
  unfold hbOf
  show hbV (stW c (V m c main_arg6) (V m c main_arg10) (H c).1) (rkW c (V m c main_arg7) (V m c main_arg10) (H c).1) (offW c (V m c main_arg9))
    (scW c (V m c main_arg10) (H c).1 (ms0 m (t0 m)) ((hs0 m (t0 m)).unread (iblk m c 0 (t0 m)))) _ (rowsA' m H c) = _
  rw [stW_eq m c hG, rkW_eq m c hG, offW_eq m c, scW_eq m c hG]
  refine congrArg (fun x => hbV (args m c).st (args m c).rk (args m c).off (args m c).sc x (rowsA' m H c)) ?_
  exact (View.readAt_full _ _ _).trans ((hs1 m (t0 m)).read_unread _)

theorem pickOf_eq : pickOf m H c = pickN (args m c).st (args m c).rk 6 le_rfl := by
  unfold pickOf
  rw [stW_eq m c hG, rkW_eq m c hG]

theorem rowsA'_apply (s : Fin 6) (r : Fin 64) (j : Fin 512) (k : Fin 4096) (hj : j.val = c0 (args m c).st s + r.val) :
    rowsA' m H c (ix2 j k) = (args m c).PA (((args m c).st s).toNat + r.val) k := by
  rw [rowsA'_eq, gathA_apply _ _ _ s r j k (by rw [stW_eq m c hG]; exact hj)]
  unfold Args.PA
  rw [stW_eq m c hG, V_arg m c main_arg4 (by decide)]
  rfl

omit hG in
/-- The rows a tile uses are columns of all the gathered rows. -/
theorem tileB_apply (t : Fin (cfgM m).N) (j : Fin 512) (n : Fin 512) : tileB m H c t (ix2 j n)
    = gathB (F := Ideal) (stW c (V m c main_arg6) (V m c main_arg10) (H c).1) (stW_ok c (V m c main_arg6) (V m c main_arg10) (H c).1 (H c).2) (V m c main_arg5) (ix2 j (chan m t n)) := by
  refine congrArg (gathB (F := Ideal) _ _ (V m c main_arg5)) ?_
  have ho := off47 m t
  funext ax; apply Fin.ext
  match ax with
  | ⟨0, h⟩ =>
    show k0_off47 (grid0.coords t) ⟨0, h⟩ + 1 * j.val = j.val
    rw [ho]; show 0 + 1 * j.val = j.val; omega
  | ⟨1, h⟩ =>
    show k0_off47 (grid0.coords t) ⟨1, h⟩ + 1 * n.val = 512 * t.val + n.val
    rw [ho]; show 512 * t.val + 1 * n.val = 512 * t.val + n.val; omega

theorem rowsB_apply (s : Fin 6) (r : Fin 64) (j : Fin 512) (n : Fin 14336) (hj : j.val = c0 (args m c).st s + r.val) :
    gathB (F := Ideal) (stW c (V m c main_arg6) (V m c main_arg10) (H c).1) (stW_ok c (V m c main_arg6) (V m c main_arg10) (H c).1 (H c).2) (V m c main_arg5) (ix2 j n)
      = (args m c).PB (((args m c).st s).toNat + r.val) n := by
  rw [gathB_apply _ _ _ s r j _ (by rw [stW_eq m c hG]; exact hj)]
  unfold Args.PB
  rw [stW_eq m c hG, V_arg m c main_arg5 (by decide)]
  rfl

theorem hb_seg (t : Fin 128) (j : Fin 512) (s : Fin 6) (hs : Seg (args m c).off t s) : hbOf m H c (ix2 t j)
    = if c0 (args m c).st s ≤ j.val ∧ (j.val : ℤ) < (c0 (args m c).st s : ℤ) + ((args m c).rk s).toInt
      then (∑ k, (args m c).X t k * rowsA' m H c (ix2 j k)) * (args m c).sc s else 0 := by
  rw [hbOf_eq m H c hG, hbV_seg _ _ _ _ (Args.ok hG) _ _ hs j]
  refine if_congr Iff.rfl (congrArg (· * (args m c).sc s) (Finset.sum_congr rfl fun k _ => ?_)) rfl
  exact congrArg (· * rowsA' m H c (ix2 j k)) (iblk1_apply m c (t0 m) t k)

theorem hb_none (t : Fin 128) (j : Fin 512) (hs : ∀ s, ¬ Seg (args m c).off t s) : hbOf m H c (ix2 t j) = 0 := by
  rw [hbOf_eq m H c hG, hbV_none _ _ _ _ (Args.ok hG) _ _ hs j]

theorem loraH_apply (t : Fin 128) (r : Fin 64) : loraH m H c (ix2 t r) = (args m c).lh t r := by
  rw [loraH_eq, pay33_apply]
  refine sum_pick (hb := fun t j => hbOf m H c (ix2 t j)) (pick := fun j r => pickOf m H c (ix2 j r)) (aB := fun j k => rowsA' m H c (ix2 j k)) (Args.ok hG)
    (hb_seg m H c hG) (hb_none m H c hG) (rowsA'_apply m H c hG) (fun j r => ?_) t r
  rw [pickOf_eq m H c hG]
  convert pick_full _ _ _ j r (Args.ok hG)

theorem tileY_apply (t : Fin (cfgM m).N) (a : Fin 128) (n : Fin 512) : tileY m H c t (ix2 a n) = (args m c).y a (chan m t n) := by
  rw [tileY_eq]
  refine (tileV_apply c _ (hs1 m t) _ (hs2 m t) _ (hs3 m t) _ (hs4 m t) (iblk m c 1 t) (iblk m c 2 t) (iblk m c 3 t) (iblk m c 4 t) (tileB m H c t) (hbOf m H c) a n).trans ?_
  unfold Args.y
  refine congrArg₂ (· + ·) (Finset.sum_congr rfl fun d _ => ?_) ?_
  · rw [iblk1_apply, wAt_eq]
  · refine (Finset.sum_congr rfl fun j _ => congrArg (hbOf m H c (ix2 a j) * ·) (tileB_apply m H c t j n)).trans ?_
    exact sum_delta (hb := fun t j => hbOf m H c (ix2 t j)) (aB := fun j k => rowsA' m H c (ix2 j k))
      (bB := fun j n => gathB (F := Ideal) (stW c (V m c main_arg6) (V m c main_arg10) (H c).1) (stW_ok c (V m c main_arg6) (V m c main_arg10) (H c).1 (H c).2) (V m c main_arg5) (ix2 j n))
      (Args.ok hG) (hb_seg m H c hG) (hb_none m H c hG) (rowsA'_apply m H c hG) (rowsB_apply m H c hG) a (chan m t n)
end

end Cert.KernelIdeal.Hand

end
-- ==== Proof.KI.Result.lean ====
/-
  The kernel's run with its two results as functions of the arguments.
-/
module

public import proofs.«01_k».proof.Proof.KI.Vals
public import proofs.«01_k».proof.Proof.KI.Frame
public import Idealize.ShloMosaic.Lib.Pipeline.ValueKit.Geometry

@[expose] public section

noncomputable section

namespace Cert.KernelIdeal.Hand

open Cert.KernelIdeal Cert.KernelIdeal.Gen Cert.Spec Cert.Lora
open Idealize.ShloMosaic Idealize.ShloMosaic.TcCoe Idealize.ShloMosaic.ValueIdx
open Idealize.ShloMosaic.Pipeline (Dat Cfg Window cellOf)

variable (m : (ℓ : Loc nD τ sig) → Buf (Elt Ideal) ℓ) (H : TabOK m) (c : Dev nD) (hG : (args m c).Good)

theorem flush5 (t : Fin (cfgM m).N) : ((cfgM m).win 5).flush t = true :=
  (by decide +kernel : ∀ t : Fin grid0.N, Window.flushOf grid0 true cc0_transform_7 t = true) t

theorem covers5 : ((cfgM m).win 5).Covers := by
  refine ⟨(by decide : ∀ a : Fin 2, 0 < (![128, 512] : Fin 2 → ℕ) a), fun β => ?_⟩
  have hr : 1 < 2 := by decide
  have h1 : (β ⟨1, hr⟩).val < 28 := (β ⟨1, hr⟩).isLt.trans_eq (show (14336 + 512 - 1) / 512 = 28 by decide)
  refine ⟨⟨(β ⟨1, hr⟩).val, h1.trans_eq (show 28 = (cfgM m).N from N_0.symm)⟩, flush5 m _, fun a => ?_⟩
  rw [idx5]
  match a with
  | ⟨0, h⟩ =>
    have h0 : (β ⟨0, h⟩).val < 1 := (β ⟨0, h⟩).isLt.trans_eq (show (128 + 128 - 1) / 128 = 1 by decide)
    exact ⟨by show 0 = (β ⟨0, h⟩).val; omega, Or.inl rfl⟩
  | ⟨1, h⟩ => exact ⟨rfl, Or.inl rfl⟩

theorem whole6 : ((cfgM m).win 6).WholeAt (⟨27, lt_of_lt_of_eq (by decide : 27 < 28) N_0.symm⟩ : Fin (cfgM m).N) := by
  refine ⟨by rw [flush6]; rfl, fun t ht => Fin.ext ?_, fun a => ?_⟩
  · rw [flush6] at ht; exact of_decide_eq_true ht
  · match a with
    | ⟨0, h⟩ => exact ⟨rfl, rfl⟩
    | ⟨1, h⟩ => exact ⟨rfl, rfl⟩

include hG

theorem arr5 : (dats m H 0 c).arrAt 5 (cfgM m).N = fun j : S128x14336.Idx => (args m c).y (j 0) (j 1) := by
  refine (dats m H 0 c).arrAt_eq_of_covers 5 _ (covers5 m) (fun t _ (y : S128x512.Idx) => ?_)
  refine ((congrArg (tileY m H c t) (eq_ix2 (n0 := 128) (n1 := 512) y)).trans (tileY_apply m H c hG t (y 0) (y 1))).trans ?_
  refine congrArg₂ (args m c).y (Fin.ext ?_) (Fin.ext ?_)
  · refine Eq.symm ((Window.rect_emb_val ((cfgM m).win 5) t y ⟨0, (by decide : 0 < 2)⟩).trans ?_)
    rw [idx5]; show 0 * 128 + (y 0).val = (y 0).val; omega
  · refine Eq.symm ((Window.rect_emb_val ((cfgM m).win 5) t y ⟨1, (by decide : 1 < 2)⟩).trans ?_)
    rw [idx5]; show t.val * 512 + (y 1).val = 512 * t.val + (y 1).val; omega

theorem arr6 : (dats m H 0 c).arrAt 6 (cfgM m).N = fun j : S128x64.Idx => (args m c).lh (j 0) (j 1) := by
  refine (dats m H 0 c).arrAt_eq_of_after_last 6 _ (whole6 m) _ (fun (j : S128x64.Idx) => ?_)
  exact (congrArg (loraH m H c) (eq_ix2 (n0 := 128) (n1 := 64) j)).trans (loraH_apply m H c hG (j 0) (j 1))

omit hG in
theorem tail_v2 : Pipeline.afterTail pcfgs (fun _ => adm m) (dats m H) (0 : Fin 1) (V0 m) [hostOps1] c main_v2
    = shapeCast S1x128x14336 ((dats m H 0 c).arrAt 5 (cfgM m).N : Vec Ideal S128x14336 .bf16) shapeCasts_S128x14336_S1x128x14336 := by
  unfold Pipeline.afterTail
  simp only [List.flatten_cons, List.flatten_nil, List.append_nil]
  rw [hostOps1, StableHlo.after_cons, StableHlo.after_nil, StableHlo.reshape_result]
  refine congrArg (fun x => shapeCast S1x128x14336 x shapeCasts_S128x14336_S1x128x14336) ?_
  exact Pipeline.withArrays_arr spec0 (by decide) c (V0 m c) (fun w => (dats m H 0 c).arrAt w (cfgM m).N) 5

omit hG in
include H in
/-- What the run leaves in the result buffers, the arguments unchanged. -/
theorem run_values (ρ : Dev nD → PrngReg) (hG : ∀ c, (args m c).Good) : θ_run defs (onTc (τ := τ) main) ⟨m, fun _ => 0, ρ⟩ (fun r => ∀ c : Dev nD,
    r.2.mem ((c : Thread nD τ).loc main_v2) = shapeCast S1x128x14336 (fun j : S128x14336.Idx => (args m c).y (j 0) (j 1)) shapeCasts_S128x14336_S1x128x14336
    ∧ r.2.mem ((c : Thread nD τ).loc main_v1_1) = (fun j : S128x64.Idx => (args m c).lh (j 0) (j 1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)) :=
  (θ_run defs _ _).mono (fun _ h c =>
    ⟨((h.1 c).2 main_v2 (show main_v2 ∈ Pipeline.restRefs sig spec0 from Pipeline.mem_restRefs_of main_v2 (by decide) (by decide))).trans ((tail_v2 m H c).trans
        (congrArg (fun x : Vec Ideal S128x14336 .bf16 => shapeCast S1x128x14336 x shapeCasts_S128x14336_S1x128x14336) (arr5 m H c (hG c)))),
      ((h.1 c).1 6).trans (arr6 m H c (hG c)), args_kept m H h.1 c⟩) (run_main m ρ H)

end Cert.KernelIdeal.Hand

end
-- ==== Proof.RefLem.lean ====
/-
  The reference's host operations, each read at an index: gathers by adapter number and by pool row, the two stacked
  products, and the reductions over the segments.
-/
module

public import proofs.«01_k».proof.ReferenceIdeal
public import proofs.«01_k».proof.Proof.Pre
public import Idealize.ShloMosaic.Lib.StackMember
public import Idealize.ShloMosaic.Lib.IdealHost
public import Idealize.ShloMosaic.Lib.Pipeline.Value
public import Idealize.ShloMosaic.Lib.ValueLayout
import Idealize.ShloMosaic.Lib.Pointwise.Reduce

@[expose] public section

noncomputable section

namespace Cert.RefLem

open Idealize.ShloMosaic
open Idealize.ShloMosaic.StackMember

theorem gather_pool {α : Type} {N C w : Nat} (hN : 0 < N) (wf : GatherDims.WF ⟨2, ![N, C]⟩ ⟨3, ![6, 64, 1]⟩ ⟨3, ![6, 64, C]⟩ [2] [0] [] [0] [] 2 ![1, C])
    (x : (⟨2, ![N, C]⟩ : Shape).Idx → α) (idx : IVec ⟨3, ![6, 64, 1]⟩ w) (s : Fin 6) (r : Fin 64) (k : Fin C) :
    Host.gather (⟨[2], [0], [], [], [0], 2, ![1, C], wf⟩ : GatherDims _ _ _) x idx (ValueIdx.ix3 s r k)
      = x (ValueIdx.ix2 (⟨min (idx (ValueIdx.ix3 s r (0 : Fin 1))).toInt.toNat (N - 1), by omega⟩ : Fin N) k) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (show (0 : Fin 2) ∈ [0] from List.mem_singleton.mpr rfl)).trans ?_
    refine congrArg (fun i => min (idx i).toInt.toNat (N - 1)) ?_
    funext b; refine Fin.ext ?_
    match b with
    | ⟨0, _⟩ => rfl
    | ⟨1, _⟩ => rfl
    | ⟨2, _⟩ => rfl
  | ⟨1, _⟩ =>
    refine (congrArg (fun z => z + 0 + k.val) (?_ : GatherDims.start _ _ idx _ = 0)).trans (by show 0 + 0 + k.val = k.val; omega)
    unfold GatherDims.start
    exact dif_neg (show (1 : Fin 2) ∉ [0] by simp)

theorem dot_act {φ₁ φ₂ : FTy} {K : Nat} (wf : DotDims.WF ⟨3, ![6, 64, K]⟩ ⟨2, ![128, K]⟩ ⟨3, ![6, 64, 128]⟩ [2] [1] [0, 1] [0] [] [])
    (A : FVec Ideal ⟨3, ![6, 64, K]⟩ φ₁) (B : FVec Ideal ⟨2, ![128, K]⟩ φ₂) (s : Fin 6) (r : Fin 64) (t : Fin 128) :
    Host.dotGeneral (⟨[2], [1], [0, 1], [0], [], [], wf⟩ : DotDims _ _ _) none A B (ValueIdx.ix3 s r t)
      = ∑ c : Fin K, A (ValueIdx.ix3 s r c) * B (ValueIdx.ix2 t c) := by
  show FloatOps.dotGeneral _ none _ A B (ValueIdx.ix3 s r t) = _
  rw [Ideal.dotGeneral_apply, ← Equiv.sum_comp (ValueIdx.contrEquiv1 (⟨[2], [1], [0, 1], [0], [], [], wf⟩ : DotDims _ _ _) K rfl rfl).symm]
  refine Finset.sum_congr rfl fun c _ => ?_
  have c3 := ValueIdx.contrEquiv1_symm_val (⟨[2], [1], [0, 1], [0], [], [], wf⟩ : DotDims ⟨3, ![6, 64, K]⟩ ⟨2, ![128, K]⟩ ⟨3, ![6, 64, 128]⟩) K rfl rfl c
  refine congrArg₂ (fun i j => A i * B j) ?_ ?_
  · funext ax; apply Fin.ext
    match ax with
    | ⟨0, _⟩ => simp [DotDims.lhsIdx]; rfl
    | ⟨1, _⟩ => simp [DotDims.lhsIdx]; rfl
    | ⟨2, _⟩ => simp [DotDims.lhsIdx]; exact c3
  · funext ax; apply Fin.ext
    match ax with
    | ⟨0, _⟩ => simp [DotDims.rhsIdx]; rfl
    | ⟨1, _⟩ => simp [DotDims.rhsIdx]; exact c3

theorem dot_out {φ₁ φ₂ : FTy} {K : Nat} (wf : DotDims.WF ⟨3, ![6, 64, K]⟩ ⟨2, ![128, 64]⟩ ⟨3, ![6, K, 128]⟩ [1] [1] [0, 2] [0] [] [])
    (A : FVec Ideal ⟨3, ![6, 64, K]⟩ φ₁) (B : FVec Ideal ⟨2, ![128, 64]⟩ φ₂) (s : Fin 6) (n : Fin K) (t : Fin 128) :
    Host.dotGeneral (⟨[1], [1], [0, 2], [0], [], [], wf⟩ : DotDims _ _ _) none A B (ValueIdx.ix3 s n t)
      = ∑ c : Fin 64, A (ValueIdx.ix3 s c n) * B (ValueIdx.ix2 t c) := by
  show FloatOps.dotGeneral _ none _ A B (ValueIdx.ix3 s n t) = _
  rw [Ideal.dotGeneral_apply, ← Equiv.sum_comp (ValueIdx.contrEquiv1 (⟨[1], [1], [0, 2], [0], [], [], wf⟩ : DotDims _ _ _) 64 rfl rfl).symm]
  refine Finset.sum_congr rfl fun c _ => ?_
  have c3 := ValueIdx.contrEquiv1_symm_val (⟨[1], [1], [0, 2], [0], [], [], wf⟩ : DotDims ⟨3, ![6, 64, K]⟩ ⟨2, ![128, 64]⟩ ⟨3, ![6, K, 128]⟩) 64 rfl rfl c
  refine congrArg₂ (fun i j => A i * B j) ?_ ?_
  · funext ax; apply Fin.ext
    match ax with
    | ⟨0, _⟩ => simp [DotDims.lhsIdx]; rfl
    | ⟨1, _⟩ => simp [DotDims.lhsIdx]; exact c3
    | ⟨2, _⟩ => simp [DotDims.lhsIdx]; rfl
  · funext ax; apply Fin.ext
    match ax with
    | ⟨0, _⟩ => simp [DotDims.rhsIdx]; rfl
    | ⟨1, _⟩ => simp [DotDims.rhsIdx]; exact c3

/-- A float reduction over the leading axis is the sum along it. -/
theorem reduceAdd3 {a b : Nat} {u : Shape} {φ : FTy} (x : FVec Ideal ⟨3, ![6, a, b]⟩ φ) (init : u.Idx → Ideal φ)
    (h : (⟨3, ![6, a, b]⟩ : Shape).ReducesTo [0] ⟨2, ![a, b]⟩) (hu : 0 < u.numel) (h0 : init (Shape.Idx.first hu) = (0 : EReal)) (i : Fin a) (j : Fin b) :
    Host.reduceAdd x init h hu (ValueIdx.ix2 i j) = ∑ s : Fin 6, x (ValueIdx.ix3 s i j) := by
  rw [ValueIdx.hostReduceAdd_apply, h0, Ideal.hostReduceAdd_r3_a0, zero_add]
  rfl

theorem reduceAdd2 {a : Nat} {u : Shape} {φ : FTy} (x : FVec Ideal ⟨2, ![6, a]⟩ φ) (init : u.Idx → Ideal φ)
    (h : (⟨2, ![6, a]⟩ : Shape).ReducesTo [0] ⟨1, ![a]⟩) (hu : 0 < u.numel) (h0 : init (Shape.Idx.first hu) = (0 : EReal)) (i : Fin a) :
    Host.reduceAdd x init h hu (ValueIdx.ix1 i) = ∑ s : Fin 6, x (ValueIdx.ix2 s i) := by
  rw [ValueIdx.hostReduceAdd_apply, h0, Ideal.hostReduceAdd_r2_a0, zero_add]
  rfl

/-- So is an integer one. -/
theorem reduceI2 {a : Nat} {u : Shape} (x : IVec ⟨2, ![6, a]⟩ 32) (init : u.Idx → BitVec 32)
    (h : (⟨2, ![6, a]⟩ : Shape).ReducesTo [0] ⟨1, ![a]⟩) (hu : 0 < u.numel) (h0 : init (Shape.Idx.first hu) = 0#32) (i : Fin a) :
    Host.reduce IntOp.addi x init h hu (ValueIdx.ix1 i) = (Finset.univ : Finset (Fin 6)).fold IntOp.addi 0#32 (fun s => x (ValueIdx.ix2 s i)) := by
  rw [Host.reduce_eq_fold, h0, Shape.ReducesTo.fold_fiber_r2_a0]
  rfl

theorem fold_zero {f : Fin 6 → BitVec 32} (S : Finset (Fin 6)) (h : ∀ s ∈ S, f s = 0#32) : S.fold IntOp.addi 0#32 f = 0#32 := by
  induction S using Finset.induction_on with
  | empty => rfl
  | insert a S ha ih =>
    rw [Finset.fold_insert ha, h a (Finset.mem_insert_self a S), ih fun s hs => h s (Finset.mem_insert_of_mem hs)]
    rfl

theorem fold_single {f : Fin 6 → BitVec 32} (s : Fin 6) (h : ∀ s', s' ≠ s → f s' = 0#32) : (Finset.univ : Finset (Fin 6)).fold IntOp.addi 0#32 f = f s := by
  rw [← Finset.insert_erase (Finset.mem_univ s), Finset.fold_insert (Finset.notMem_erase s _),
    fold_zero _ fun s' hs' => h s' (Finset.ne_of_mem_erase hs')]
  exact BitVec.add_zero _

/-- An array repeated along a new axis, at an index. -/
theorem bcast_lead {α : Type} {n m : Nat} (h₁ : (⟨1, ![n]⟩ : Shape).BroadcastsInDim ⟨2, ![n, 1]⟩ ![0])
    (h₂ : (⟨2, ![n, 1]⟩ : Shape).BroadcastsInDim ⟨2, ![n, m]⟩ ![0, 1]) (v : (⟨1, ![n]⟩ : Shape).Idx → α) (p : Fin n) (q : Fin m) :
    broadcastInDim ⟨2, ![n, m]⟩ ![0, 1] h₂ (broadcastInDim ⟨2, ![n, 1]⟩ ![0] h₁ v) (ValueIdx.ix2 p q) = v (ValueIdx.ix1 p) := by
  refine congrArg v (funext fun a => Fin.ext ?_)
  match a with
  | ⟨0, _⟩ =>
    have := p.isLt
    simp only [broadcastInDim]
    split
    · rename_i e; change n = 1 at e; show (0 : ℕ) = p.val; omega
    · split
      · rename_i e; change n = 1 at e; show (0 : ℕ) = p.val; omega
      · rfl

theorem bcast_trail {α : Type} {n m : Nat} (h₁ : (⟨1, ![m]⟩ : Shape).BroadcastsInDim ⟨2, ![1, m]⟩ ![1])
    (h₂ : (⟨2, ![1, m]⟩ : Shape).BroadcastsInDim ⟨2, ![n, m]⟩ ![0, 1]) (v : (⟨1, ![m]⟩ : Shape).Idx → α) (p : Fin n) (q : Fin m) :
    broadcastInDim ⟨2, ![n, m]⟩ ![0, 1] h₂ (broadcastInDim ⟨2, ![1, m]⟩ ![1] h₁ v) (ValueIdx.ix2 p q) = v (ValueIdx.ix1 q) := by
  refine congrArg v (funext fun a => Fin.ext ?_)
  match a with
  | ⟨0, _⟩ =>
    have := q.isLt
    simp only [broadcastInDim]
    split
    · rename_i e; change m = 1 at e; show (0 : ℕ) = q.val; omega
    · split
      · rename_i e; change m = 1 at e; show (0 : ℕ) = q.val; omega
      · rfl

end Cert.RefLem

end
-- ==== Proof.Ref.lean ====
/-
  The reference's two results, entry by entry: its composed terms, taken apart into the pieces they are made of, and each
  piece read at an index.
-/
module

public import proofs.«01_k».proof.Proof.RefLem
public import proofs.«01_k».proof.Proof.Spec
public import proofs.«01_k».proof.Proof.Gen.ReferenceIdeal.Run
public import Idealize.ShloMosaic.Lib.Affine

@[expose] public section

noncomputable section

namespace Cert.Ref

open Cert.ReferenceIdeal Cert.ReferenceIdeal.Gen Cert.Spec Cert.Lora Cert.Deq Cert.RefLem
open Idealize.ShloMosaic Idealize.ShloMosaic.TcCoe Idealize.ShloMosaic.StableHlo
open Classical

variable (A : Args)

/-! ## The pieces -/

def ads : IVec S6x1 32 := broadcastInDim S6x1 ![0] bcast_S6_S6x1_0 A.a10
def ids : IVec S64 32 := iotaInDim S64 32 0
def toks : IVec S128 32 := iotaInDim S128 32 0
def xs : FVec Ideal S128x4096 .bf16 := shapeCast S128x4096 A.a0 shapeCasts_S1x128x4096_S128x4096
def spread (v : FVec Ideal S32x14336 .bf16) : FVec Ideal S512x14336 .bf16 :=
  shapeCast S512x14336 (broadcastInDim S32x16x14336 ![0, 2] bcast_S32x14336_S32x16x14336_0_2 v) shapeCasts_S32x16x14336_S512x14336

/-- The pool row of each segment and rank. -/
def rows : IVec S6x64 32 :=
  addi (broadcastInDim S6x64 ![0, 1] bcast_S6x1_S6x64_0_1 (broadcastInDim S6x1 ![0] bcast_S6_S6x1_0 (Host.gather gather_S11_S6x1_S6_n_0_n_n_0_1_1 A.a6 (ads A))))
    (broadcastInDim S6x64 ![0, 1] bcast_S1x64_S6x64_0_1 (broadcastInDim S1x64 ![1] bcast_S64_S1x64_1 ids))

/-- Which segment owns which token row. -/
def mine : IVec S6x128 1 :=
  andi (cmpi .sge (broadcastInDim S6x128 ![0, 1] bcast_S1x128_S6x128_0_1 (broadcastInDim S1x128 ![1] bcast_S128_S1x128_1 toks))
      (broadcastInDim S6x128 ![0, 1] bcast_S6x1_S6x128_0_1 (broadcastInDim S6x1 ![0] bcast_S6_S6x1_0 (extractStridedSlice S6 ![0] A.a9 slices_S7_S6_0))))
    (cmpi .slt (broadcastInDim S6x128 ![0, 1] bcast_S1x128_S6x128_0_1 (broadcastInDim S1x128 ![1] bcast_S128_S1x128_1 toks))
      (broadcastInDim S6x128 ![0, 1] bcast_S6x1_S6x128_0_1 (broadcastInDim S6x1 ![0] bcast_S6_S6x1_0 (extractStridedSlice S6 ![1] A.a9 slices_S7_S6_1))))

/-- Each token row's rank and scaling. -/
def rankOf : IVec S128 32 :=
  Host.reduce IntOp.addi (select (mine A) (broadcastInDim S6x128 ![0, 1] bcast_S6x1_S6x128_0_1 (broadcastInDim S6x1 ![0] bcast_S6_S6x1_0 (Host.gather gather_S11_S6x1_S6_n_0_n_n_0_1_1 A.a7 (ads A))))
    (broadcastInDim S6x128 ![] bcast_S_S6x128 (id (constantI S_ 32 0#32)))) (constantI S_ 32 0#32) reducesTo_S6x128_S128_d0 h_S_
def scaleOf : FVec Ideal S128 .f32 :=
  Host.reduceAdd (select (mine A) (broadcastInDim S6x128 ![0, 1] bcast_S6x1_S6x128_0_1 (broadcastInDim S6x1 ![0] bcast_S6_S6x1_0 (Host.gather gather_S11_S6x1_S6_n_0_n_n_0_1_1 A.a8 (ads A))))
    (broadcastInDim S6x128 ![] bcast_S_S6x128 (id (constant S_ .f32 0x00000000#32)))) (constant S_ .f32 0x00000000#32) reducesTo_S6x128_S128_d0 h_S_

/-- Each token row's products with its adapter's rows of the first pool. -/
def prods : FVec Ideal S128x64 .f32 :=
  Host.reduceAdd (select (broadcastInDim S6x128x64 ![0, 1, 2] bcast_S6x128x1_S6x128x64_0_1_2 (broadcastInDim S6x128x1 ![0, 1] bcast_S6x128_S6x128x1_0_1 (mine A)))
    (transpose S6x128x64 [0, 2, 1] (Host.dotGeneral dot_S6x64x4096_S128x4096_S6x64x128_2_1_01_0_n_n none
      (Host.gather gather_S900x4096_S6x64x1_S6x64x4096_2_0_n_n_0_2_14096 A.a4 (broadcastInDim S6x64x1 ![0, 1] bcast_S6x64_S6x64x1_0_1 (rows A))) (xs A)) transposes_S6x64x128_S6x128x64_0_2_1)
    (broadcastInDim S6x128x64 ![] bcast_S_S6x128x64 (id (constant S_ .f32 0x00000000#32)))) (constant S_ .f32 0x00000000#32) reducesTo_S6x128x64_S128x64_d0 h_S_

/-- The activations. -/
def low : FVec Ideal S128x64 .bf16 :=
  select (cmpi .slt (broadcastInDim S128x64 ![0, 1] bcast_S1x64_S128x64_0_1 (broadcastInDim S1x64 ![1] bcast_S64_S1x64_1 ids))
      (broadcastInDim S128x64 ![0, 1] bcast_S128x1_S128x64_0_1 (broadcastInDim S128x1 ![0] bcast_S128_S128x1_0 (rankOf A))))
    (truncf .bf16 (mulf (prods A) (broadcastInDim S128x64 ![0, 1] bcast_S128x1_S128x64_0_1 (broadcastInDim S128x1 ![0] bcast_S128_S128x1_0 (scaleOf A)))) bitsLt_bf16_f32)
    (broadcastInDim S128x64 ![] bcast_S_S128x64 (constant S_ .bf16 0x0000#16))

/-- What the adapters add. -/
def added : FVec Ideal S128x14336 .f32 :=
  Host.reduceAdd (select (broadcastInDim S6x128x14336 ![0, 1, 2] bcast_S6x128x1_S6x128x14336_0_1_2 (broadcastInDim S6x128x1 ![0, 1] bcast_S6x128_S6x128x1_0_1 (mine A)))
    (transpose S6x128x14336 [0, 2, 1] (Host.dotGeneral dot_S6x64x14336_S128x64_S6x14336x128_1_1_02_0_n_n none
      (Host.gather gather_S900x14336_S6x64x1_S6x64x14336_2_0_n_n_0_2_114336 A.a5 (broadcastInDim S6x64x1 ![0, 1] bcast_S6x64_S6x64x1_0_1 (rows A))) (low A)) transposes_S6x14336x128_S6x128x14336_0_2_1)
    (broadcastInDim S6x128x14336 ![] bcast_S_S6x128x14336 (id (constant S_ .f32 0x00000000#32)))) (constant S_ .f32 0x00000000#32) reducesTo_S6x128x14336_S128x14336_d0 h_S_

/-- One of the eight products of the base: every eighth input channel from the `j`-th, with the words' field at bit `w`. -/
def base (j : ℕ) (w : BitVec 32) (hs : S128x4096.SlicesBy ![0, j] ![1, 8] S128x512) : FVec Ideal S128x14336 .f32 :=
  Host.dotGeneral dot_S128x512_S512x14336_S128x14336_1_0_0_1_n_n none (Host.slice S128x512 ![0, j] ![1, 8] (xs A) hs)
    (mulf (subf (sitofp .bf16 (andi (Host.shrsi A.a1 (broadcastInDim S512x14336 ![] bcast_S_S512x14336 (constantI S_ 32 w))) (broadcastInDim S512x14336 ![] bcast_S_S512x14336 (constantI S_ 32 15#32)))) (spread A.a3)) (spread A.a2))

/-! ## The pieces at an index -/

/-- A select whose condition bit says `p`. -/
theorem sel {α : Type} {p : Prop} [Decidable p] {c : BitVec 1} (h : c = 1#1 ↔ p) (a b : α) : Scalar.select c a b = if p then a else b := by
  show (if c = 1#1 then a else b) = _
  exact if_congr h rfl rfl

theorem toInt_small {n : ℕ} (h : n < 2 ^ 31) : (BitVec.ofNat 32 n).toInt = n := by
  rw [BitVec.toInt_eq_toNat_cond, BitVec.toNat_ofNat]
  split <;> omega

theorem ads_apply (s : Fin 6) : ads A (ValueIdx.ix2 s (0 : Fin 1)) = A.a10 (ValueIdx.ix1 s) :=
  broadcastInDim_apply _ _ _ _ _ fun a => match a with | ⟨0, _⟩ => rfl

/-- A table of the adapters, gathered by the segments' adapters. -/
theorem tab_apply {α : Type} (tab : S11.Idx → α) (s : Fin 6) : Host.gather gather_S11_S6x1_S6_n_0_n_n_0_1_1 tab (ads A) (ValueIdx.ix1 s) = A.at_ tab s := by
  refine (gather_vec (N := 11) (n := 6) (by decide) gather_S11_S6x1_S6_n_0_n_n_0_1_1_wf tab (ads A) s).trans ?_
  unfold Args.at_
  refine congrArg (fun i => tab (ValueIdx.ix1 i)) (Fin.ext ?_)
  show min (ads A (ValueIdx.ix2 s 0)).toInt.toNat (11 - 1) = min (A.a10 (ValueIdx.ix1 s)).toInt.toNat 10
  rw [ads_apply]

theorem mine_apply (s : Fin 6) (t : Fin 128) : mine A (ValueIdx.ix2 s t) = 1#1 ↔ Seg A.off t s := by
  refine IntOp.andi_eq_one.trans (and_congr ?_ ?_)
  · refine IntOp.cmpi_sge.trans ?_
    rw [bcast_trail, bcast_lead]
    show _ ≤ (BitVec.ofNat 32 t.val).toInt ↔ (A.off s.castSucc).toInt ≤ (t.val : ℤ)
    rw [toInt_small (by omega), extractStridedSlice_apply _ _ _ _ (ValueIdx.ix1 s.castSucc) (fun a => match a with | ⟨0, _⟩ => by show s.val = 0 + s.val; omega)]
    rfl
  · refine IntOp.cmpi_slt.trans ?_
    rw [bcast_trail, bcast_lead]
    show (BitVec.ofNat 32 t.val).toInt < _ ↔ (t.val : ℤ) < (A.off s.succ).toInt
    rw [toInt_small (by omega), extractStridedSlice_apply _ _ _ _ (ValueIdx.ix1 s.succ) (fun a => match a with | ⟨0, _⟩ => by show s.val + 1 = 1 + s.val; omega)]
    rfl

theorem mine3_apply {K : ℕ} (h₁ : S6x128.BroadcastsInDim S6x128x1 ![0, 1]) (h₂ : S6x128x1.BroadcastsInDim ⟨3, ![6, 128, K]⟩ ![0, 1, 2]) (s : Fin 6) (t : Fin 128) (k : Fin K) :
    broadcastInDim ⟨3, ![6, 128, K]⟩ ![0, 1, 2] h₂ (broadcastInDim S6x128x1 ![0, 1] h₁ (mine A)) (ValueIdx.ix3 s t k) = 1#1 ↔ Seg A.off t s := by
  rw [broadcastInDim_apply _ _ _ _ (ValueIdx.ix3 s t (0 : Fin 1)) (fun a => match a with | ⟨0, _⟩ => rfl | ⟨1, _⟩ => rfl | ⟨2, _⟩ => rfl),
    broadcastInDim_apply _ _ _ _ (ValueIdx.ix2 s t) (fun a => match a with | ⟨0, _⟩ => rfl | ⟨1, _⟩ => rfl)]
  exact mine_apply A s t

theorem rows_apply (s : Fin 6) (r : Fin 64) : rows A (ValueIdx.ix2 s r) = A.st s + BitVec.ofNat 32 r.val := by
  show IntOp.addi _ _ = _
  rw [bcast_lead, bcast_trail, tab_apply]
  rfl

theorem xs_apply (t : Fin 128) (k : Fin 4096) : xs A (ValueIdx.ix2 t k) = A.X t k := by
  refine shapeCast_apply _ _ (ValueIdx.ix2 t k) (ValueIdx.ix3 (0 : Fin 1) t k) ?_
  rw [Shape.rowMajor_val_three, Shape.rowMajor_val_two]
  show (0 * 128 + t.val) * 4096 + k.val = t.val * 4096 + k.val
  omega

theorem spread_apply (v : FVec Ideal S32x14336 .bf16) (i : Fin 512) (n : Fin 14336) :
    spread v (ValueIdx.ix2 i n) = v (ValueIdx.ix2 (⟨i.val / 16, by omega⟩ : Fin 32) n) := by
  unfold spread
  rw [shapeCast_apply _ _ (ValueIdx.ix2 i n) (ValueIdx.ix3 (⟨i.val / 16, by omega⟩ : Fin 32) (⟨i.val % 16, by omega⟩ : Fin 16) n) (by
    rw [Shape.rowMajor_val_three, Shape.rowMajor_val_two]
    show (i.val / 16 * 16 + i.val % 16) * 14336 + n.val = i.val * 14336 + n.val
    omega)]
  exact broadcastInDim_apply _ _ _ _ _ fun a => match a with | ⟨0, _⟩ => rfl | ⟨1, _⟩ => rfl

/-- Input channel `8 i + j`. -/
def ch (i : Fin 512) (j : Fin 8) : Fin 4096 := ⟨8 * i.val + j.val, by omega⟩

theorem dot_plain : dot_S128x512_S512x14336_S128x14336_1_0_0_1_n_n = DotDims.plain 128 512 14336 := rfl

theorem base_apply (j : Fin 8) (w : BitVec 32) (hw : w = BitVec.ofNat 32 (4 * j.val)) (hs : S128x4096.SlicesBy ![0, j.val] ![1, 8] S128x512) (t : Fin 128) (n : Fin 14336) :
    base A j.val w hs (ValueIdx.ix2 t n) = ∑ i : Fin 512, A.X t (ch i j) * A.wt (ch i j) n := by
  unfold base
  rw [dot_plain]
  refine (StackMember.dotGeneral_plain_apply (m := 128) (k := 512) (n := 14336) none _ _ t n).trans ?_
  refine Finset.sum_congr rfl fun i _ => congrArg₂ (fun a b : EReal => a * b) ?_ ?_
  · refine Eq.trans ?_ (xs_apply A t (ch i j))
    refine congrArg (xs A) (funext fun a => Fin.ext ?_)
    match a with
    | ⟨0, _⟩ => show 0 + 1 * t.val = t.val; omega
    | ⟨1, _⟩ => show j.val + 8 * i.val = 8 * i.val + j.val; omega
  · show ((FloatOps.sitofp .bf16 (IntOp.andi (IntOp.shrsi .host (A.a1 (ValueIdx.ix2 i n)) (broadcastInDim S512x14336 ![] bcast_S_S512x14336 (constantI S_ 32 w) (ValueIdx.ix2 i n)))
        (broadcastInDim S512x14336 ![] bcast_S_S512x14336 (constantI S_ 32 15#32) (ValueIdx.ix2 i n))) : Ideal .bf16) - spread A.a3 (ValueIdx.ix2 i n) : EReal) * spread A.a2 (ValueIdx.ix2 i n) = _
    rw [ValueIdx.broadcastInDim_scalar_apply, ValueIdx.broadcastInDim_scalar_apply, spread_apply, spread_apply]
    unfold Args.wt deq
    have e8 : (ch i j).val / 8 = i.val := by show (8 * i.val + j.val) / 8 = i.val; omega
    have m8 : (ch i j).val % 8 = j.val := by show (8 * i.val + j.val) % 8 = j.val; omega
    have e128 : (ch i j).val / 128 = i.val / 16 := by show (8 * i.val + j.val) / 128 = i.val / 16; omega
    simp only [e8, m8, e128]
    rw [← nib_shrsi (A.a1 (ValueIdx.ix2 i n)) j.val j.isLt w hw]
    rfl

/-- The eight partial sums are the sum over the input channels. -/
theorem sum_ch (f : Fin 4096 → EReal) : ∑ d, f d = ∑ j : Fin 8, ∑ i : Fin 512, f (ch i j) := by
  rw [← Equiv.sum_comp (finProdFinEquiv (m := 512) (n := 8)) f, Fintype.sum_prod_type_right]
  refine Finset.sum_congr rfl fun j _ => Finset.sum_congr rfl fun i _ => congrArg f (Fin.ext ?_)
  show j.val + 8 * i.val = 8 * i.val + j.val
  omega

/-! ## Under the precondition -/

section
variable {A} (hG : A.Good)
include hG

theorem row_val (s : Fin 6) (r : Fin 64) : (A.st s + BitVec.ofNat 32 r.val).toInt.toNat = (A.st s).toNat + r.val := by
  have := (Args.ok hG).st_lt s
  have e : (A.st s + BitVec.ofNat 32 r.val).toNat = (A.st s).toNat + r.val := by
    rw [BitVec.toNat_add, BitVec.toNat_ofNat]; omega
  rw [BitVec.toInt_eq_toNat_cond, e]
  split <;> omega

theorem rows3_apply (s : Fin 6) (r : Fin 64) :
    min (broadcastInDim S6x64x1 ![0, 1] bcast_S6x64_S6x64x1_0_1 (rows A) (ValueIdx.ix3 s r (0 : Fin 1))).toInt.toNat (900 - 1) = (A.st s).toNat + r.val := by
  have := (Args.ok hG).st_lt s
  rw [broadcastInDim_apply _ _ _ _ (ValueIdx.ix2 s r) (fun a => match a with | ⟨0, _⟩ => rfl | ⟨1, _⟩ => rfl), rows_apply, row_val hG]
  omega

theorem poolA_apply (s : Fin 6) (r : Fin 64) (k : Fin 4096) :
    Host.gather gather_S900x4096_S6x64x1_S6x64x4096_2_0_n_n_0_2_14096 A.a4 (broadcastInDim S6x64x1 ![0, 1] bcast_S6x64_S6x64x1_0_1 (rows A)) (ValueIdx.ix3 s r k)
      = A.PA ((A.st s).toNat + r.val) k := by
  have := (Args.ok hG).st_lt s
  refine (gather_pool (N := 900) (C := 4096) (by decide) gather_S900x4096_S6x64x1_S6x64x4096_2_0_n_n_0_2_14096_wf A.a4 _ s r k).trans ?_
  unfold Args.PA
  rw [dif_pos (by omega)]
  exact congrArg (fun i => A.a4 (ValueIdx.ix2 i k)) (Fin.ext (rows3_apply hG s r))

theorem poolB_apply (s : Fin 6) (r : Fin 64) (k : Fin 14336) :
    Host.gather gather_S900x14336_S6x64x1_S6x64x14336_2_0_n_n_0_2_114336 A.a5 (broadcastInDim S6x64x1 ![0, 1] bcast_S6x64_S6x64x1_0_1 (rows A)) (ValueIdx.ix3 s r k)
      = A.PB ((A.st s).toNat + r.val) k := by
  have := (Args.ok hG).st_lt s
  refine (gather_pool (N := 900) (C := 14336) (by decide) gather_S900x14336_S6x64x1_S6x64x14336_2_0_n_n_0_2_114336_wf A.a5 _ s r k).trans ?_
  unfold Args.PB
  rw [dif_pos (by omega)]
  exact congrArg (fun i => A.a5 (ValueIdx.ix2 i k)) (Fin.ext (rows3_apply hG s r))

omit hG in
theorem scaleOf_apply (t : Fin 128) : scaleOf A (ValueIdx.ix1 t) = ∑ s, if Seg A.off t s then A.sc s else 0 := by
  refine (reduceAdd2 (a := 128) _ _ reducesTo_S6x128_S128_d0 h_S_ Ideal.ofBits_zero_f32 t).trans (Finset.sum_congr rfl fun s _ => ?_)
  refine (sel (mine_apply A s t) _ _).trans ?_
  rw [bcast_lead, tab_apply, ValueIdx.broadcastInDim_scalar_apply]
  exact if_congr Iff.rfl rfl Ideal.ofBits_zero_f32

theorem prods_apply (t : Fin 128) (r : Fin 64) :
    prods A (ValueIdx.ix2 t r) = ∑ s, if Seg A.off t s then ∑ k, A.X t k * A.PA ((A.st s).toNat + r.val) k else 0 := by
  refine (reduceAdd3 (a := 128) (b := 64) _ _ reducesTo_S6x128x64_S128x64_d0 h_S_ Ideal.ofBits_zero_f32 t r).trans (Finset.sum_congr rfl fun s _ => ?_)
  refine (sel (mine3_apply A _ _ s t r) _ _).trans ?_
  rw [ValueIdx.broadcastInDim_scalar_apply]
  refine if_congr Iff.rfl ?_ Ideal.ofBits_zero_f32
  refine (ValueIdx.transpose_ix3_021_apply (m := 6) (a := 64) (b := 128) _ _ s t r).trans ?_
  refine (dot_act (K := 4096) dot_S6x64x4096_S128x4096_S6x64x128_2_1_01_0_n_n_wf _ _ s r t).trans ?_
  refine Finset.sum_congr rfl fun k _ => ?_
  rw [poolA_apply hG, xs_apply]
  exact mul_comm _ _

theorem rankOf_some {t : Fin 128} {s : Fin 6} (hs : Seg A.off t s) : rankOf A (ValueIdx.ix1 t) = A.rk s := by
  refine (reduceI2 (a := 128) _ _ reducesTo_S6x128_S128_d0 h_S_ rfl t).trans ((fold_single s fun s' hne => ?_).trans ?_)
  · exact (sel (mine_apply A s' t) _ _).trans (if_neg fun h => hne ((Args.ok hG).unique h hs))
  · refine (sel (mine_apply A s t) _ _).trans ((if_pos hs).trans ?_)
    rw [bcast_lead, tab_apply]
    rfl

omit hG in
theorem rankOf_none {t : Fin 128} (hs : ∀ s, ¬ Seg A.off t s) : rankOf A (ValueIdx.ix1 t) = 0#32 := by
  refine (reduceI2 (a := 128) _ _ reducesTo_S6x128_S128_d0 h_S_ rfl t).trans (fold_zero _ fun s _ => ?_)
  exact (sel (mine_apply A s t) _ _).trans (if_neg (hs s))

theorem low_apply (t : Fin 128) (r : Fin 64) : low A (ValueIdx.ix2 t r) = A.lh t r := by
  have hc : cmpi .slt (broadcastInDim S128x64 ![0, 1] bcast_S1x64_S128x64_0_1 (broadcastInDim S1x64 ![1] bcast_S64_S1x64_1 ids))
      (broadcastInDim S128x64 ![0, 1] bcast_S128x1_S128x64_0_1 (broadcastInDim S128x1 ![0] bcast_S128_S128x1_0 (rankOf A))) (ValueIdx.ix2 t r) = 1#1
      ↔ (r.val : ℤ) < (rankOf A (ValueIdx.ix1 t)).toInt := by
    refine IntOp.cmpi_slt.trans ?_
    rw [bcast_trail, bcast_lead]
    show (BitVec.ofNat 32 r.val).toInt < _ ↔ _
    rw [toInt_small (by omega)]
  refine (sel hc _ _).trans ?_
  rw [ValueIdx.broadcastInDim_scalar_apply]
  refine (if_congr Iff.rfl (show _ = prods A (ValueIdx.ix2 t r) * scaleOf A (ValueIdx.ix1 t) from
    congrArg (fun z : EReal => prods A (ValueIdx.ix2 t r) * z) (bcast_lead _ _ _ t r)) Ideal.ofBits_zero_bf16).trans ?_
  unfold Args.lh lora
  by_cases hs : ∃ s, Seg A.off t s
  · obtain ⟨s, hs⟩ := hs
    rw [sum_seg (Args.ok hG) hs, rankOf_some hG hs, prods_apply hG, scaleOf_apply, sum_seg (Args.ok hG) hs, sum_seg (Args.ok hG) hs]
    rfl
  · have hs : ∀ s, ¬ Seg A.off t s := fun s h => hs ⟨s, h⟩
    rw [sum_none hs, rankOf_none hs]
    exact if_neg (by show ¬ (r.val : ℤ) < 0; omega)

theorem added_apply (t : Fin 128) (n : Fin 14336) : added A (ValueIdx.ix2 t n) = delta A.st A.rk A.off A.sc A.X A.PA A.PB t n := by
  refine (reduceAdd3 (a := 128) (b := 14336) _ _ reducesTo_S6x128x14336_S128x14336_d0 h_S_ Ideal.ofBits_zero_f32 t n).trans (Finset.sum_congr rfl fun s _ => ?_)
  refine (sel (mine3_apply A _ _ s t n) _ _).trans ?_
  rw [ValueIdx.broadcastInDim_scalar_apply]
  by_cases hs : Seg A.off t s
  · rw [if_pos hs, if_pos hs]
    refine (ValueIdx.transpose_ix3_021_apply (m := 6) (a := 14336) (b := 128) _ _ s t n).trans ?_
    refine (dot_out (K := 14336) dot_S6x64x14336_S128x64_S6x14336x128_1_1_02_0_n_n_wf _ _ s n t).trans ?_
    refine Finset.sum_congr rfl fun r _ => ?_
    rw [poolB_apply hG, low_apply hG]
    unfold Args.lh lora
    rw [sum_seg (Args.ok hG) hs]
    exact mul_comm _ _
  · rw [if_neg hs, if_neg hs]
    exact Ideal.ofBits_zero_f32

/-- The whole first result before its last reshape. -/
def whole (A : Args) : FVec Ideal S128x14336 .f32 :=
  addf (addf (addf (addf (addf (addf (addf (addf (base A 0 0#32 slicesBy_S128x4096_S128x512_0s1_0s8) (base A 1 4#32 slicesBy_S128x4096_S128x512_0s1_1s8))
    (base A 2 8#32 slicesBy_S128x4096_S128x512_0s1_2s8)) (base A 3 12#32 slicesBy_S128x4096_S128x512_0s1_3s8)) (base A 4 16#32 slicesBy_S128x4096_S128x512_0s1_4s8))
    (base A 5 20#32 slicesBy_S128x4096_S128x512_0s1_5s8)) (base A 6 24#32 slicesBy_S128x4096_S128x512_0s1_6s8)) (base A 7 28#32 slicesBy_S128x4096_S128x512_0s1_7s8)) (added A)

theorem whole_apply (t : Fin 128) (n : Fin 14336) : whole A (ValueIdx.ix2 t n) = A.y t n := by
  unfold Args.y
  rw [sum_ch, Fin.sum_univ_eight, ← added_apply hG,
    ← base_apply A 0 0#32 rfl slicesBy_S128x4096_S128x512_0s1_0s8, ← base_apply A 1 4#32 rfl slicesBy_S128x4096_S128x512_0s1_1s8,
    ← base_apply A 2 8#32 rfl slicesBy_S128x4096_S128x512_0s1_2s8, ← base_apply A 3 12#32 rfl slicesBy_S128x4096_S128x512_0s1_3s8,
    ← base_apply A 4 16#32 rfl slicesBy_S128x4096_S128x512_0s1_4s8, ← base_apply A 5 20#32 rfl slicesBy_S128x4096_S128x512_0s1_5s8,
    ← base_apply A 6 24#32 rfl slicesBy_S128x4096_S128x512_0s1_6s8, ← base_apply A 7 28#32 rfl slicesBy_S128x4096_S128x512_0s1_7s8]
  rfl

end

/-! ## The run -/

/-- The arguments on core `c`. -/
def args (m : (ℓ : Loc nD τ sig) → Buf (Elt Ideal) ℓ) (c : Dev nD) : Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)

variable (m : (ℓ : Loc nD τ sig) → Buf (Elt Ideal) ℓ) (c : Dev nD)

theorem v135_eq : Value.res_main_v135 (launchContents m c) = whole (args m c) := rfl

/-- What the run leaves in the result buffers. -/
theorem run (ρ : Dev nD → PrngReg) : θ_run defs (onTc (τ := τ) (main (F := Ideal))) ⟨m, fun _ => 0, ρ⟩ fun r => ∀ c : Dev nD,
    r.2.mem ((c.tc : Thread nD τ).loc main_v137) = shapeCast S1x128x14336 (whole (args m c)) shapeCasts_S128x14336_S1x128x14336
    ∧ r.2.mem ((c.tc : Thread nD τ).loc main_v129) = low (args m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  (θ_run defs _ _).mono (fun r h c => ⟨(h c).1.trans rfl, (h c).2.1.trans rfl, (h c).2.2⟩) (Value.run m ρ)

end Cert.Ref

end
-- ==== Proof.Algebraic.lean ====
/-
  The kernel's two results are the reference's: both runs end in the same functions of the arguments.
-/
module

public import proofs.«01_k».proof.Proof.Frames
public import proofs.«01_k».proof.Proof.KI.Result
public import proofs.«01_k».proof.Proof.Ref

@[expose] public section

noncomputable section

namespace Cert.Proof

open Idealize.ShloMosaic Idealize.ShloMosaic.TcCoe Idealize.SL.Sem Cert.Spec

theorem args_ext (A B : Args) (h : A.a0 = B.a0 ∧ A.a1 = B.a1 ∧ A.a2 = B.a2 ∧ A.a3 = B.a3 ∧ A.a4 = B.a4 ∧ A.a5 = B.a5 ∧ A.a6 = B.a6
    ∧ A.a7 = B.a7 ∧ A.a8 = B.a8 ∧ A.a9 = B.a9 ∧ A.a10 = B.a10) : A = B := by
  cases A; cases B
  obtain ⟨h0, h1, h2, h3, h4, h5, h6, h7, h8, h9, h10⟩ := h
  dsimp only at *
  subst_vars
  rfl

theorem whole_eq {A : Args} (h : A.Good) : Cert.Ref.whole A = fun j : (⟨2, ![128, 14336]⟩ : Shape).Idx => A.y (j 0) (j 1) :=
  funext fun j => (congrArg (Cert.Ref.whole A) (ValueIdx.eq_ix2 (n0 := 128) (n1 := 14336) j)).trans (Cert.Ref.whole_apply h (j 0) (j 1))

theorem low_eq {A : Args} (h : A.Good) : Cert.Ref.low A = fun j : (⟨2, ![128, 64]⟩ : Shape).Idx => A.lh (j 0) (j 1) :=
  funext fun j => (congrArg (Cert.Ref.low A) (ValueIdx.eq_ix2 (n0 := 128) (n1 := 64) j)).trans (Cert.Ref.low_apply h (j 0) (j 1))

theorem algebraic : Cert.algebraic_KernelIdeal_ReferenceIdeal := by
  intro m g m' g' hp ha
  have hG : ∀ c, (Cert.KernelIdeal.Hand.args m c).Good := fun c => good_ideal m hp c
  have he : ∀ c, Cert.Ref.args m' c = Cert.KernelIdeal.Hand.args m c := fun c => args_ext _ _ (ha c)
  refine ⟨fun c => shapeCast Cert.KernelIdeal.S1x128x14336 (fun j : Cert.KernelIdeal.S128x14336.Idx => (Cert.KernelIdeal.Hand.args m c).y (j 0) (j 1))
      Cert.KernelIdeal.Facts₀.shapeCasts_S128x14336_S1x128x14336,
    fun c => fun j : Cert.KernelIdeal.S128x64.Idx => (Cert.KernelIdeal.Hand.args m c).lh (j 0) (j 1), Cert.KernelIdeal.Hand.run_values m (Cert.KernelIdeal.Hand.tabOK m (good_ideal m hp)) g hG, ?_⟩
  refine (θ_run _ _ _).mono (fun r h c => ⟨(h c).1.trans ?_, (h c).2.1.trans ?_, (h c).2.2⟩) (Cert.Ref.run m' g')
  · rw [he c, whole_eq (hG c)]
  · rw [he c]
    exact low_eq (hG c)

end Cert.Proof

end
-- ==== Proof.lean ====
/-
  The certificate: the kernel's frames, the reference's frame, the step between the two kernels, and the kernel's two results as the
  reference's.
-/
module

public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_well_formed.Gen.facts,
    frame_bits, frame_ideal, frame_reference, trivial, algebraic⟩

end Cert.Proof

end
